-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_packed [hPre_packed : Cert.Pre_packed.Facts] (m : (ℓ : Loc Cert.PrepIdeal.nD Cert.PrepIdeal.τ Cert.PrepIdeal.sig) → Buf (Elt Ideal) ℓ) : Prop :=
  ∀ c : Dev Cert.PrepIdeal.nD,
    (Cert.Pre_packed.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_packed [hPre_packed : Cert.Pre_packed.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_packed.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))) = (fun _ => 1#1)

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaRefIdeal (m : (ℓ : Loc Cert.MobaRefIdeal.nD Cert.MobaRefIdeal.τ Cert.MobaRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_above [hPre_above : Cert.Pre_above.Facts] (m : (ℓ : Loc Cert.GateIdeal.nD Cert.GateIdeal.τ Cert.GateIdeal.sig) → Buf (Elt Ideal) ℓ) : Prop :=
  ∀ c : Dev Cert.GateIdeal.nD,
    (Cert.Pre_above.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_above [hPre_above : Cert.Pre_above.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_above.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepIdeal_pre_packed [hPrepIdeal : Cert.PrepIdeal.Facts] [hPre_packed : Cert.Pre_packed.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_packed m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_PrepRefIdeal_pre_packed [hPrepRefIdeal : Cert.PrepRefIdeal.Facts] [hPre_packed : Cert.Pre_packed.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_packed m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_above [hGateIdeal : Cert.GateIdeal.Facts] [hPre_above : Cert.Pre_above.Facts] : Prop :=
  ∀ (m : (ℓ : Loc Cert.GateIdeal.nD Cert.GateIdeal.τ Cert.GateIdeal.sig) → Buf (Elt Ideal) ℓ) (g : Dev Cert.GateIdeal.nD → PrngReg), Pre_GateIdeal_above m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_above [hGateRefIdeal : Cert.GateRefIdeal.Facts] [hPre_above : Cert.Pre_above.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_above m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v14) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v11)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v11) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v20) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_2) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v21) = v0 c
          ∧ r.2.mem ((c.tc : Thread Cert.RouteRefIdeal.nD Cert.RouteRefIdeal.τ).loc Cert.RouteRefIdeal.main_v23) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def preserves_Prep_PrepIdeal : Prop :=
  IdealRules.named_const.Statement Cert.PrepIdeal.κ "inv_qk" .f32 0x3BAAAAAB#32 ((1 / 192 : ℝ) : EReal)

def algebraic_PrepIdeal_PrepRefIdeal_pre_packed [hPrepIdeal : Cert.PrepIdeal.Facts] [hPrepRefIdeal : Cert.PrepRefIdeal.Facts] [hPre_packed : Cert.Pre_packed.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_packed m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v57_0)) (v1 : (c : Dev Cert.PrepIdeal.nD) → Buf (Elt Ideal) ((c.tc : Thread Cert.PrepIdeal.nD Cert.PrepIdeal.τ).loc Cert.PrepIdeal.main_v57_1)) (v2 : (c : Dev Cert.PrepIdeal.nD) → Buf (Elt Ideal) ((c.tc : Thread Cert.PrepIdeal.nD Cert.PrepIdeal.τ).loc Cert.PrepIdeal.main_v57_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v57_0) = v0 c
          ∧ r.2.mem ((c.tc : Thread Cert.PrepIdeal.nD Cert.PrepIdeal.τ).loc Cert.PrepIdeal.main_v57_1) = v1 c
          ∧ r.2.mem ((c.tc : Thread Cert.PrepIdeal.nD Cert.PrepIdeal.τ).loc Cert.PrepIdeal.main_v57_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v134) = v0 c
          ∧ r.2.mem ((c.tc : Thread Cert.PrepRefIdeal.nD Cert.PrepRefIdeal.τ).loc Cert.PrepRefIdeal.main_v136) = v1 c
          ∧ r.2.mem ((c.tc : Thread Cert.PrepRefIdeal.nD Cert.PrepRefIdeal.τ).loc Cert.PrepRefIdeal.main_v138) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def preserves_Moba_MobaIdeal : Prop :=
  True

def algebraic_MobaIdeal_MobaRefIdeal [hMobaIdeal : Cert.MobaIdeal.Facts] [hMobaRefIdeal : Cert.MobaRefIdeal.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v2_0)) (v1 : (c : Dev Cert.MobaIdeal.nD) → Buf (Elt Ideal) ((c.tc : Thread Cert.MobaIdeal.nD Cert.MobaIdeal.τ).loc Cert.MobaIdeal.main_v2_1)) (v2 : (c : Dev Cert.MobaIdeal.nD) → Buf (Elt Ideal) ((c.tc : Thread Cert.MobaIdeal.nD Cert.MobaIdeal.τ).loc Cert.MobaIdeal.main_v2_2)) (v3 : (c : Dev Cert.MobaIdeal.nD) → Buf (Elt Ideal) ((c.tc : Thread Cert.MobaIdeal.nD Cert.MobaIdeal.τ).loc Cert.MobaIdeal.main_v2_3)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v2_0) = v0 c
          ∧ r.2.mem ((c.tc : Thread Cert.MobaIdeal.nD Cert.MobaIdeal.τ).loc Cert.MobaIdeal.main_v2_1) = v1 c
          ∧ r.2.mem ((c.tc : Thread Cert.MobaIdeal.nD Cert.MobaIdeal.τ).loc Cert.MobaIdeal.main_v2_2) = v2 c
          ∧ r.2.mem ((c.tc : Thread Cert.MobaIdeal.nD Cert.MobaIdeal.τ).loc Cert.MobaIdeal.main_v2_3) = v3 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v53) = v0 c
          ∧ r.2.mem ((c.tc : Thread Cert.MobaRefIdeal.nD Cert.MobaRefIdeal.τ).loc Cert.MobaRefIdeal.main_v55) = v1 c
          ∧ r.2.mem ((c.tc : Thread Cert.MobaRefIdeal.nD Cert.MobaRefIdeal.τ).loc Cert.MobaRefIdeal.main_v56) = v2 c
          ∧ r.2.mem ((c.tc : Thread Cert.MobaRefIdeal.nD Cert.MobaRefIdeal.τ).loc Cert.MobaRefIdeal.main_v57) = v3 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_Gate_GateIdeal : Prop :=
  IdealRules.named_const.Statement Cert.GateIdeal.κ "cubic" .f32 0x3D122279#32 ((80338380498831 / 2251799813685248 : ℝ) : EReal)

def algebraic_GateIdeal_GateRefIdeal_pre_above [hGateIdeal : Cert.GateIdeal.Facts] [hGateRefIdeal : Cert.GateRefIdeal.Facts] [hPre_above : Cert.Pre_above.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_above m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v4_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v59) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectRefIdeal : Cert.ProjectRefIdeal.Facts) (hLatent : Cert.Latent.Facts) (hLatentIdeal : Cert.LatentIdeal.Facts) (hLatentRefIdeal : Cert.LatentRefIdeal.Facts) (hOut : Cert.Out.Facts) (hOutIdeal : Cert.OutIdeal.Facts) (hOutRefIdeal : Cert.OutRefIdeal.Facts) (hRoute : Cert.Route.Facts) (hRouteIdeal : Cert.RouteIdeal.Facts) (hRouteRefIdeal : Cert.RouteRefIdeal.Facts) (hPrep : Cert.Prep.Facts) (hPrepIdeal : Cert.PrepIdeal.Facts) (hPrepRefIdeal : Cert.PrepRefIdeal.Facts) (hMoba : Cert.Moba.Facts) (hMobaIdeal : Cert.MobaIdeal.Facts) (hMobaRefIdeal : Cert.MobaRefIdeal.Facts) (hGate : Cert.Gate.Facts) (hGateIdeal : Cert.GateIdeal.Facts) (hGateRefIdeal : Cert.GateRefIdeal.Facts) (hPre_finite : Cert.Pre_finite.Facts) (hPre_packed : Cert.Pre_packed.Facts) (hPre_above : Cert.Pre_above.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectRefIdeal (hProjectRefIdeal := hProjectRefIdeal)
    ∧ quiescent_Latent (hLatent := hLatent)
    ∧ quiescent_LatentIdeal (hLatentIdeal := hLatentIdeal)
    ∧ quiescent_LatentRefIdeal (hLatentRefIdeal := hLatentRefIdeal)
    ∧ quiescent_Out (hOut := hOut)
    ∧ quiescent_OutIdeal (hOutIdeal := hOutIdeal)
    ∧ quiescent_OutRefIdeal (hOutRefIdeal := hOutRefIdeal)
    ∧ quiescent_Route (hRoute := hRoute)
    ∧ quiescent_RouteIdeal (hRouteIdeal := hRouteIdeal)
    ∧ quiescent_RouteRefIdeal (hRouteRefIdeal := hRouteRefIdeal)
    ∧ quiescent_Prep (hPrep := hPrep)
    ∧ quiescent_PrepIdeal (hPrepIdeal := hPrepIdeal)
    ∧ quiescent_PrepIdeal_pre_packed (hPrepIdeal := hPrepIdeal) (hPre_packed := hPre_packed)
    ∧ quiescent_PrepRefIdeal (hPrepRefIdeal := hPrepRefIdeal)
    ∧ quiescent_PrepRefIdeal_pre_packed (hPrepRefIdeal := hPrepRefIdeal) (hPre_packed := hPre_packed)
    ∧ quiescent_Moba (hMoba := hMoba)
    ∧ quiescent_MobaIdeal (hMobaIdeal := hMobaIdeal)
    ∧ quiescent_MobaRefIdeal (hMobaRefIdeal := hMobaRefIdeal)
    ∧ quiescent_Gate (hGate := hGate)
    ∧ quiescent_GateIdeal (hGateIdeal := hGateIdeal)
    ∧ quiescent_GateIdeal_pre_above (hGateIdeal := hGateIdeal) (hPre_above := hPre_above)
    ∧ quiescent_GateRefIdeal (hGateRefIdeal := hGateRefIdeal)
    ∧ quiescent_GateRefIdeal_pre_above (hGateRefIdeal := hGateRefIdeal) (hPre_above := hPre_above)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectRefIdeal (hProjectIdeal := hProjectIdeal) (hProjectRefIdeal := hProjectRefIdeal)
    ∧ preserves_Latent_LatentIdeal
    ∧ algebraic_LatentIdeal_LatentRefIdeal (hLatentIdeal := hLatentIdeal) (hLatentRefIdeal := hLatentRefIdeal)
    ∧ preserves_Out_OutIdeal
    ∧ algebraic_OutIdeal_OutRefIdeal (hOutIdeal := hOutIdeal) (hOutRefIdeal := hOutRefIdeal)
    ∧ preserves_Route_RouteIdeal
    ∧ algebraic_RouteIdeal_RouteRefIdeal (hRouteIdeal := hRouteIdeal) (hRouteRefIdeal := hRouteRefIdeal)
    ∧ preserves_Prep_PrepIdeal
    ∧ algebraic_PrepIdeal_PrepRefIdeal_pre_packed (hPrepIdeal := hPrepIdeal) (hPrepRefIdeal := hPrepRefIdeal) (hPre_packed := hPre_packed)
    ∧ preserves_Moba_MobaIdeal
    ∧ algebraic_MobaIdeal_MobaRefIdeal (hMobaIdeal := hMobaIdeal) (hMobaRefIdeal := hMobaRefIdeal)
    ∧ preserves_Gate_GateIdeal
    ∧ algebraic_GateIdeal_GateRefIdeal_pre_above (hGateIdeal := hGateIdeal) (hGateRefIdeal := hGateRefIdeal) (hPre_above := hPre_above)
-- ==== Pre_above.lean ====
abbrev S16384x3072 : Shape := ⟨2, ![16384, 3072]⟩
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩

class Facts : Prop where
  slices_S16384x3072_S16384x1024_0_2048 : S16384x3072.Slices ![0, 2048] S16384x1024
  bcast_S_S16384x1024 : S_.BroadcastsInDim S16384x1024 (![] : Fin 0 → Fin S16384x1024.rank)

variable [Facts]

def fn {F : FTy → Type} [FloatOps F] (main_arg0 : FVec F S16384x3072 .f32) (main_arg1 : FVec F S512 .f32) (main_arg2 : FVec F S512 .f32) (main_arg3 : FVec F S512 .f32) (main_arg4 : FVec F S4x128x128 .f32) (main_arg5 : FVec F S4x128 .f32) : IVec S16384x1024 1 :=
  let main_v0 : FVec F S16384x1024 .f32 := (extractStridedSlice S16384x1024 ![0, 2048] · slices_S16384x3072_S16384x1024_0_2048) main_arg0
  let main_cst : FVec F S_ .f32 := constant S_ .f32 0xFF800000#32
  let main_v1 : FVec F S16384x1024 .f32 := broadcastInDim S16384x1024 ![] bcast_S_S16384x1024 main_cst
  let main_v2 : IVec S16384x1024 1 := cmpf .ogt main_v0 main_v1
  main_v2
-- ==== Pre_finite.lean ====
abbrev S16384x1024 : Shape := ⟨2, ![16384, 1024]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x512 .bf16) : IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : IVec S16384x1024 1 := andi main_v2 main_v5
  main_v6
-- ==== Pre_packed.lean ====
abbrev S16384x2176 : Shape := ⟨2, ![16384, 2176]⟩
abbrev S2x8192 : Shape := ⟨2, ![2, 8192]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S192 : Shape := ⟨1, ![192]⟩
abbrev S_ : Shape := ⟨0, ![]⟩
abbrev S16384x64 : Shape := ⟨2, ![16384, 64]⟩
abbrev S16384x128 : Shape := ⟨2, ![16384, 128]⟩
abbrev S16384x32 : Shape := ⟨2, ![16384, 32]⟩

class Facts : Prop where
  bcast_S_S16384x64 : S_.BroadcastsInDim S16384x64 (![] : Fin 0 → Fin S16384x64.rank)
  slices_S16384x2176_S16384x128_0_1984 : S16384x2176.Slices ![0, 1984] S16384x128
  slices_S16384x2176_S16384x32_0_1952 : S16384x2176.Slices ![0, 1952] S16384x32
  slices_S16384x2176_S16384x32_0_1920 : S16384x2176.Slices ![0, 1920] S16384x32
  concatenates_S16384x64_S16384x32_S16384x32_S16384x128_d1 : Shape.Concatenates [S16384x64, S16384x32, S16384x32] S16384x128 1

variable [Facts]

def fn {F : FTy → Type} [FloatOps F] (main_arg0 : FVec F S16384x2176 .f32) (main_arg1 : IVec S2x8192 32) (main_arg2 : FVec F S256 .f32) (main_arg3 : FVec F S128 .f32) (main_arg4 : FVec F S256x768 .f32) (main_arg5 : FVec F S128x1024 .f32) (main_arg6 : FVec F S192 .f32) (main_arg7 : FVec F S192 .f32) : IVec S16384x128 1 :=
  let main_cst : FVec F S_ .f32 := constant S_ .f32 0x00000000#32
  let main_v0 : FVec F S16384x64 .f32 := broadcastInDim S16384x64 ![] bcast_S_S16384x64 main_cst
  let main_v1 : FVec F S16384x128 .f32 := (extractStridedSlice S16384x128 ![0, 1984] · slices_S16384x2176_S16384x128_0_1984) main_arg0
  let main_v2 : FVec F S16384x32 .f32 := (extractStridedSlice S16384x32 ![0, 1952] · slices_S16384x2176_S16384x32_0_1952) main_arg0
  let main_v3 : FVec F S16384x32 .f32 := (extractStridedSlice S16384x32 ![0, 1920] · slices_S16384x2176_S16384x32_0_1920) main_arg0
  let main_v4 : FVec F S16384x128 .f32 := concatenate S16384x128 1 [⟨S16384x64, main_v0⟩, ⟨S16384x32, main_v2⟩, ⟨S16384x32, main_v3⟩] concatenates_S16384x64_S16384x32_S16384x32_S16384x128_d1
  let main_v5 : IVec S16384x128 1 := cmpf .oeq main_v1 main_v4
  main_v5
-- ==== Kernel.lean ====
abbrev S16384x1024 : Shape := ⟨2, ![16384, 1024]⟩
abbrev S16384x512 : Shape := ⟨2, ![16384, 512]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let c1_i32_5 : BitVec 32 := 1#32
  ⟨c0_i32, v13, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c512_i32 : BitVec 32 := 512#32
  let v19 : BitVec 32 := Scalar.muli arg7 c512_i32
  v19
def k0_off1 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c512_i32 : BitVec 32 := 512#32
  let v19 : BitVec 32 := Scalar.muli arg7 c512_i32
  let v20 : BitVec 32 := v19
  let v26 : Index := Scalar.indexCast v20
  let c0_11 : Index := 0#32
  ![v26.toNat, 0]
def k0_mult2 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c512_i32_14 : BitVec 32 := 512#32
  let v31 : BitVec 32 := Scalar.muli arg7 c512_i32_14
  v31
def k0_off2 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c512_i32_14 : BitVec 32 := 512#32
  let v31 : BitVec 32 := Scalar.muli arg7 c512_i32_14
  let v32 : BitVec 32 := v31
  let v33 : Index := Scalar.indexCast v32
  let c0_15 : Index := 0#32
  ![v33.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let v10 : BitVec 32 := Scalar.addi c0_i32 v9
  let c1_i32_6 : BitVec 32 := 1#32
  ⟨v13, v10, c1_i32_6⟩
def k0_mult3 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let c1_i32_6 : BitVec 32 := 1#32
  let arg7 : BitVec 32 := Scf.iv v13 c1_i32_6 k0_t2
  let c512_i32 : BitVec 32 := 512#32
  let v19 : BitVec 32 := Scalar.muli arg7 c512_i32
  v19
def k0_off3 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let c1_i32_6 : BitVec 32 := 1#32
  let arg7 : BitVec 32 := Scf.iv v13 c1_i32_6 k0_t2
  let c512_i32 : BitVec 32 := 512#32
  let v19 : BitVec 32 := Scalar.muli arg7 c512_i32
  let v20 : BitVec 32 := v19
  let v26 : Index := Scalar.indexCast v20
  let c0_11 : Index := 0#32
  ![v26.toNat, 0]
def k0_mult4 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let c1_i32_6 : BitVec 32 := 1#32
  let arg7 : BitVec 32 := Scf.iv v13 c1_i32_6 k0_t2
  let c512_i32_14 : BitVec 32 := 512#32
  let v31 : BitVec 32 := Scalar.muli arg7 c512_i32_14
  v31
def k0_off4 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v4 : BitVec 32 := Scalar.addi arg2 c1_i32
  let c1_i32_1 : BitVec 32 := 1#32
  let v5 : BitVec 32 := Scalar.muli v4 c1_i32_1
  let v9 : BitVec 32 := Scalar.subi v5 c0_i32
  let c1_i32_4 : BitVec 32 := 1#32
  let v11 : BitVec 32 := Scalar.divsi v9 c1_i32_4
  let v12 : BitVec 32 := Scalar.muli v11 c1_i32_4
  let v13 : BitVec 32 := Scalar.addi c0_i32 v12
  let c1_i32_6 : BitVec 32 := 1#32
  let arg7 : BitVec 32 := Scf.iv v13 c1_i32_6 k0_t2
  let c512_i32_14 : BitVec 32 := 512#32
  let v31 : BitVec 32 := Scalar.muli arg7 c512_i32_14
  let v32 : BitVec 32 := v31
  let v33 : Index := Scalar.indexCast v32
  let c0_15 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S16384x512 : Shape := ⟨2, ![16384, 512]⟩
abbrev S2x8192x4x256 : Shape := ⟨4, ![2, 8192, 4, 256]⟩
abbrev S2x4x8192x256 : Shape := ⟨4, ![2, 4, 8192, 256]⟩
abbrev S2x8192x4x128 : Shape := ⟨4, ![2, 8192, 4, 128]⟩
abbrev S2x4x8192x128 : Shape := ⟨4, ![2, 4, 8192, 128]⟩
abbrev S2x4x8192x8192 : Shape := ⟨4, ![2, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x8192 : Shape := ⟨3, ![2, 4, 8192]⟩
abbrev S2x4x8192x1 : Shape := ⟨4, ![2, 4, 8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S2x8192x4x256, .f32⟩
  | .hbm, ⟨5, _⟩ => ⟨S2x4x8192x256, .f32⟩
  | .hbm, ⟨6, _⟩ => ⟨S16384x1024, .f32⟩
  | .hbm, ⟨7, _⟩ => ⟨S2x8192x4x256, .f32⟩
  | .hbm, ⟨8, _⟩ => ⟨S2x4x8192x256, .f32⟩
  | .hbm, ⟨9, _⟩ => ⟨S16384x512, .f32⟩
  | .hbm, ⟨10, _⟩ => ⟨S2x8192x4x128, .f32⟩
  | .hbm, ⟨11, _⟩ => ⟨S2x4x8192x128, .f32⟩
  | .hbm, ⟨12, _⟩ => ⟨S2x4x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S2x4x8192x8192, .i1⟩
  | .hbm, ⟨22, _⟩ => ⟨S2x4x8192x8192, .f32⟩
  | .hbm, ⟨23, _⟩ => ⟨S2x4x8192x8192, .f32⟩
  | .hbm, ⟨24, _⟩ => ⟨S_, .f32⟩
  | .hbm, ⟨25, _⟩ => ⟨S2x4x8192, .f32⟩
  | .hbm, ⟨26, _⟩ => ⟨S_, .f32⟩
  | .hbm, ⟨27, _⟩ => ⟨S2x4x8192, .f32⟩
  | .hbm, ⟨28, _⟩ => ⟨S2x4x8192, .f32⟩
  | .hbm, ⟨29, _⟩ => ⟨S2x4x8192x1, .f32⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S_, .f32⟩
  | .hbm, ⟨34, _⟩ => ⟨S2x4x8192, .f32⟩
  | .hbm, ⟨35, _⟩ => ⟨S2x4x8192x1, .f32⟩
  | .hbm, ⟨36, _⟩ => ⟨S2x4x8192x8192, .f32⟩
  | .hbm, ⟨37, _⟩ => ⟨S2x4x8192x8192, .f32⟩
  | .hbm, ⟨38, _⟩ => ⟨S2x4x8192x128, .f32⟩
  | .hbm, ⟨39, _⟩ => ⟨S2x8192x4x128, .f32⟩
  | .hbm, ⟨40, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Project.lean ====
abbrev S2x8192x1024 : Shape := ⟨3, ![2, 8192, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S1x1024, .f32⟩
  | .hbm, ⟨6, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectRefIdeal.lean ====
abbrev S2x8192x1024 : Shape := ⟨3, ![2, 8192, 1024]⟩
abbrev S1024 : Shape := ⟨1, ![1024]⟩
abbrev S1024x3072 : Shape := ⟨2, ![1024, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3072, .f32⟩
  | .hbm, ⟨20, _⟩ => ⟨S16384x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Latent.lean ====
abbrev S16384x1024 : Shape := ⟨2, ![16384, 1024]⟩
abbrev S1024 : Shape := ⟨1, ![1024]⟩
abbrev S1024x1984 : Shape := ⟨2, ![1024, 1984]⟩
abbrev S1024x64 : Shape := ⟨2, ![1024, 64]⟩
abbrev S1024x1536 : Shape := ⟨2, ![1024, 1536]⟩
abbrev S1024x384 : Shape := ⟨2, ![1024, 384]⟩
abbrev S_ : Shape := ⟨0, ![]⟩
abbrev S1024x128 : Shape := ⟨2, ![1024, 128]⟩
abbrev S1024x32 : Shape := ⟨2, ![1024, 32]⟩
abbrev S1024x2176 : Shape := ⟨2, ![1024, 2176]⟩
abbrev S1x1024 : Shape := ⟨2, ![1, 1024]⟩
abbrev S16384x2176 : Shape := ⟨2, ![16384, 2176]⟩
abbrev S512x1024 : Shape := ⟨2, ![512, 1024]⟩
abbrev S512x2176 : Shape := ⟨2, ![512, 2176]⟩
abbrev S512 : Shape := ⟨1, ![512]⟩
abbrev S512x1 : Shape := ⟨2, ![512, 1]⟩

abbrev nBuf : Space → Nat
  | .hbm => 19
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1984, .f32⟩
  | .hbm, ⟨3, _⟩ => ⟨S1024x64, .f32⟩
  | .hbm, ⟨4, _⟩ => ⟨S1024x1536, .f32⟩
  | .hbm, ⟨5, _⟩ => ⟨S1024x384, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x32, .f32⟩
  | .hbm, ⟨10, _⟩ => ⟨S1024x32, .f32⟩
  | .hbm, ⟨11, _⟩ => ⟨S1024x64, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2176, .f32⟩
  | .hbm, ⟨16, _⟩ => ⟨S1024x2176, .bf16⟩
  | .hbm, ⟨17, _⟩ => ⟨S1x1024, .f32⟩
  | .hbm, ⟨18, _⟩ => ⟨S16384x2176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LatentRefIdeal.lean ====
abbrev S16384x1024 : Shape := ⟨2, ![16384, 1024]⟩
abbrev S1024 : Shape := ⟨1, ![1024]⟩
abbrev S1024x1984 : Shape := ⟨2, ![1024, 1984]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1984 : Shape := ⟨2, ![16384, 1984]⟩
abbrev S16384x384 : Shape := ⟨2, ![16384, 384]⟩
abbrev S16384x64 : Shape := ⟨2, ![16384, 64]⟩
abbrev S16384x1536 : Shape := ⟨2, ![16384, 1536]⟩
abbrev S16384x32 : Shape := ⟨2, ![16384, 32]⟩
abbrev S16384x2176 : Shape := ⟨2, ![16384, 2176]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1984, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1984, .f32⟩
  | .hbm, ⟨20, _⟩ => ⟨S16384x384, .f32⟩
  | .hbm, ⟨21, _⟩ => ⟨S16384x64, .f32⟩
  | .hbm, ⟨22, _⟩ => ⟨S16384x1536, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x64, .f32⟩
  | .hbm, ⟨27, _⟩ => ⟨S16384x2176, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S2x8192x1024 : Shape := ⟨3, ![2, 8192, 1024]⟩
abbrev S16384x512 : Shape := ⟨2, ![16384, 512]⟩
abbrev S1024x1024 : Shape := ⟨2, ![1024, 1024]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024x1024, .bf16⟩
  | .hbm, ⟨5, _⟩ => ⟨S16384x1024, .f32⟩
  | .hbm, ⟨6, _⟩ => ⟨S512x1024, .bf16⟩
  | .hbm, ⟨7, _⟩ => ⟨S512x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2x8192x1024 : Shape := ⟨3, ![2, 8192, 1024]⟩
abbrev S16384x512 : Shape := ⟨2, ![16384, 512]⟩
abbrev S1024x1024 : Shape := ⟨2, ![1024, 1024]⟩
abbrev S2x8192x512 : Shape := ⟨3, ![2, 8192, 512]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S2x8192x512, .f32⟩
  | .hbm, ⟨5, _⟩ => ⟨S2x8192x512, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Route.lean ====
abbrev S16384x1024 : Shape := ⟨2, ![16384, 1024]⟩
abbrev S1024 : Shape := ⟨1, ![1024]⟩
abbrev S1024x2048 : Shape := ⟨2, ![1024, 2048]⟩
abbrev S8x2x128x128 : Shape := ⟨4, ![8, 2, 128, 128]⟩
abbrev S1x1024 : Shape := ⟨2, ![1, 1024]⟩
abbrev S1024x16384 : Shape := ⟨2, ![1024, 16384]⟩
abbrev S8x128x128x128 : Shape := ⟨4, ![8, 128, 128, 128]⟩
abbrev S512x1024 : Shape := ⟨2, ![512, 1024]⟩
abbrev S1x2x128x128 : Shape := ⟨4, ![1, 2, 128, 128]⟩
abbrev S1024x512 : Shape := ⟨2, ![1024, 512]⟩
abbrev S1x4x128x128 : Shape := ⟨4, ![1, 4, 128, 128]⟩
abbrev S16x512x128 : Shape := ⟨3, ![16, 512, 128]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x512x128 : Shape := ⟨3, ![1, 512, 128]⟩
abbrev S1x1x128x128 : Shape := ⟨4, ![1, 1, 128, 128]⟩
abbrev S128x128 : Shape := ⟨2, ![128, 128]⟩
abbrev S128x512 : Shape := ⟨2, ![128, 512]⟩
abbrev S8x128 : Shape := ⟨2, ![8, 128]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S1024x2048, .bf16⟩
  | .hbm, ⟨5, _⟩ => ⟨S8x2x128x128, .bf16⟩
  | .hbm, ⟨6, _⟩ => ⟨S1x1024, .f32⟩
  | .hbm, ⟨7, _⟩ => ⟨S1024x16384, .bf16⟩
  | .hbm, ⟨8, _⟩ => ⟨S8x128x128x128, .f32⟩
  | .hbm, ⟨9, _⟩ => ⟨S8x128x128x128, .f32⟩
  | .hbm, ⟨10, _⟩ => ⟨S8x128x128x128, .f32⟩
  | .hbm, ⟨11, _⟩ => ⟨S8x128x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2x128x128, .bf16⟩
  | .local _ .vmem, ⟨5, _⟩ => ⟨S1x2x128x128, .bf16⟩
  | .local _ .vmem, ⟨6, _⟩ => ⟨S1024x512, .bf16⟩
  | .local _ .vmem, ⟨7, _⟩ => ⟨S1024x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x4x128x128, .f32⟩
  | .local _ .vmem, ⟨13, _⟩ => ⟨S1x4x128x128, .f32⟩
  | .local _ .vmem, ⟨14, _⟩ => ⟨S1x4x128x128, .f32⟩
  | .local _ .vmem, ⟨15, _⟩ => ⟨S1x4x128x128, .f32⟩
  | .local _ .vmem, ⟨16, _⟩ => ⟨S16x512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let c2_i32 : BitVec 32 := 2#32
  let arg1 : BitVec 32 := BitVec.ofNat 32 (i 1).val
  let v5 : BitVec 32 := Scalar.muli c2_i32 arg1
  let v6 : Index := Scalar.indexCast v5
  let c0_4 : Index := 0#32
  let c0_5 : Index := 0#32
  ![v6.toNat, 0, 0]
def k0_off2 (i : grid0.Coords) : Fin 3 → Nat :=
  let c2_i32_9 : BitVec 32 := 2#32
  let arg1 : BitVec 32 := BitVec.ofNat 32 (i 1).val
  let v12 : BitVec 32 := Scalar.muli c2_i32_9 arg1
  let c1_i32 : BitVec 32 := 1#32
  let v13 : BitVec 32 := Scalar.addi v12 c1_i32
  let v14 : Index := Scalar.indexCast v13
  let c0_10 : Index := 0#32
  let c0_11 : Index := 0#32
  ![v14.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RouteRefIdeal.lean ====
abbrev S16384x1024 : Shape := ⟨2, ![16384, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x1x128x128 : Shape := ⟨4, ![8, 1, 128, 128]⟩
abbrev S8x128x128 : Shape := ⟨3, ![8, 128, 128]⟩
abbrev S8x16384x128 : Shape := ⟨3, ![8, 16384, 128]⟩
abbrev S1024x16384 : Shape := ⟨2, ![1024, 16384]⟩
abbrev S8x128x128x128 : Shape := ⟨4, ![8, 128, 128, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2048, .f32⟩
  | .hbm, ⟨21, _⟩ => ⟨S16384x8x2x128, .f32⟩
  | .hbm, ⟨22, _⟩ => ⟨S16384x8x1x128, .f32⟩
  | .hbm, ⟨23, _⟩ => ⟨S16384x8x128, .f32⟩
  | .hbm, ⟨24, _⟩ => ⟨S8x1x128x128, .f32⟩
  | .hbm, ⟨25, _⟩ => ⟨S8x128x128, .f32⟩
  | .hbm, ⟨26, _⟩ => ⟨S8x16384x128, .f32⟩
  | .hbm, ⟨27, _⟩ => ⟨S1024x16384, .f32⟩
  | .hbm, ⟨28, _⟩ => ⟨S1024x16384, .bf16⟩
  | .hbm, ⟨29, _⟩ => ⟨S8x128x128x128, .f32⟩
  | .hbm, ⟨30, _⟩ => ⟨S8x128x128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Prep.lean ====
abbrev S16384x2176 : Shape := ⟨2, ![16384, 2176]⟩
abbrev S2x8192 : Shape := ⟨2, ![2, 8192]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S192 : Shape := ⟨1, ![192]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S256x4x192 : Shape := ⟨3, ![256, 4, 192]⟩
abbrev S256x4x128 : Shape := ⟨3, ![256, 4, 128]⟩
abbrev S256x4x64 : Shape := ⟨3, ![256, 4, 64]⟩
abbrev S256x4x32 : Shape := ⟨3, ![256, 4, 32]⟩
abbrev S256x4x384 : Shape := ⟨3, ![256, 4, 384]⟩
abbrev S256x1536 : Shape := ⟨2, ![256, 1536]⟩
abbrev S1x256 : Shape := ⟨2, ![1, 256]⟩
abbrev S1x128 : Shape := ⟨2, ![1, 128]⟩
abbrev S64 : Shape := ⟨1, ![64]⟩
abbrev S3x128 : Shape := ⟨2, ![3, 128]⟩
abbrev S16384x1024 : Shape := ⟨2, ![16384, 1024]⟩
abbrev S16384x512 : Shape := ⟨2, ![16384, 512]⟩
abbrev S256x256 : Shape := ⟨2, ![256, 256]⟩
abbrev S256x128 : Shape := ⟨2, ![256, 128]⟩
abbrev S256x1024 : Shape := ⟨2, ![256, 1024]⟩
abbrev S256x512 : Shape := ⟨2, ![256, 512]⟩
abbrev S256x1 : Shape := ⟨2, ![256, 1]⟩

abbrev nBuf : Space → Nat
  | .hbm => 83
  | .vmem => 24
  | .smem => 0
  | _ => 0

abbrev bufTy : (tb : Table) → Fin (tcTables nBuf tb) → BufTy
  | .hbm, ⟨0, _⟩ => ⟨S16384x2176, .f32⟩
  | .hbm, ⟨1, _⟩ => ⟨S2x8192, .i32⟩
  | .hbm, ⟨2, _⟩ => ⟨S256, .f32⟩
  | .hbm, ⟨3, _⟩ => ⟨S128, .f32⟩
  | .hbm, ⟨4, _⟩ => ⟨S256x768, .f32⟩
  | .hbm, ⟨5, _⟩ => ⟨S128x1024, .f32⟩
  | .hbm, ⟨6, _⟩ => ⟨S192, .f32⟩
  | .hbm, ⟨7, _⟩ => ⟨S192, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384x1, .i32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S_, .f32⟩
  | .hbm, ⟨23, _⟩ => ⟨S16384x64, .f32⟩
  | .hbm, ⟨24, _⟩ => ⟨S16384x32, .f32⟩
  | .hbm, ⟨25, _⟩ => ⟨S16384x32, .f32⟩
  | .hbm, ⟨26, _⟩ => ⟨S16384x128, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x128, .f32⟩
  | .hbm, ⟨31, _⟩ => ⟨S256x4x192, .f32⟩
  | .hbm, ⟨32, _⟩ => ⟨S256x4x128, .f32⟩
  | .hbm, ⟨33, _⟩ => ⟨S256x4x64, .f32⟩
  | .hbm, ⟨34, _⟩ => ⟨S_, .i32⟩
  | .hbm, ⟨35, _⟩ => ⟨S_, .f32⟩
  | .hbm, ⟨36, _⟩ => ⟨S256x4x128, .f32⟩
  | .hbm, ⟨37, _⟩ => ⟨S256x4x64, .f32⟩
  | .hbm, ⟨38, _⟩ => ⟨S256x4x32, .f32⟩
  | .hbm, ⟨39, _⟩ => ⟨S256x4x32, .f32⟩
  | .hbm, ⟨40, _⟩ => ⟨S256x4x64, .f32⟩
  | .hbm, ⟨41, _⟩ => ⟨S_, .i32⟩
  | .hbm, ⟨42, _⟩ => ⟨S_, .f32⟩
  | .hbm, ⟨43, _⟩ => ⟨S256x4x128, .f32⟩
  | .hbm, ⟨44, _⟩ => ⟨S256x4x384, .f32⟩
  | .hbm, ⟨45, _⟩ => ⟨S256x1536, .f32⟩
  | .hbm, ⟨46, _⟩ => ⟨S256x1536, .bf16⟩
  | .hbm, ⟨47, _⟩ => ⟨S1x256, .f32⟩
  | .hbm, ⟨48, _⟩ => ⟨S1x128, .f32⟩
  | .hbm, ⟨49, _⟩ => ⟨S128x1024, .bf16⟩
  | .hbm, ⟨50, _⟩ => ⟨S64, .f32⟩
  | .hbm, ⟨51, _⟩ => ⟨S128, .f32⟩
  | .hbm, ⟨52, _⟩ => ⟨S_, .i32⟩
  | .hbm, ⟨53, _⟩ => ⟨S_, .f32⟩
  | .hbm, ⟨54, _⟩ => ⟨S128, .f32⟩
  | .hbm, ⟨55, _⟩ => ⟨S32, .f32⟩
  | .hbm, ⟨56, _⟩ => ⟨S32, .f32⟩
  | .hbm, ⟨57, _⟩ => ⟨S64, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S3x128, .f32⟩
  | .hbm, ⟨65, _⟩ => ⟨S64, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S32, .f32⟩
  | .hbm, ⟨71, _⟩ => ⟨S32, .f32⟩
  | .hbm, ⟨72, _⟩ => ⟨S64, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S3x128, .f32⟩
  | .hbm, ⟨80, _⟩ => ⟨S16384x1024, .bf16⟩
  | .hbm, ⟨81, _⟩ => ⟨S16384x1024, .bf16⟩
  | .hbm, ⟨82, _⟩ => ⟨S16384x512, .bf16⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256, .f32⟩
  | .local _ .vmem, ⟨13, _⟩ => ⟨S1x128, .f32⟩
  | .local _ .vmem, ⟨14, _⟩ => ⟨S256x1536, .bf16⟩
  | .local _ .vmem, ⟨15, _⟩ => ⟨S128x1024, .bf16⟩
  | .local _ .vmem, ⟨16, _⟩ => ⟨S3x128, .f32⟩
  | .local _ .vmem, ⟨17, _⟩ => ⟨S3x128, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_call1_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_3 : Ref sig .tc := ⟨.hbm, 52, rfl⟩
abbrev main_call2_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_call3_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_5 : Ref sig .tc := ⟨.hbm, 67, rfl⟩
abbrev main_call4_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_6 : Ref sig .tc := ⟨.hbm, 73, rfl⟩
abbrev main_call5_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57_0 : Ref sig .tc := ⟨.hbm, 80, rfl⟩
abbrev main_v57_1 : Ref sig .tc := ⟨.hbm, 81, rfl⟩
abbrev main_v57_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PrepIdeal.lean ====
variable {F : FTy → Type} [FloatOps F] [Named F]
def κ : String → Option EReal := fun
  | "inv_qk" => some ((1 / 192 : ℝ) : EReal)
  | _ => none
-- ==== PrepRefIdeal.lean ====
abbrev S16384x2176 : Shape := ⟨2, ![16384, 2176]⟩
abbrev S2x8192 : Shape := ⟨2, ![2, 8192]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S192 : Shape := ⟨1, ![192]⟩
abbrev S16384x256 : Shape := ⟨2, ![16384, 256]⟩
abbrev S16384x128 : Shape := ⟨2, ![16384, 128]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S16384x768 : Shape := ⟨2, ![16384, 768]⟩
abbrev S16384x4x192 : Shape := ⟨3, ![16384, 4, 192]⟩
abbrev S1x128 : Shape := ⟨2, ![1, 128]⟩
abbrev S16384x1024 : Shape := ⟨2, ![16384, 1024]⟩
abbrev S16384x4x256 : Shape := ⟨3, ![16384, 4, 256]⟩
abbrev S16384x4x128 : Shape := ⟨3, ![16384, 4, 128]⟩
abbrev S16384x1x64 : Shape := ⟨3, ![16384, 1, 64]⟩
abbrev S16384x4x64 : Shape := ⟨3, ![16384, 4, 64]⟩
abbrev S16384x4 : Shape := ⟨2, ![16384, 4]⟩
abbrev S16384x4x1 : Shape := ⟨3, ![16384, 4, 1]⟩
abbrev S1x1x192 : Shape := ⟨3, ![1, 1, 192]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x4x32 : Shape := ⟨3, ![16384, 4, 32]⟩
abbrev S16384x512 : Shape := ⟨2, ![16384, 512]⟩

abbrev nBuf : Space → Nat
  | .hbm => 165
  | .vmem => 0
  | .smem => 0
  | _ => 0

abbrev hbmTy0_0 (i : Nat) : BufTy := match i % 128 with
  | 0 => ⟨S16384x2176, .f32⟩
  | 1 => ⟨S2x8192, .i32⟩
  | 2 => ⟨S256, .f32⟩
  | 3 => ⟨S128, .f32⟩
  | 4 => ⟨S256x768, .f32⟩
  | 5 => ⟨S128x1024, .f32⟩
  | 6 => ⟨S192, .f32⟩
  | 7 => ⟨S192, .f32⟩
  | 8 => ⟨S16384x256, .f32⟩
  | 9 => ⟨S16384x128, .f32⟩
  | 10 => ⟨S16384x64, .f32⟩
  | 11 => ⟨S16384x256, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x256, .f32⟩
  | 23 => ⟨S16384x256, .f32⟩
  | 24 => ⟨S1x256, .f32⟩
  | 25 => ⟨S16384x256, .f32⟩
  | 26 => ⟨S16384x256, .f32⟩
  | 27 => ⟨S16384x768, .f32⟩
  | 28 => ⟨S16384x4x192, .f32⟩
  | 29 => ⟨S16384x128, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x128, .f32⟩
  | 41 => ⟨S16384x128, .f32⟩
  | 42 => ⟨S1x128, .f32⟩
  | 43 => ⟨S16384x128, .f32⟩
  | 44 => ⟨S16384x128, .f32⟩
  | 45 => ⟨S16384x1024, .f32⟩
  | 46 => ⟨S16384x4x256, .f32⟩
  | 47 => ⟨S16384x4x128, .f32⟩
  | 48 => ⟨S16384x1x64, .f32⟩
  | 49 => ⟨S16384x4x64, .f32⟩
  | 50 => ⟨S16384x4x192, .f32⟩
  | 51 => ⟨S16384x4x128, .f32⟩
  | 52 => ⟨S16384x4x192, .f32⟩
  | 53 => ⟨S_, .f32⟩
  | 54 => ⟨S16384x4, .f32⟩
  | 55 => ⟨S16384x4x1, .f32⟩
  | 56 => ⟨S_, .f32⟩
  | 57 => ⟨S16384x4x1, .f32⟩
  | 58 => ⟨S16384x4x1, .f32⟩
  | 59 => ⟨S_, .f32⟩
  | 60 => ⟨S16384x4x1, .f32⟩
  | 61 => ⟨S16384x4x1, .f32⟩
  | 62 => ⟨S16384x4x1, .f32⟩
  | 63 => ⟨S16384x4x192, .f32⟩
  | 64 => ⟨S16384x4x192, .f32⟩
  | 65 => ⟨S1x1x192, .f32⟩
  | 66 => ⟨S16384x4x192, .f32⟩
  | 67 => ⟨S16384x4x192, .f32⟩
  | 68 => ⟨S16384x4x192, .f32⟩
  | 69 => ⟨S_, .f32⟩
  | 70 => ⟨S16384x4, .f32⟩
  | 71 => ⟨S16384x4x1, .f32⟩
  | 72 => ⟨S_, .f32⟩
  | 73 => ⟨S16384x4x1, .f32⟩
  | 74 => ⟨S16384x4x1, .f32⟩
  | 75 => ⟨S_, .f32⟩
  | 76 => ⟨S16384x4x1, .f32⟩
  | 77 => ⟨S16384x4x1, .f32⟩
  | 78 => ⟨S16384x4x1, .f32⟩
  | 79 => ⟨S16384x4x192, .f32⟩
  | 80 => ⟨S16384x4x192, .f32⟩
  | 81 => ⟨S1x1x192, .f32⟩
  | 82 => ⟨S16384x4x192, .f32⟩
  | 83 => ⟨S16384x4x192, .f32⟩
  | 84 => ⟨S_, .f32⟩
  | 85 => ⟨S16384x4x64, .f32⟩
  | 86 => ⟨S16384x4x128, .f32⟩
  | 87 => ⟨S16384x4x64, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S16384, .i32⟩
  | 97 => ⟨S16384, .f32⟩
  | 98 => ⟨S16384x1, .f32⟩
  | 99 => ⟨S1x32, .f32⟩
  | 100 => ⟨S16384x32, .f32⟩
  | 101 => ⟨S16384x32, .f32⟩
  | 102 => ⟨S16384x32, .f32⟩
  | 103 => ⟨S16384x32, .f32⟩
  | 104 => ⟨S16384x1x32, .f32⟩
  | 105 => ⟨S16384x32, .f32⟩
  | 106 => ⟨S16384x1x32, .f32⟩
  | 107 => ⟨S16384x4x32, .f32⟩
  | 108 => ⟨S16384x4x32, .f32⟩
  | 109 => ⟨S16384x4x32, .f32⟩
  | 110 => ⟨S16384x4x32, .f32⟩
  | 111 => ⟨S16384x4x32, .f32⟩
  | 112 => ⟨S16384x4x32, .f32⟩
  | 113 => ⟨S16384x4x32, .f32⟩
  | 114 => ⟨S16384x4x32, .f32⟩
  | 115 => ⟨S16384x4x32, .f32⟩
  | 116 => ⟨S16384x4x32, .f32⟩
  | 117 => ⟨S16384x4x32, .f32⟩
  | 118 => ⟨S16384x4x32, .f32⟩
  | 119 => ⟨S16384x4x64, .f32⟩
  | 120 => ⟨S16384x4x256, .f32⟩
  | 121 => ⟨S_, .f32⟩
  | 122 => ⟨S16384x4x256, .f32⟩
  | 123 => ⟨S16384x4x256, .f32⟩
  | 124 => ⟨S16384x4x128, .f32⟩
  | 125 => ⟨S16384x4x64, .f32⟩
  | 126 => ⟨S32, .f32⟩
  | 127 => ⟨S32, .f32⟩
  | _ => ⟨S16384x2176, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S16384, .i32⟩
  | 7 => ⟨S16384, .f32⟩
  | 8 => ⟨S16384x1, .f32⟩
  | 9 => ⟨S1x32, .f32⟩
  | 10 => ⟨S16384x32, .f32⟩
  | 11 => ⟨S16384x32, .f32⟩
  | 12 => ⟨S16384x32, .f32⟩
  | 13 => ⟨S16384x32, .f32⟩
  | 14 => ⟨S16384x1x32, .f32⟩
  | 15 => ⟨S16384x32, .f32⟩
  | 16 => ⟨S16384x1x32, .f32⟩
  | 17 => ⟨S16384x4x32, .f32⟩
  | 18 => ⟨S16384x4x32, .f32⟩
  | 19 => ⟨S16384x4x32, .f32⟩
  | 20 => ⟨S16384x4x32, .f32⟩
  | 21 => ⟨S16384x4x32, .f32⟩
  | 22 => ⟨S16384x4x32, .f32⟩
  | 23 => ⟨S16384x4x32, .f32⟩
  | 24 => ⟨S16384x4x32, .f32⟩
  | 25 => ⟨S16384x4x32, .f32⟩
  | 26 => ⟨S16384x4x32, .f32⟩
  | 27 => ⟨S16384x4x32, .f32⟩
  | 28 => ⟨S16384x4x32, .f32⟩
  | 29 => ⟨S16384x4x64, .f32⟩
  | 30 => ⟨S16384x4x256, .f32⟩
  | 31 => ⟨S16384x1024, .f32⟩
  | 32 => ⟨S16384x1024, .bf16⟩
  | 33 => ⟨S16384x1024, .f32⟩
  | 34 => ⟨S16384x1024, .bf16⟩
  | 35 => ⟨S16384x512, .f32⟩
  | 36 => ⟨S16384x512, .bf16⟩
  | _ => ⟨S16384x2176, .f32⟩

abbrev hbmTy (i : Nat) : BufTy := match i / 128 with
  | 0 => hbmTy0_0 i
  | 1 => hbmTy0_1 i
  | _ => ⟨S16384x2176, .f32⟩

abbrev bufTy : (tb : Table) → Fin (tcTables nBuf tb) → BufTy
  | .hbm, ⟨i, _⟩ => hbmTy i
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_15 : Ref sig .tc := ⟨.hbm, 128, rfl⟩
abbrev main_v104 : Ref sig .tc := ⟨.hbm, 129, rfl⟩
abbrev main_v105 : Ref sig .tc := ⟨.hbm, 130, rfl⟩
abbrev main_cst_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩

abbrev nD : Nat := 1
abbrev τ : Topo := Topo.v7x

variable {F : FTy → Type} [FloatOps F]
-- ==== Moba.lean ====
abbrev S16384x2176 : Shape := ⟨2, ![16384, 2176]⟩
abbrev S128 : Shape := ⟨1, ![128]⟩
abbrev S1x128 : Shape := ⟨2, ![1, 128]⟩
abbrev S16384x512 : Shape := ⟨2, ![16384, 512]⟩
abbrev S16384x1024 : Shape := ⟨2, ![16384, 1024]⟩
abbrev S64x1x512 : Shape := ⟨3, ![64, 1, 512]⟩
abbrev S256x512 : Shape := ⟨2, ![256, 512]⟩
abbrev S256x1024 : Shape := ⟨2, ![256, 1024]⟩
abbrev S1x1x512 : Shape := ⟨3, ![1, 1, 512]⟩
abbrev S256x128 : Shape := ⟨2, ![256, 128]⟩
abbrev S256 : Shape := ⟨1, ![256]⟩
abbrev S256x1 : Shape := ⟨2, ![256, 1]⟩
abbrev S1x1x128 : Shape := ⟨3, ![1, 1, 128]⟩

abbrev nBuf : Space → Nat
  | .hbm => 9
  | .vmem => 16
  | .smem => 0
  | _ => 0

abbrev bufTy : (tb : Table) → Fin (tcTables nBuf tb) → BufTy
  | .hbm, ⟨0, _⟩ => ⟨S16384x2176, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S16384x512, .bf16⟩
  | .hbm, ⟨6, _⟩ => ⟨S16384x1024, .bf16⟩
  | .hbm, ⟨7, _⟩ => ⟨S16384x512, .bf16⟩
  | .hbm, ⟨8, _⟩ => ⟨S64x1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x512, .bf16⟩
  | .local _ .vmem, ⟨13, _⟩ => ⟨S256x512, .bf16⟩
  | .local _ .vmem, ⟨14, _⟩ => ⟨S1x1x512, .f32⟩
  | .local _ .vmem, ⟨15, _⟩ => ⟨S1x1x512, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MobaRefIdeal.lean ====
abbrev S16384x2176 : Shape := ⟨2, ![16384, 2176]⟩
abbrev S128 : Shape := ⟨1, ![128]⟩
abbrev S16384x512 : Shape := ⟨2, ![16384, 512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S32 : Shape := ⟨1, ![32]⟩
abbrev S1x32x1 : Shape := ⟨3, ![1, 32, 1]⟩
abbrev S2x32x256 : Shape := ⟨3, ![2, 32, 256]⟩
abbrev S16384 : Shape := ⟨1, ![16384]⟩
abbrev S1x128 : Shape := ⟨2, ![1, 128]⟩
abbrev S16384x1 : Shape := ⟨2, ![16384, 1]⟩
abbrev S16384x128 : Shape := ⟨2, ![16384, 128]⟩
abbrev S16384x1x128 : Shape := ⟨3, ![16384, 1, 128]⟩
abbrev S16384x4x256 : Shape := ⟨3, ![16384, 4, 256]⟩
abbrev S64x256x4x128 : Shape := ⟨4, ![64, 256, 4, 128]⟩
abbrev S64x4x128 : Shape := ⟨3, ![64, 4, 128]⟩
abbrev S16384x1024 : Shape := ⟨2, ![16384, 1024]⟩
abbrev S64x1x512 : Shape := ⟨3, ![64, 1, 512]⟩

abbrev nBuf : Space → Nat
  | .hbm => 74
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S128, .f32⟩
  | .hbm, ⟨2, _⟩ => ⟨S128, .f32⟩
  | .hbm, ⟨3, _⟩ => ⟨S16384x512, .f32⟩
  | .hbm, ⟨4, _⟩ => ⟨S16384x4x128, .f32⟩
  | .hbm, ⟨5, _⟩ => ⟨S16384x4x128, .f32⟩
  | .hbm, ⟨6, _⟩ => ⟨S_, .f32⟩
  | .hbm, ⟨7, _⟩ => ⟨S16384x4, .f32⟩
  | .hbm, ⟨8, _⟩ => ⟨S16384x4x1, .f32⟩
  | .hbm, ⟨9, _⟩ => ⟨S_, .f32⟩
  | .hbm, ⟨10, _⟩ => ⟨S16384x4x1, .f32⟩
  | .hbm, ⟨11, _⟩ => ⟨S16384x4x1, .f32⟩
  | .hbm, ⟨12, _⟩ => ⟨S_, .f32⟩
  | .hbm, ⟨13, _⟩ => ⟨S16384x4x1, .f32⟩
  | .hbm, ⟨14, _⟩ => ⟨S16384x4x1, .f32⟩
  | .hbm, ⟨15, _⟩ => ⟨S16384x4x1, .f32⟩
  | .hbm, ⟨16, _⟩ => ⟨S16384x4x128, .f32⟩
  | .hbm, ⟨17, _⟩ => ⟨S16384x4x128, .f32⟩
  | .hbm, ⟨18, _⟩ => ⟨S1x1x128, .f32⟩
  | .hbm, ⟨19, _⟩ => ⟨S16384x4x128, .f32⟩
  | .hbm, ⟨20, _⟩ => ⟨S16384x4x128, .f32⟩
  | .hbm, ⟨21, _⟩ => ⟨S_, .f32⟩
  | .hbm, ⟨22, _⟩ => ⟨S16384x4x128, .f32⟩
  | .hbm, ⟨23, _⟩ => ⟨S16384x4x128, .f32⟩
  | .hbm, ⟨24, _⟩ => ⟨S16384x512, .f32⟩
  | .hbm, ⟨25, _⟩ => ⟨S16384x4x128, .f32⟩
  | .hbm, ⟨26, _⟩ => ⟨S16384x4x128, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x128, .f32⟩
  | .hbm, ⟨38, _⟩ => ⟨S16384x4x128, .f32⟩
  | .hbm, ⟨39, _⟩ => ⟨S1x1x128, .f32⟩
  | .hbm, ⟨40, _⟩ => ⟨S16384x4x128, .f32⟩
  | .hbm, ⟨41, _⟩ => ⟨S16384x4x128, .f32⟩
  | .hbm, ⟨42, _⟩ => ⟨S16384x512, .f32⟩
  | .hbm, ⟨43, _⟩ => ⟨S32, .i32⟩
  | .hbm, ⟨44, _⟩ => ⟨S1x32x1, .i32⟩
  | .hbm, ⟨45, _⟩ => ⟨S2x32x256, .i32⟩
  | .hbm, ⟨46, _⟩ => ⟨S16384, .i32⟩
  | .hbm, ⟨47, _⟩ => ⟨S128, .i32⟩
  | .hbm, ⟨48, _⟩ => ⟨S1x128, .i32⟩
  | .hbm, ⟨49, _⟩ => ⟨S16384x1, .i32⟩
  | .hbm, ⟨50, _⟩ => ⟨S16384x128, .i32⟩
  | .hbm, ⟨51, _⟩ => ⟨S16384x128, .i32⟩
  | .hbm, ⟨52, _⟩ => ⟨S16384x128, .i1⟩
  | .hbm, ⟨53, _⟩ => ⟨S_, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x1x128, .f32⟩
  | .hbm, ⟨60, _⟩ => ⟨S16384x4x128, .f32⟩
  | .hbm, ⟨61, _⟩ => ⟨S16384x4x256, .f32⟩
  | .hbm, ⟨62, _⟩ => ⟨S64x256x4x128, .f32⟩
  | .hbm, ⟨63, _⟩ => ⟨S_, .f32⟩
  | .hbm, ⟨64, _⟩ => ⟨S64x4x128, .f32⟩
  | .hbm, ⟨65, _⟩ => ⟨S_, .f32⟩
  | .hbm, ⟨66, _⟩ => ⟨S64x4x128, .f32⟩
  | .hbm, ⟨67, _⟩ => ⟨S64x4x128, .f32⟩
  | .hbm, ⟨68, _⟩ => ⟨S16384x512, .f32⟩
  | .hbm, ⟨69, _⟩ => ⟨S16384x512, .bf16⟩
  | .hbm, ⟨70, _⟩ => ⟨S16384x1024, .f32⟩
  | .hbm, ⟨71, _⟩ => ⟨S16384x1024, .bf16⟩
  | .hbm, ⟨72, _⟩ => ⟨S16384x512, .bf16⟩
  | .hbm, ⟨73, _⟩ => ⟨S64x1x512, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Gate.lean ====
abbrev S16384x3072 : Shape := ⟨2, ![16384, 3072]⟩
abbrev S512 : Shape := ⟨1, ![512]⟩
abbrev S4x128x128 : Shape := ⟨3, ![4, 128, 128]⟩
abbrev S4x128 : Shape := ⟨2, ![4, 128]⟩
abbrev S1024x128 : Shape := ⟨2, ![1024, 128]⟩
abbrev S1x512 : Shape := ⟨2, ![1, 512]⟩
abbrev S4x128x1 : Shape := ⟨3, ![4, 128, 1]⟩
abbrev S16384x512 : Shape := ⟨2, ![16384, 512]⟩
abbrev S128x256 : Shape := ⟨2, ![128, 256]⟩
abbrev S1x256 : Shape := ⟨2, ![1, 256]⟩
abbrev S2x128x128 : Shape := ⟨3, ![2, 128, 128]⟩
abbrev S2x128x1 : Shape := ⟨3, ![2, 128, 1]⟩
abbrev S128x128 : Shape := ⟨2, ![128, 128]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩
abbrev S1x128x1 : Shape := ⟨3, ![1, 128, 1]⟩

abbrev nBuf : Space → Nat
  | .hbm => 13
  | .vmem => 28
  | .smem => 0
  | _ => 0

abbrev bufTy : (tb : Table) → Fin (tcTables nBuf tb) → BufTy
  | .hbm, ⟨0, _⟩ => ⟨S16384x3072, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x128, .bf16⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S4x128x1, .f32⟩
  | .hbm, ⟨11, _⟩ => ⟨S16384x512, .f32⟩
  | .hbm, ⟨12, _⟩ => ⟨S16384x512, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2x128x128, .f32⟩
  | .local _ .vmem, ⟨19, _⟩ => ⟨S2x128x128, .f32⟩
  | .local _ .vmem, ⟨20, _⟩ => ⟨S2x128x1, .f32⟩
  | .local _ .vmem, ⟨21, _⟩ => ⟨S2x128x1, .f32⟩
  | .local _ .vmem, ⟨22, _⟩ => ⟨S1024x128, .bf16⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S2x128x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![2, 2, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c10_i32 : BitVec 32 := 10#32
  let v2 : BitVec 32 := Scalar.addi c10_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S2x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== GateIdeal.lean ====
variable {F : FTy → Type} [FloatOps F] [Named F]
def κ : String → Option EReal := fun
  | "cubic" => some ((80338380498831 / 2251799813685248 : ℝ) : EReal)
  | _ => none
-- ==== GateRefIdeal.lean ====
abbrev S16384x3072 : Shape := ⟨2, ![16384, 3072]⟩
abbrev S512 : Shape := ⟨1, ![512]⟩
abbrev S4x128x128 : Shape := ⟨3, ![4, 128, 128]⟩
abbrev S4x128 : Shape := ⟨2, ![4, 128]⟩
abbrev S2x8192x3072 : Shape := ⟨3, ![2, 8192, 3072]⟩
abbrev S2x8192x512 : Shape := ⟨3, ![2, 8192, 512]⟩
abbrev S_ : Shape := ⟨0, ![]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x4x128 : Shape := ⟨4, ![1, 1, 4, 128]⟩
abbrev S128x128 : Shape := ⟨2, ![128, 128]⟩
abbrev S1x128x128 : Shape := ⟨3, ![1, 128, 128]⟩
abbrev S2x64x128x4x128 : Shape := ⟨5, ![2, 64, 128, 4, 128]⟩
abbrev S4x2x64x128x128 : Shape := ⟨5, ![4, 2, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16384x512 : Shape := ⟨2, ![16384, 512]⟩

abbrev nBuf : Space → Nat
  | .hbm => 86
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S2x8192x3072, .f32⟩
  | .hbm, ⟨7, _⟩ => ⟨S2x8192x512, .f32⟩
  | .hbm, ⟨8, _⟩ => ⟨S2x8192x512, .f32⟩
  | .hbm, ⟨9, _⟩ => ⟨S2x8192x512, .f32⟩
  | .hbm, ⟨10, _⟩ => ⟨S2x8192x512, .f32⟩
  | .hbm, ⟨11, _⟩ => ⟨S_, .f32⟩
  | .hbm, ⟨12, _⟩ => ⟨S2x8192x512, .f32⟩
  | .hbm, ⟨13, _⟩ => ⟨S2x8192x512, .f32⟩
  | .hbm, ⟨14, _⟩ => ⟨S2x8192x512, .f32⟩
  | .hbm, ⟨15, _⟩ => ⟨S_, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S_, .f32⟩
  | .hbm, ⟨20, _⟩ => ⟨S2x8192x512, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S_, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S_, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x4x128, .f32⟩
  | .hbm, ⟨44, _⟩ => ⟨S4x128, .f32⟩
  | .hbm, ⟨45, _⟩ => ⟨S2x8192x4x128, .f32⟩
  | .hbm, ⟨46, _⟩ => ⟨S_, .f32⟩
  | .hbm, ⟨47, _⟩ => ⟨S2x8192x4, .f32⟩
  | .hbm, ⟨48, _⟩ => ⟨S2x8192x4x1, .f32⟩
  | .hbm, ⟨49, _⟩ => ⟨S_, .f32⟩
  | .hbm, ⟨50, _⟩ => ⟨S2x8192x4x1, .f32⟩
  | .hbm, ⟨51, _⟩ => ⟨S2x8192x4x1, .f32⟩
  | .hbm, ⟨52, _⟩ => ⟨S_, .f32⟩
  | .hbm, ⟨53, _⟩ => ⟨S2x8192x4x1, .f32⟩
  | .hbm, ⟨54, _⟩ => ⟨S2x8192x4x1, .f32⟩
  | .hbm, ⟨55, _⟩ => ⟨S2x8192x4x1, .f32⟩
  | .hbm, ⟨56, _⟩ => ⟨S2x8192x4x128, .f32⟩
  | .hbm, ⟨57, _⟩ => ⟨S2x8192x4x128, .f32⟩
  | .hbm, ⟨58, _⟩ => ⟨S1x1x4x128, .f32⟩
  | .hbm, ⟨59, _⟩ => ⟨S2x8192x4x128, .f32⟩
  | .hbm, ⟨60, _⟩ => ⟨S2x8192x4x128, .f32⟩
  | .hbm, ⟨61, _⟩ => ⟨S_, .f32⟩
  | .hbm, ⟨62, _⟩ => ⟨S128x128, .f32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .f32⟩
  | .hbm, ⟨70, _⟩ => ⟨S128x128, .f32⟩
  | .hbm, ⟨71, _⟩ => ⟨S128x128, .f32⟩
  | .hbm, ⟨72, _⟩ => ⟨S1x128x128, .f32⟩
  | .hbm, ⟨73, _⟩ => ⟨S4x128x128, .f32⟩
  | .hbm, ⟨74, _⟩ => ⟨S4x128x128, .f32⟩
  | .hbm, ⟨75, _⟩ => ⟨S2x64x128x4x128, .f32⟩
  | .hbm, ⟨76, _⟩ => ⟨S4x2x64x128x128, .f32⟩
  | .hbm, ⟨77, _⟩ => ⟨S2x64x128x4x128, .f32⟩
  | .hbm, ⟨78, _⟩ => ⟨S128x4, .f32⟩
  | .hbm, ⟨79, _⟩ => ⟨S128x4x1, .f32⟩
  | .hbm, ⟨80, _⟩ => ⟨S1x1x128x4x1, .f32⟩
  | .hbm, ⟨81, _⟩ => ⟨S2x64x128x4x128, .f32⟩
  | .hbm, ⟨82, _⟩ => ⟨S2x64x128x4x128, .f32⟩
  | .hbm, ⟨83, _⟩ => ⟨S2x8192x512, .f32⟩
  | .hbm, ⟨84, _⟩ => ⟨S2x8192x512, .f32⟩
  | .hbm, ⟨85, _⟩ => ⟨S16384x512, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_cst : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Proof.Softmax.lean ====
/-
  THE ONLINE SOFTMAX, over the extended reals.

  One row of attention has scores `s k` (a masked key's is `⊥`) and, for one column of the values, `v k`. Walking the
  keys in blocks of `B`, the kernel keeps the largest score met so far, the sum of the exponentials of the scores less
  that maximum, and the sum of those exponentials times the values; a new block rescales both sums by the exponential
  of the old maximum less the new one. `runMax`, `runSum` and `runAcc` name the three after `n` keys; the step lemmas
  say one block's update, and `runAcc_div_runSum` says that the quotient of the two sums over the keys met is the
  softmax-weighted sum over all the keys, when every key not met is masked.
-/
module

public import Idealize.ShloMosaic.PureOps.Ideal
public import Mathlib.Data.EReal.Inv
public import Mathlib.Algebra.BigOperators.Fin

@[expose] public section

namespace Cert.Softmax

open Idealize.ShloMosaic

/-- The largest of the first `n` scores. -/
noncomputable def runMax (s : ℕ → EReal) (n : ℕ) : EReal := (Finset.range n).sup s

/-- The sum over the first `n` keys of the exponential of the score less `m`, times a weight. -/
noncomputable def runAcc (s v : ℕ → EReal) (m : EReal) (n : ℕ) : EReal :=
  ∑ k ∈ Finset.range n, Ideal.exp (s k - m) * v k

/-- The sum over the first `n` keys of the exponential of the score less `m`. -/
noncomputable def runSum (s : ℕ → EReal) (m : EReal) (n : ℕ) : EReal :=
  ∑ k ∈ Finset.range n, Ideal.exp (s k - m)

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {x y : EReal} (hx : x ≠ ⊤) (hxy : x ≤ y) : x - y ≠ ⊤ := by
  induction x with
  | bot => rw [sub_eq_add_neg, EReal.bot_add]; exact bot_ne_top
  | top => exact absurd rfl hx
  | coe r =>
    induction y with
    | bot => exact absurd hxy (by simp)
    | top => simp
    | coe t => rw [← EReal.coe_sub]; exact EReal.coe_ne_top _

/-- Rescaling from one maximum to a larger one. -/
theorem exp_rescale {a b c : EReal} (hab : a ≤ b) (hbc : b ≤ c) (hc : c ≠ ⊤) :
    Ideal.exp (b - c) * Ideal.exp (a - b) = Ideal.exp (a - c) := by
  have hb : b ≠ ⊤ := fun h => hc (top_le_iff.1 (h ▸ hbc))
  have ha : a ≠ ⊤ := fun h => hb (top_le_iff.1 (h ▸ hab))
  induction a with
  | top => exact absurd rfl ha
  | bot => simp [sub_eq_add_neg]
  | coe r =>
    induction b with
    | top => exact absurd rfl hb
    | bot => exact absurd hab (by simp)
    | coe t =>
      induction c with
      | top => exact absurd rfl hc
      | bot => exact absurd hbc (by simp)
      | coe u =>
        rw [← EReal.coe_sub, ← EReal.coe_sub, ← EReal.coe_sub, Ideal.exp_coe, Ideal.exp_coe, Ideal.exp_coe,
          ← EReal.coe_mul, ← Real.exp_add]
        congr 2
        ring

/-- A nonnegative factor below `⊤` goes inside a finite sum. -/
theorem mul_sum_of_nonneg {ι : Type} {c : EReal} (hc : 0 ≤ c) (hc' : c ≠ ⊤) (t : Finset ι) (f : ι → EReal) :
    c * ∑ k ∈ t, f k = ∑ k ∈ t, c * f k := by
  classical
  induction t using Finset.induction_on with
  | empty => simp
  | insert a t ha ih =>
    rw [Finset.sum_insert ha, Finset.sum_insert ha, EReal.left_distrib_of_nonneg_of_ne_top hc hc', ih]

theorem le_runMax {s : ℕ → EReal} {n k : ℕ} (h : k < n) : s k ≤ runMax s n :=
  Finset.le_sup (f := s) (Finset.mem_range.2 h)

theorem runMax_mono {s : ℕ → EReal} {n m : ℕ} (h : n ≤ m) : runMax s n ≤ runMax s m :=
  Finset.sup_mono (Finset.range_subset_range.2 h)

theorem runMax_ne_top {s : ℕ → EReal} (hs : ∀ k, s k ≠ ⊤) (n : ℕ) : runMax s n ≠ ⊤ := by
  apply ne_of_lt
  rw [runMax, Finset.sup_lt_iff (by simp)]
  exact fun k _ => lt_top_iff_ne_top.2 (hs k)

@[simp] theorem runMax_zero (s : ℕ → EReal) : runMax s 0 = ⊥ := rfl
@[simp] theorem runSum_zero (s : ℕ → EReal) (m : EReal) : runSum s m 0 = 0 := rfl
@[simp] theorem runAcc_zero (s v : ℕ → EReal) (m : EReal) : runAcc s v m 0 = 0 := rfl

/-- The maximum after one more block: the old one against the block's own. -/
theorem runMax_block (s : ℕ → EReal) (n B : ℕ) :
    runMax s (n + B) = max (runMax s n) (Finset.univ.fold max ⊥ fun j : Fin B => s (n + j.val)) := by
  have h : (Finset.univ.fold max ⊥ fun j : Fin B => s (n + j.val)) = Finset.univ.sup fun j : Fin B => s (n + j.val) := rfl
  rw [h]
  apply le_antisymm
  · refine Finset.sup_le fun k hk => ?_
    rw [Finset.mem_range] at hk
    by_cases h : k < n
    · exact le_max_of_le_left (le_runMax h)
    · refine le_max_of_le_right ?_
      have := Finset.le_sup (f := fun j : Fin B => s (n + j.val)) (Finset.mem_univ (⟨k - n, by omega⟩ : Fin B))
      simpa [Nat.add_sub_cancel' (not_lt.1 h)] using this
  · refine max_le (runMax_mono (by omega)) (Finset.sup_le fun j _ => le_runMax ?_)
    have := j.isLt
    omega

/-- The whole row's maximum as a fold over the row. -/
theorem runMax_eq_fold (s : ℕ → EReal) (n : ℕ) :
    runMax s n = Finset.univ.fold max ⊥ fun j : Fin n => s j.val := by
  have := runMax_block s 0 n
  simpa using this

/-- The weighted sum after one more block, at the new maximum. -/
theorem runAcc_block {s : ℕ → EReal} (hs : ∀ k, s k ≠ ⊤) (v : ℕ → EReal) (n B : ℕ) :
    runAcc s v (runMax s (n + B)) (n + B)
      = Ideal.exp (runMax s n - runMax s (n + B)) * runAcc s v (runMax s n) n
        + ∑ j : Fin B, Ideal.exp (s (n + j.val) - runMax s (n + B)) * v (n + j.val) := by
  have hle : runMax s n ≤ runMax s (n + B) := runMax_mono (by omega)
  have ht := runMax_ne_top hs (n + B)
  rw [runAcc, Finset.sum_range_add, runAcc,
    mul_sum_of_nonneg (exp_nonneg _) (exp_ne_top (sub_ne_top (runMax_ne_top hs n) hle)),
    Finset.sum_range fun j => Ideal.exp (s (n + j) - runMax s (n + B)) * v (n + j)]
  congr 1
  refine Finset.sum_congr rfl fun k hk => ?_
  rw [← mul_assoc, exp_rescale (le_runMax (Finset.mem_range.1 hk)) hle ht]

/-- The sum after one more block, at the new maximum. -/
theorem runSum_block {s : ℕ → EReal} (hs : ∀ k, s k ≠ ⊤) (n B : ℕ) :
    runSum s (runMax s (n + B)) (n + B)
      = Ideal.exp (runMax s n - runMax s (n + B)) * runSum s (runMax s n) n
        + ∑ j : Fin B, Ideal.exp (s (n + j.val) - runMax s (n + B)) := by
  have := runAcc_block hs (fun _ => 1) n B
  simpa [runAcc, runSum] using this

/-- Keys that are masked change nothing: the maximum, … -/
theorem runMax_masked {s : ℕ → EReal} {n N : ℕ} (hn : n ≤ N) (h : ∀ k, n ≤ k → k < N → s k = ⊥) :
    runMax s N = runMax s n := by
  refine le_antisymm (Finset.sup_le fun k hk => ?_) (runMax_mono hn)
  rw [Finset.mem_range] at hk
  by_cases hkn : k < n
  · exact le_runMax hkn
  · rw [h k (not_lt.1 hkn) hk]; exact bot_le

/-- … and the weighted sum. -/
theorem runAcc_masked {s : ℕ → EReal} (v : ℕ → EReal) (m : EReal) {n N : ℕ} (hn : n ≤ N)
    (h : ∀ k, n ≤ k → k < N → s k = ⊥) : runAcc s v m N = runAcc s v m n := by
  rw [runAcc, runAcc]
  refine (Finset.sum_subset (Finset.range_subset_range.2 hn) fun k hk hk' => ?_).symm
  rw [Finset.mem_range] at hk hk'
  rw [h k (not_lt.1 hk') hk, sub_eq_add_neg, EReal.bot_add, Ideal.exp_bot, zero_mul]

/-- The sum of the exponentials is a positive real as soon as some score is above `⊥`. -/
theorem runSum_real {s : ℕ → EReal} (hs : ∀ k, s k ≠ ⊤) {n k₀ : ℕ} (hk : k₀ < n) (h0 : s k₀ ≠ ⊥) :
    ∃ l : ℝ, l ≠ 0 ∧ 0 ≤ 1 / l ∧ runSum s (runMax s n) n = (l : EReal) := by
  have hb : runMax s n ≠ ⊥ := fun h => h0 (le_bot_iff.1 (h ▸ le_runMax hk))
  obtain ⟨k, hkn, hkm⟩ := Finset.exists_mem_eq_sup (Finset.range n) ⟨k₀, Finset.mem_range.2 hk⟩ s
  have hterm : ∀ j ∈ Finset.range n, ∃ r : ℝ, 0 ≤ r ∧ Ideal.exp (s j - runMax s n) = (r : EReal) := by
    intro j hj
    have h1 := exp_nonneg (s j - runMax s n)
    have h2 : Ideal.exp (s j - runMax s n) ≠ ⊤ :=
      exp_ne_top (sub_ne_top (hs j) (le_runMax (Finset.mem_range.1 hj)))
    refine ⟨(Ideal.exp (s j - runMax s n)).toReal, EReal.toReal_nonneg h1, (EReal.coe_toReal h2 ?_).symm⟩
    exact fun h => absurd (h ▸ h1) (by simp)
  choose! r hr0 hr using hterm
  have hsum : runSum s (runMax s n) n = ((∑ j ∈ Finset.range n, r j : ℝ) : EReal) := by
    rw [runSum, Finset.sum_congr rfl hr]
    exact (map_sum (⟨⟨(fun x : ℝ => (x : EReal)), EReal.coe_zero⟩, EReal.coe_add⟩ : ℝ →+ EReal) r _).symm
  have hone : r k = 1 := by
    have := hr k hkn
    rw [show s k = runMax s n from hkm.symm, EReal.sub_self (runMax_ne_top hs n) hb, ← EReal.coe_zero, Ideal.exp_coe,
      Real.exp_zero] at this
    exact_mod_cast this.symm
  have hpos : 0 < ∑ j ∈ Finset.range n, r j :=
    lt_of_lt_of_le (by rw [hone]; exact one_pos) (Finset.single_le_sum hr0 hkn)
  exact ⟨_, hpos.ne', (one_div_pos.2 hpos).le, hsum⟩

/-- THE LAW: the quotient of the two running sums over the `n` keys met is the softmax-weighted sum over all `N`
    keys, when the keys not met are masked and some key met is not. -/
theorem runAcc_div_runSum {s : ℕ → EReal} (hs : ∀ k, s k ≠ ⊤) (v : ℕ → EReal) {n N k₀ : ℕ} (hn : n ≤ N)
    (h : ∀ k, n ≤ k → k < N → s k = ⊥) (hk : k₀ < n) (h0 : s k₀ ≠ ⊥) :
    Ideal.div (runAcc s v (runMax s n) n) (runSum s (runMax s n) n)
      = ∑ k : Fin N, Ideal.div (Ideal.exp (s k.val - runMax s N)) (runSum s (runMax s N) N) * v k.val := by
  have hS : runSum s (runMax s N) N = runSum s (runMax s n) n := by
    have := runAcc_masked (fun _ => 1) (runMax s N) hn h
    rw [runMax_masked hn h] at this ⊢
    simpa [runAcc, runSum] using this
  obtain ⟨l, hl, hl', hls⟩ := runSum_real hs hk h0
  rw [hS, hls, Ideal.div_coe hl, runMax_masked hn h, ← runAcc_masked v (runMax s n) hn h, runAcc, mul_comm,
    mul_sum_of_nonneg (by exact_mod_cast hl') (EReal.coe_ne_top _), Finset.sum_range]
  refine Finset.sum_congr rfl fun k _ => ?_
  rw [Ideal.div_coe hl]
  ac_rfl

end Cert.Softmax
-- ==== Proof.Block.lean ====
/-
  ONE GRID POINT OF THE ATTENTION KERNEL at the extended reals: what the body leaves in its output block.

  The body walks the key blocks up to the query block's own, carrying a running maximum, a running sum and a running
  weighted sum of the values. `step_eq` reads one trip of that walk off the run; `Inv` says the carried triple is
  Softmax.lean's three running quantities over the keys met; `out_apply` concludes that the block written is, at each
  row and column, the softmax-weighted sum of the values over all 8192 keys.
-/
module

public import proofs.«01_k».proof.Proof.Gen.KernelIdeal.Value
public import proofs.«01_k».proof.Proof.Softmax
public import Idealize.ShloMosaic.Lib.Pipeline.ValueKit.Acc
public import Idealize.ShloMosaic.Lib.ValueIdx
public import Idealize.ShloMosaic.Lib.Pipeline.ValueKit.Tiles
public import Idealize.ShloMosaic.Lib.MatmulPlain
public import Idealize.ShloMosaic.PureOps.Ideal.Laws

@[expose] public section
set_option maxRecDepth 16384
noncomputable section
namespace Cert.KernelIdeal.Block
open Cert.KernelIdeal Cert.KernelIdeal.Gen Cert.Softmax
open Idealize.ShloMosaic Idealize.ShloMosaic.TcCoe Idealize.ShloMosaic.Tactic Idealize.SL.Sem Idealize.ShloMosaic.ValueIdx
open Idealize.ShloMosaic.Pipeline (Dat Cfg Window)

/-- The score of local row `r` of query block `b` against key `k`: the product of the query's and the key's vectors,
    and `⊥` at a key behind the query. -/
def score (b : ℕ) (q : Vec Ideal S512x256 .bf16) (k : Vec Ideal S8192x256 .bf16) (r : Fin 512) (n : ℕ) : EReal :=
  if h : n < 8192 then
    if n ≤ 512 * b + r.val then ∑ d : Fin 256, q (ix2 r d) * k (ix2 ⟨n, h⟩ d) else ⊥
  else ⊥

/-- Column `c` of the values at key `n`. -/
def value (v : Vec Ideal S8192x128 .bf16) (c : Fin 128) (n : ℕ) : EReal :=
  if h : n < 8192 then v (ix2 ⟨n, h⟩ c) else 0

theorem trips1 (i : grid0.Coords) : (k0_t1_loop i).trips = (i 2).val + 1 := by
  have h : ∀ n : Fin 16, Scf.Loop.trips (⟨0#32, Scalar.addi 0#32 (Scalar.muli (Scalar.divsi (Scalar.subi
      (Scalar.muli (Scalar.addi (BitVec.ofNat 32 n.val) 1#32) 1#32) 0#32) 1#32) 1#32), 1#32⟩ : Scf.Loop 32) = n.val + 1 := by
    decide +kernel
  exact h (i 2)

theorem trips2 (i : grid0.Coords) : (k0_t2_loop i).trips = 0 := by
  have h : ∀ n : Fin 16, Scf.Loop.trips (k0_t2_loop (fun a => match a with
    | ⟨0, _⟩ => (0 : Fin 2) | ⟨1, _⟩ => (0 : Fin 4) | ⟨2, _⟩ => n)) = 0 := by
    decide +kernel
  exact h (i 2)

theorem word_off (n : Fin 16) : (Scalar.indexCast (Scalar.muli (Scf.iv 0#32 1#32 n.val) 512#32)).toNat = 512 * n.val := by
  revert n; decide +kernel

theorem trip_lt (i : grid0.Coords) (k : Fin (k0_t1_loop i).trips) : k.val ≤ (i 2).val ∧ k.val < 16 := by
  have h1 := trips1 i
  have h2 := k.isLt
  have h3 : (i 2).val < 16 := (i 2).isLt
  omega

theorem off1_eq (i : grid0.Coords) (k : Fin (k0_t1_loop i).trips) : k0_off1 i k = ![512 * k.val, 0] := by
  have h := word_off ⟨k.val, (trip_lt i k).2⟩
  unfold k0_off1
  dsimp only at h ⊢
  rw [h]

theorem off2_eq (i : grid0.Coords) (k : Fin (k0_t1_loop i).trips) : k0_off2 i k = ![512 * k.val, 0] := off1_eq i k

theorem toInt_small (n : ℕ) (h : n < 16384) : (BitVec.ofNat 32 n).toInt = n := by
  rw [BitVec.toInt_ofNat']
  exact Int.bmod_eq_of_le (by omega) (by omega)

theorem toInt_sub_small (m n : ℕ) (hm : m < 16384) (hn : n < 16384) :
    (BitVec.ofNat 32 m - BitVec.ofNat 32 n).toInt = (m : ℤ) - n := by
  rw [BitVec.toInt_sub, toInt_small m hm, toInt_small n hn]
  exact Int.bmod_eq_of_le (by omega) (by omega)

/-- The mask's comparison of 32-bit words is the comparison of the key's number with the query's. -/
theorem mask_word (j r a n : ℕ) (hj : j < 512) (hr : r < 512) (ha : a < 16) (hn : n < 16) :
    IntOp.cmpi .sle (BitVec.ofNat 32 j - BitVec.ofNat 32 r)
      (Scalar.subi (Scalar.muli (BitVec.ofNat 32 a) 512#32) (Scalar.muli (Scf.iv 0#32 1#32 n) 512#32))
    = BitVec.ofBool (decide (512 * n + j ≤ 512 * a + r)) := by
  have h1 : Scalar.muli (BitVec.ofNat 32 a) 512#32 = BitVec.ofNat 32 (512 * a) := by
    show BitVec.ofNat 32 a * BitVec.ofNat 32 512 = _
    rw [← BitVec.ofNat_mul, mul_comm]
  have h2 : Scalar.muli (Scf.iv 0#32 1#32 n) 512#32 = BitVec.ofNat 32 (512 * n) := by
    show (0#32 + BitVec.ofNat 32 n * 1#32) * BitVec.ofNat 32 512 = _
    rw [BitVec.zero_add, BitVec.mul_one, ← BitVec.ofNat_mul, mul_comm]
  rw [h1, h2]
  show BitVec.ofBool ((BitVec.ofNat 32 j - BitVec.ofNat 32 r).sle (BitVec.ofNat 32 (512 * a) - BitVec.ofNat 32 (512 * n))) = _
  rw [BitVec.sle_eq_decide, toInt_sub_small j r (by omega) (by omega), toInt_sub_small (512 * a) (512 * n) (by omega) (by omega)]
  congr 1
  exact decide_eq_decide.2 (by omega)

theorem named_mask : (Named.named (F := Ideal) κ "mask" (φ := .f32) 0xF149F2CA#32 : EReal) = ⊥ :=
  IdealRules.named_const.ideal_named_scalar _ _ _ _ rfl

theorem dot1_eq : dot_S512x256_S512x256_S512x512_1_1_0_0_n_n = DotDims.transposedRhs 512 256 512 := rfl
theorem dot2_eq : dot_S512x512_S512x128_S512x128_1_0_0_1_n_n = DotDims.plain 512 512 128 := rfl

variable (c : Dev nD) (i : grid0.Coords) (arg3 : Memref sig .tc .vmem S512x256 .bf16) (harg3 : arg3.IsWhole)
  (arg4 : Memref sig .tc .vmem S8192x256 .bf16) (harg4 : arg4.IsWhole) (arg5 : Memref sig .tc .vmem S8192x128 .bf16)
  (harg5 : arg5.IsWhole) (arg6 : Memref sig .tc .vmem S512x128 .f32) (harg6 : arg6.IsWhole)
  (x0 : Vec Ideal S512x256 .bf16) (x1 : Vec Ideal S8192x256 .bf16) (x2 : Vec Ideal S8192x128 .bf16)

/-- The carried triple. -/
abbrev Carried : Type := FVec Ideal S512x1 .f32 × FVec Ideal S512x1 .f32 × FVec Ideal S512x128 .f32

/-- Key block `k`. -/
def kblk (k : Fin (k0_t1_loop i).trips) : Vec Ideal S512x256 .bf16 :=
  fun y => x1 (ix2 ⟨512 * k.val + (y 0).val, by have := (trip_lt i k).2; have := idx2_lt0 y; omega⟩ (y 1))

/-- Value block `k`. -/
def vblk (k : Fin (k0_t1_loop i).trips) : Vec Ideal S512x128 .bf16 :=
  fun y => x2 (ix2 ⟨512 * k.val + (y 0).val, by have := (trip_lt i k).2; have := idx2_lt0 y; omega⟩ (y 1))

/-- One trip of the walk. -/
theorem step_eq (k : Fin (k0_t1_loop i).trips) (s : Carried) :
    tripR_k0_t1 (F := Ideal) Variants.none c none i arg3 harg3 arg4 harg4 arg5 harg5 arg6 harg6 x0 (harg4.unread x1)
        (harg5.unread x2) k s
      = (k0_pay6 i x0 k s.1 (kblk i x1 k), k0_pay9 i x0 k s.1 s.2.1 (kblk i x1 k),
          k0_pay10 i x0 k s.1 s.2.2 (kblk i x1 k) (vblk i x2 k)) := by
  have hk : View.readAt (Elt Ideal) arg4.view (Rect.unit (s := S8192x256) (k0_off1 i k) S512x256.size (k0_off1_inb i k)).toLoadRect
      (harg4.unread x1) = kblk i x1 k := by
    funext y
    rw [View.readAt_eq_ld, harg4.read_unread]
    refine View.ld_unit_apply_of x1 _ _ _ y _ fun a => ?_
    refine Eq.trans ?_ (congrArg (· + (y a).val) (congrFun (off1_eq i k) a).symm)
    fin_cases a
    · rfl
    · exact (Nat.zero_add _).symm
  have hv : View.readAt (Elt Ideal) arg5.view (Rect.unit (s := S8192x128) (k0_off2 i k) S512x128.size (k0_off2_inb i k)).toLoadRect
      (harg5.unread x2) = vblk i x2 k := by
    funext y
    rw [View.readAt_eq_ld, harg5.read_unread]
    refine View.ld_unit_apply_of x2 _ _ _ y _ fun a => ?_
    refine Eq.trans ?_ (congrArg (· + (y a).val) (congrFun (off2_eq i k) a).symm)
    fin_cases a
    · rfl
    · exact (Nat.zero_add _).symm
  rw [← hk, ← hv]
  unfold tripR_k0_t1 trip_k0_t1
  rfl

/-- What the body leaves in the output block: the quotient at the walk's end. -/
theorem out_eq :
    out0_A_3 c i arg3 harg3 arg4 harg4 arg5 harg5 arg6 harg6 x0 x1 x2
      = let s := st_k0_t1 (F := Ideal) Variants.none c none i arg3 harg3 arg4 harg4 arg5 harg5 arg6 harg6 x0
          (harg4.unread x1) (harg5.unread x2) (k0_pay2, k0_pay3, k0_pay4) (k0_t1_loop i).trips
        k0_pay17 s.2.1 s.2.2 := by
  frame_out
  rw [show Scf.trips (k0_t2_loop i).lb (k0_t2_loop i).ub (k0_t2_loop i).st = 0 from trips2 i]
  rfl

/-! ## One trip at an index -/

theorem pay5_apply (k : Fin (k0_t1_loop i).trips) (r j : Fin 512) :
    k0_pay5 i x0 k (kblk i x1 k) (ix2 r j) = score (i 2).val x0 x1 r (512 * k.val + j.val) := by
  have hb := trip_lt i k
  have hi : (i 2).val < 16 := (i 2).isLt
  have hj := j.isLt
  unfold k0_pay5 k0_pay1
  dsimp only
  simp only [select_apply, matmul, broadcast_apply]
  rw [named_mask, dot1_eq, Ideal.matmul_transposedRhs_apply]
  rw [show cmpi CmpIPredicate.sle
        (subi (iota Kind.tc S512x512 32 [1] iota_S512x512_d1_w32) (iota Kind.tc S512x512 32 [0] iota_S512x512_d0_w32))
        (broadcast S512x512
          (Scalar.subi (Scalar.muli (BitVec.ofNat 32 (i 2).val) 512#32) (Scalar.muli (Scf.iv 0#32 1#32 k.val) 512#32)))
        (ix2 r j) = BitVec.ofBool (decide (512 * k.val + j.val ≤ 512 * (i 2).val + r.val)) from
      by
        show IntOp.cmpi .sle (iota Kind.tc S512x512 32 [1] iota_S512x512_d1_w32 (ix2 r j)
          - iota Kind.tc S512x512 32 [0] iota_S512x512_d0_w32 (ix2 r j)) _ = _
        rw [iota_single_apply, iota_single_apply]
        exact mask_word j.val r.val (i 2).val k.val hj r.isLt hi hb.2]
  rw [score, dif_pos (by omega)]
  by_cases h : 512 * k.val + j.val ≤ 512 * (i 2).val + r.val
  · rw [decide_eq_true h, if_pos h]
    show (Ideal.ofBits .f32 0x00000000#32 : EReal) + _ = _
    rw [Ideal.ofBits_zero_f32, zero_add]
    rfl
  · rw [decide_eq_false h, if_neg h]
    rfl

theorem lift_eq (r j : Fin 512) : reduces_S512x512_S512.lift (ix1 r) j = ix2 r j := by
  funext a
  fin_cases a <;> rfl

theorem cast_apply (x : FVec Ideal S512 .f32) (r : Fin 512) :
    shapeCast S512x1 x shapeCasts_S512_S512x1 (ix2 r 0) = x (ix1 r) := by
  apply shapeCast_apply
  rw [Shape.rowMajor_val_one, Shape.rowMajor_val_two]
  simp

theorem spread_apply {n : ℕ} (x : FVec Ideal S512x1 .f32) (h : S512x1.Broadcasts ⟨2, ![512, n]⟩) (r : Fin 512) (j : Fin n) :
    broadcastTo ⟨2, ![512, n]⟩ x h (ix2 r j) = x (ix2 r 0) := by
  apply broadcastTo_apply
  intro a
  fin_cases a <;> rfl

theorem pay6_apply (k : Fin (k0_t1_loop i).trips) (m : FVec Ideal S512x1 .f32) (r : Fin 512) :
    k0_pay6 i x0 k m (kblk i x1 k) (ix2 r 0)
      = max (m (ix2 r 0)) (Finset.univ.fold max ⊥ fun j : Fin 512 => score (i 2).val x0 x1 r (512 * k.val + j.val)) := by
  unfold k0_pay6
  dsimp only
  show max (m (ix2 r 0)) (shapeCast S512x1 _ shapeCasts_S512_S512x1 (ix2 r 0)) = _
  rw [cast_apply]
  refine congrArg (max _) ((Ideal.multiReduction_maximumf_single _ _ _ _ _ _).trans ?_)
  have hb : (FloatOps.ofBits (F := Ideal) .f32 0xFF800000#32 : EReal) = ⊥ := by
    show Ideal.ofBits .f32 0xFF800000#32 = ⊥
    simp [Ideal.ofBits, Ideal.ieee]
  rw [hb]
  refine Finset.fold_congr fun j _ => ?_
  show k0_pay5 i x0 k (kblk i x1 k) (reduces_S512x512_S512.lift (ix1 r) j) = _
  exact (congrArg _ (lift_eq r j)).trans (pay5_apply i x0 x1 k r j)

theorem pay7_apply (k : Fin (k0_t1_loop i).trips) (m : FVec Ideal S512x1 .f32) (r : Fin 512) :
    k0_pay7 i x0 k m (kblk i x1 k) (ix2 r 0)
      = Ideal.exp (m (ix2 r 0) - k0_pay6 i x0 k m (kblk i x1 k) (ix2 r 0)) := rfl

theorem pay8_apply (k : Fin (k0_t1_loop i).trips) (m : FVec Ideal S512x1 .f32) (r j : Fin 512) :
    k0_pay8 i x0 k m (kblk i x1 k) (ix2 r j)
      = Ideal.exp (score (i 2).val x0 x1 r (512 * k.val + j.val) - k0_pay6 i x0 k m (kblk i x1 k) (ix2 r 0)) := by
  unfold k0_pay8
  dsimp only
  show Ideal.exp (k0_pay5 i x0 k (kblk i x1 k) (ix2 r j) - broadcastTo S512x512 _ broadcasts_S512x1_S512x512 (ix2 r j)) = _
  rw [spread_apply, pay5_apply]

theorem pay9_apply (k : Fin (k0_t1_loop i).trips) (m l : FVec Ideal S512x1 .f32) (r : Fin 512) :
    k0_pay9 i x0 k m l (kblk i x1 k) (ix2 r 0)
      = Ideal.exp (m (ix2 r 0) - k0_pay6 i x0 k m (kblk i x1 k) (ix2 r 0)) * l (ix2 r 0)
        + ∑ j : Fin 512, Ideal.exp (score (i 2).val x0 x1 r (512 * k.val + j.val) - k0_pay6 i x0 k m (kblk i x1 k) (ix2 r 0)) := by
  unfold k0_pay9
  dsimp only
  show k0_pay7 i x0 k m (kblk i x1 k) (ix2 r 0) * l (ix2 r 0) + shapeCast S512x1 _ shapeCasts_S512_S512x1 (ix2 r 0) = _
  rw [cast_apply, pay7_apply]
  refine congrArg (_ + ·) ((Ideal.multiReduction_add_single _ _ _ _ _ _).trans ?_)
  refine Finset.sum_congr rfl fun j _ => ?_
  exact (congrArg _ (lift_eq r j)).trans (pay8_apply i x0 x1 k m r j)

theorem pay10_apply (k : Fin (k0_t1_loop i).trips) (m : FVec Ideal S512x1 .f32) (a : FVec Ideal S512x128 .f32) (r : Fin 512)
    (d : Fin 128) :
    k0_pay10 i x0 k m a (kblk i x1 k) (vblk i x2 k) (ix2 r d)
      = Ideal.exp (m (ix2 r 0) - k0_pay6 i x0 k m (kblk i x1 k) (ix2 r 0)) * a (ix2 r d)
        + ∑ j : Fin 512, Ideal.exp (score (i 2).val x0 x1 r (512 * k.val + j.val) - k0_pay6 i x0 k m (kblk i x1 k) (ix2 r 0))
            * value x2 d (512 * k.val + j.val) := by
  have hb := trip_lt i k
  unfold k0_pay10
  dsimp only
  show broadcastTo S512x128 _ broadcasts_S512x1_S512x128 (ix2 r d) * a (ix2 r d)
    + FloatOps.matmul dot_S512x512_S512x128_S512x128_1_0_0_1_n_n none _ _ _ (ix2 r d) = _
  rw [spread_apply, dot2_eq, Ideal.matmul_plain_apply, pay7_apply]
  congr 1
  show (Ideal.ofBits .f32 0x00000000#32 : EReal) + _ = _
  rw [Ideal.ofBits_zero_f32, zero_add]
  refine Finset.sum_congr rfl fun j _ => ?_
  have hj := j.isLt
  rw [← pay8_apply i x0 x1 k m r j, value, dif_pos (by omega)]
  rfl

/-! ## The walk -/

/-- After `n` trips the carried triple is the running maximum, sum and weighted sum over the first `512 n` keys. -/
def Inv (n : ℕ) (s : Carried) : Prop :=
  ∀ r : Fin 512,
    s.1 (ix2 r 0) = runMax (score (i 2).val x0 x1 r) (512 * n)
    ∧ s.2.1 (ix2 r 0) = runSum (score (i 2).val x0 x1 r) (runMax (score (i 2).val x0 x1 r) (512 * n)) (512 * n)
    ∧ ∀ d : Fin 128, s.2.2 (ix2 r d)
        = runAcc (score (i 2).val x0 x1 r) (value x2 d) (runMax (score (i 2).val x0 x1 r) (512 * n)) (512 * n)

theorem inv_zero : Inv i x0 x1 x2 0 (k0_pay2, k0_pay3, k0_pay4) := by
  refine fun r => ⟨named_mask, ?_, fun d => ?_⟩
  · show (Ideal.ofBits .f32 0x00000000#32 : EReal) = _
    rw [Ideal.ofBits_zero_f32]; rfl
  · show (Ideal.ofBits .f32 0x00000000#32 : EReal) = _
    rw [Ideal.ofBits_zero_f32]; rfl

theorem inv_step (hs : ∀ r n, score (i 2).val x0 x1 r n ≠ ⊤) (k : Fin (k0_t1_loop i).trips) (s : Carried)
    (h : Inv i x0 x1 x2 k.val s) :
    Inv i x0 x1 x2 (k.val + 1) (k0_pay6 i x0 k s.1 (kblk i x1 k), k0_pay9 i x0 k s.1 s.2.1 (kblk i x1 k),
      k0_pay10 i x0 k s.1 s.2.2 (kblk i x1 k) (vblk i x2 k)) := by
  intro r
  obtain ⟨hm, hl, ha⟩ := h r
  have hm' : k0_pay6 i x0 k s.1 (kblk i x1 k) (ix2 r 0) = runMax (score (i 2).val x0 x1 r) (512 * k.val + 512) := by
    rw [pay6_apply, runMax_block, hm]
  rw [show 512 * (k.val + 1) = 512 * k.val + 512 by omega]
  refine ⟨hm', ?_, fun d => ?_⟩
  · show k0_pay9 i x0 k s.1 s.2.1 (kblk i x1 k) (ix2 r 0) = _
    rw [pay9_apply, hm', hm, hl, runSum_block (hs r)]
  · show k0_pay10 i x0 k s.1 s.2.2 (kblk i x1 k) (vblk i x2 k) (ix2 r d) = _
    rw [pay10_apply, hm', hm, ha d, runAcc_block (hs r)]

theorem inv_all (hs : ∀ r n, score (i 2).val x0 x1 r n ≠ ⊤) (n : ℕ) (hn : n ≤ (k0_t1_loop i).trips) :
    Inv i x0 x1 x2 n (st_k0_t1 (F := Ideal) Variants.none c none i arg3 harg3 arg4 harg4 arg5 harg5 arg6 harg6 x0
      (harg4.unread x1) (harg5.unread x2) (k0_pay2, k0_pay3, k0_pay4) n) := by
  induction n with
  | zero => rw [st_k0_t1_zero]; exact inv_zero i x0 x1 x2
  | succ n ih =>
    have h := st_k0_t1_succ (F := Ideal) Variants.none c none i arg3 harg3 arg4 harg4 arg5 harg5 arg6 harg6 x0
      (harg4.unread x1) (harg5.unread x2) (k0_pay2, k0_pay3, k0_pay4) ⟨n, hn⟩
    rw [h, step_eq]
    exact inv_step i x0 x1 x2 hs ⟨n, hn⟩ _ (ih (by omega))

/-- THE BLOCK: at row `r` and column `d`, the softmax-weighted sum of the values over all the keys. -/
theorem out_apply (hs : ∀ r n, score (i 2).val x0 x1 r n ≠ ⊤) (h0 : ∀ r, score (i 2).val x0 x1 r 0 ≠ ⊥)
    (r : Fin 512) (d : Fin 128) :
    out0_A_3 c i arg3 harg3 arg4 harg4 arg5 harg5 arg6 harg6 x0 x1 x2 (ix2 r d)
      = ∑ n : Fin 8192, Ideal.div
          (Ideal.exp (score (i 2).val x0 x1 r n.val - runMax (score (i 2).val x0 x1 r) 8192))
          (runSum (score (i 2).val x0 x1 r) (runMax (score (i 2).val x0 x1 r) 8192) 8192) * value x2 d n.val := by
  have hi : (i 2).val < 16 := (i 2).isLt
  rw [out_eq]
  have h := inv_all c i arg3 harg3 arg4 harg4 arg5 harg5 arg6 harg6 x0 x1 x2 hs (k0_t1_loop i).trips le_rfl
  generalize st_k0_t1 (F := Ideal) Variants.none c none i arg3 harg3 arg4 harg4 arg5 harg5 arg6 harg6 x0
    (harg4.unread x1) (harg5.unread x2) (k0_pay2, k0_pay3, k0_pay4) (k0_t1_loop i).trips = s at h ⊢
  obtain ⟨-, hl, ha⟩ := h r
  unfold k0_pay17
  dsimp only
  show Ideal.div (s.2.2 (ix2 r d)) (broadcastTo S512x128 _ broadcasts_S512x1_S512x128 (ix2 r d)) = _
  rw [spread_apply, hl, ha d, trips1]
  refine runAcc_div_runSum (hs r) _ (by omega) (fun n hn hN => ?_) (k₀ := 0) (by omega) (h0 r)
  rw [score, dif_pos hN, if_neg (by have := r.isLt; omega)]

end Cert.KernelIdeal.Block

end
-- ==== Proof.Attention.lean ====
/-
  CAUSAL ATTENTION over an array of queries, keys and values at the extended reals, as one function of the three arrays:
  the array's rows are (batch, position), its columns (head, feature).
-/
module

public import proofs.«01_k».proof.Proof.Softmax
public import Idealize.ShloMosaic.Lib.ValueIdx

@[expose] public section

noncomputable section

namespace Cert.Attention

open Idealize.ShloMosaic Idealize.ShloMosaic.ValueIdx Cert.Softmax

/-- A matrix of extended reals. -/
abbrev Mat (m n : ℕ) : Type := (⟨2, ![m, n]⟩ : Shape).Idx → EReal

/-- The row of position `t` of batch `b`. -/
def row (b : Fin 2) (t : Fin 8192) : Fin 16384 := ⟨8192 * b.val + t.val, by omega⟩

/-- Head `h`'s feature `d` among the queries' and keys' columns. -/
def qcol (h : Fin 4) (d : Fin 256) : Fin 1024 := ⟨256 * h.val + d.val, by omega⟩

/-- Head `h`'s feature `d` among the values' columns. -/
def vcol (h : Fin 4) (d : Fin 128) : Fin 512 := ⟨128 * h.val + d.val, by omega⟩

variable (q k : Mat 16384 1024) (v : Mat 16384 512) (b : Fin 2) (h : Fin 4) (t : Fin 8192)

/-- The masked score of key `n` for query `t`: -∞ past the query. -/
def score (n : ℕ) : EReal :=
  if hn : n < 8192 then
    if n ≤ t.val then ∑ d : Fin 256, q (ix2 (row b t) (qcol h d)) * k (ix2 (row b ⟨n, hn⟩) (qcol h d)) else ⊥
  else ⊥

/-- Feature `d` of key `n`'s value. -/
def value (d : Fin 128) (n : ℕ) : EReal := if hn : n < 8192 then v (ix2 (row b ⟨n, hn⟩) (vcol h d)) else 0

/-- The softmax-weighted sum of the values. -/
def attn (d : Fin 128) : EReal :=
  ∑ n : Fin 8192, Ideal.div (Ideal.exp (score q k b h t n.val - runMax (score q k b h t) 8192))
    (runSum (score q k b h t) (runMax (score q k b h t) 8192) 8192) * value v b h d n.val

/-- The attention's result, as an array. -/
def out : Mat 16384 512 := fun y =>
  attn q k v ⟨(y 0).val / 8192, by have := idx2_lt0 y; omega⟩ ⟨(y 1).val / 128, by have := idx2_lt1 y; omega⟩
    ⟨(y 0).val % 8192, by omega⟩ ⟨(y 1).val % 128, by omega⟩

theorem out_apply (d : Fin 128) : out q k v (ix2 (row b t) (vcol h d)) = attn q k v b h t d := by
  have e0 : ((ix2 (row b t) (vcol h d) : (⟨2, ![16384, 512]⟩ : Shape).Idx) 0).val = 8192 * b.val + t.val := rfl
  have e1 : ((ix2 (row b t) (vcol h d) : (⟨2, ![16384, 512]⟩ : Shape).Idx) 1).val = 128 * h.val + d.val := rfl
  unfold out
  congr 1 <;> apply Fin.ext <;> simp only [e0, e1] <;> omega

/-! ## Finite scores -/

/-- A real number among the extended reals. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sum {ι : Type} (s : Finset ι) (f : ι → EReal) (hf : ∀ i, IsReal (f i)) : IsReal (∑ i ∈ s, f i) :=
  Finset.sum_induction f IsReal (fun _ _ => IsReal.add) ⟨0, rfl⟩ fun i _ => hf i

theorem IsReal.ne_top {x : EReal} (hx : IsReal x) : x ≠ ⊤ := by
  obtain ⟨r, rfl⟩ := hx
  exact EReal.coe_ne_top r

theorem IsReal.ne_bot {x : EReal} (hx : IsReal x) : x ≠ ⊥ := by
  obtain ⟨r, rfl⟩ := hx
  exact EReal.coe_ne_bot r

/-- The absolute value lies below +∞ only for a real. -/
theorem isReal_of_abs_lt {x : EReal} (hx : max x (-x) < ⊤) : IsReal x := by
  induction x using EReal.rec with
  | bot => simp at hx
  | coe r => exact ⟨r, rfl⟩
  | top => simp at hx

theorem score_ne_top (hq : ∀ y, IsReal (q y)) (hk : ∀ y, IsReal (k y)) (n : ℕ) : score q k b h t n ≠ ⊤ := by
  unfold score
  split
  · split
    · exact (IsReal.sum _ _ fun d => (hq _).mul (hk _)).ne_top
    · exact bot_ne_top
  · exact bot_ne_top

theorem score_zero_ne_bot (hq : ∀ y, IsReal (q y)) (hk : ∀ y, IsReal (k y)) : score q k b h t 0 ≠ ⊥ := by
  rw [score, dif_pos (by omega), if_pos (Nat.zero_le _)]
  exact (IsReal.sum _ _ fun d => (hq _).mul (hk _)).ne_bot

end Cert.Attention

end
-- ==== Proof.AttnArray.lean ====
/-
  THE KERNEL'S WHOLE ARRAY: each grid point's block (Block.lean) put at its place, so the array after the run is
  `Attention.out` of the three arguments.
-/
module

public import proofs.«01_k».proof.Proof.Block
public import proofs.«01_k».proof.Proof.Attention
public import Idealize.ShloMosaic.Lib.Pipeline.ValueKit

@[expose] public section

set_option maxRecDepth 16384

noncomputable section

namespace Cert.KernelIdeal.Attn

open Cert.KernelIdeal Cert.KernelIdeal.Gen Cert.KernelIdeal.Block Cert.Softmax Cert.Attention
open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (c : Dev nD)

/-- The queries, keys and values. -/
abbrev Q : Mat 16384 1024 := m ((c.tc : Thread nD τ).loc main_arg0)
abbrev K : Mat 16384 1024 := m ((c.tc : Thread nD τ).loc main_arg1)
abbrev V' : Mat 16384 512 := m ((c.tc : Thread nD τ).loc main_arg2)

/-- Which blocks a grid point reads and writes. -/
theorem idx_all : ∀ t : Fin cfg0.N,
    win0_0.index t = ![(grid0.coords t 0).val * 16 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val * 16 + (grid0.coords t 2).val, (grid0.coords t 1).val] :=
  (by decide +kernel : ∀ t : Fin grid0.N,
    win0_0.index t = ![(grid0.coords t 0).val * 16 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val * 16 + (grid0.coords t 2).val, (grid0.coords t 1).val])

theorem arr_eq (hq : ∀ y, IsReal (Q m c y)) (hk : ∀ y, IsReal (K m c y)) :
    (dats m 0 c).arrAt 3 cfg0.N = out (Q m c) (K m c) (V' m c) := by
  refine (dats m 0 c).arrAt_eq_of_covers 3 _ (by decide +kernel) fun t hf y => ?_
  blk_simp
  rw [after0_3]
  unfold outsAt0
  obtain ⟨e0, e1, e2, e3⟩ := idx_all t
  have y0 : (y 0).val < 512 := (y 0).isLt
  have y1 : (y 1).val < 128 := (y 1).isLt
  have c0 : (grid0.coords t 0).val < 2 := (grid0.coords t 0).isLt
  have c1 : (grid0.coords t 1).val < 4 := (grid0.coords t 1).isLt
  have c2 : (grid0.coords t 2).val < 16 := (grid0.coords t 2).isLt
  let b : Fin 2 := ⟨(grid0.coords t 0).val, c0⟩
  let h : Fin 4 := ⟨(grid0.coords t 1).val, c1⟩
  have hs : ∀ (r : Fin 512), Block.score (grid0.coords t 2).val (iblk m c 0 t) (iblk m c 1 t) r
      = Attention.score (Q m c) (K m c) b h ⟨512 * (grid0.coords t 2).val + r.val, by omega⟩ := by
    intro r
    funext n
    unfold Block.score Attention.score
    split
    · split
      · refine Finset.sum_congr rfl fun d _ => ?_
        congr 1
        · blk_ext [iblk, V, e0]
          · show ((grid0.coords t 0).val * 16 + (grid0.coords t 2).val) * 512 + r.val = 8192 * (grid0.coords t 0).val + (512 * (grid0.coords t 2).val + r.val)
            omega
          · show (grid0.coords t 1).val * 256 + d.val = 256 * (grid0.coords t 1).val + d.val
            omega
        · blk_ext [iblk, V, e1]
          · show (grid0.coords t 0).val * 8192 + n = 8192 * (grid0.coords t 0).val + n
            omega
          · show (grid0.coords t 1).val * 256 + d.val = 256 * (grid0.coords t 1).val + d.val
            omega
      · rfl
    · rfl
  have hv : ∀ (d : Fin 128), Block.value (iblk m c 2 t) d = Attention.value (V' m c) b h d := by
    intro d
    funext n
    unfold Block.value Attention.value
    split
    · blk_ext [iblk, V, e2]
      · show (grid0.coords t 0).val * 8192 + n = 8192 * (grid0.coords t 0).val + n
        omega
      · show (grid0.coords t 1).val * 128 + d.val = 128 * (grid0.coords t 1).val + d.val
        omega
    · rfl
  have hy : (win0_3.blk t).view.emb y
      = ValueIdx.ix2 (row b ⟨512 * (grid0.coords t 2).val + (y 0).val, by omega⟩) (vcol h ⟨(y 1).val, y1⟩) := by
    blk_ext [e3]
    · show ((grid0.coords t 0).val * 16 + (grid0.coords t 2).val) * 512 + (y 0).val = 8192 * (grid0.coords t 0).val + (512 * (grid0.coords t 2).val + (y 0).val)
      omega
    · show (grid0.coords t 1).val * 128 + (y 1).val = 128 * (grid0.coords t 1).val + (y 1).val
      omega
  rw [hy, Attention.out_apply]
  have hb := Block.out_apply c (grid0.coords t) (ms0_0 t) (hs0_0 t) (ms0_1 t) (hs0_1 t) (ms0_2 t) (hs0_2 t) (ms0_3 t)
    (hs0_3 t) (iblk m c 0 t) (iblk m c 1 t) (iblk m c 2 t)
    (fun r n => by rw [hs]; exact score_ne_top _ _ _ _ _ hq hk n)
    (fun r => by rw [hs]; exact score_zero_ne_bot _ _ _ _ _ hq hk) ⟨(y 0).val, y0⟩ ⟨(y 1).val, y1⟩
  rw [hs, hv] at hb
  exact (congrArg _ (eq_ix2 _)).trans hb

end Cert.KernelIdeal.Attn

end
-- ==== Proof.AttnRef.lean ====
/-
  THE REFERENCE ATTENTION at an index: its einsums, mask and softmax are `Attention.attn` (Attention.lean).
-/
module

public import proofs.«01_k».proof.Proof.Gen.ReferenceIdeal.Read
public import proofs.«01_k».proof.Proof.Attention

@[expose] public section

set_option maxRecDepth 16384

noncomputable section

namespace Cert.ReferenceIdeal.Attn

open Cert.ReferenceIdeal Cert.ReferenceIdeal.Gen Cert.ReferenceIdeal.Read Cert.Softmax Cert.Attention
open Idealize.ShloMosaic Idealize.ShloMosaic.ValueIdx

variable (q k : Mat 16384 1024) (v : Mat 16384 512) (b : Fin 2) (h : Fin 4) (t n : Fin 8192)

theorem neg_inf : (Ideal.ofBits .f32 0xFF800000#32 : EReal) = ⊥ := by
  simp [Ideal.ofBits, Ideal.ieee]

theorem query_apply (d : Fin 256) :
    val_main_v2 (F := Ideal) q (ix4 b h t d) = q (ix2 (row b t) (qcol h d)) := by
  rw [val_main_v2_apply, val_main_v1_apply, val_main_v0_apply]
  show q _ = _
  congr 1
  funext a
  apply Fin.ext
  fin_cases a
  · show (((b.val * 8192 + t.val) * 4 + h.val) * 256 + d.val) / 1024 = 8192 * b.val + t.val
    omega
  · show (((b.val * 8192 + t.val) * 4 + h.val) * 256 + d.val) % 1024 = 256 * h.val + d.val
    omega

theorem key_apply (d : Fin 256) :
    val_main_v5 (F := Ideal) k (ix4 b h t d) = k (ix2 (row b t) (qcol h d)) := by
  rw [val_main_v5_apply, val_main_v4_apply, val_main_v3_apply]
  show k _ = _
  congr 1
  funext a
  apply Fin.ext
  fin_cases a
  · show (((b.val * 8192 + t.val) * 4 + h.val) * 256 + d.val) / 1024 = 8192 * b.val + t.val
    omega
  · show (((b.val * 8192 + t.val) * 4 + h.val) * 256 + d.val) % 1024 = 256 * h.val + d.val
    omega

theorem value_apply (d : Fin 128) :
    val_main_v8 (F := Ideal) v (ix4 b h n d) = value v b h d n.val := by
  rw [val_main_v8_apply, val_main_v7_apply, val_main_v6_apply, value, dif_pos n.isLt]
  show v _ = _
  congr 1
  funext a
  apply Fin.ext
  fin_cases a
  · show (((b.val * 8192 + n.val) * 4 + h.val) * 128 + d.val) / 512 = 8192 * b.val + n.val
    omega
  · show (((b.val * 8192 + n.val) * 4 + h.val) * 128 + d.val) % 512 = 128 * h.val + d.val
    omega

theorem word_le : IntOp.cmpi .sle (BitVec.ofNat 32 n.val) (BitVec.ofNat 32 t.val) = BitVec.ofBool (decide (n.val ≤ t.val)) := by
  show BitVec.ofBool ((BitVec.ofNat 32 n.val).sle (BitVec.ofNat 32 t.val)) = _
  rw [BitVec.sle_eq_decide, BitVec.toInt_ofNat', BitVec.toInt_ofNat', Int.bmod_eq_of_le (by omega) (by omega),
    Int.bmod_eq_of_le (by omega) (by omega)]
  congr 1
  exact decide_eq_decide.2 (by omega)

theorem score_apply :
    val_main_v16 (F := Ideal) q k (ix4 b h t n) = score q k b h t n.val := by
  rw [val_main_v16_apply, val_main_call0_v1_apply, val_main_v15_apply, val_main_v13_apply, val_main_v11_apply,
    val_main_v10_apply, val_main_v14_apply, val_main_v12_apply, val_main_v10_apply, val_main_call0_v2_apply,
    val_main_call0_v0_apply, val_main_cst_apply, val_main_v9_apply]
  show Scalar.select (IntOp.cmpi .sle (BitVec.ofNat 32 n.val) (BitVec.ofNat 32 t.val)) _ (Ideal.ofBits .f32 0xFF800000#32) = _
  rw [word_le, neg_inf, score, dif_pos n.isLt]
  by_cases hn : n.val ≤ t.val
  · rw [decide_eq_true hn, if_pos hn, show BitVec.ofBool true = 1#1 from rfl, select_one]
    refine Finset.sum_congr rfl fun d _ => ?_
    rw [← query_apply q, ← key_apply k b h ⟨n.val, n.isLt⟩ d]
    exact congrArg₂ _ (congrArg _ (eq_ix4 _)) (congrArg _ (eq_ix4 _))
  · rw [decide_eq_false hn, if_neg hn]
    rfl

theorem max_apply :
    val_main_v17 (F := Ideal) q k (ix3 b h t) = runMax (score q k b h t) 8192 := by
  unfold val_main_v17
  rw [Host.reduce_eq_fold_single (FloatOps.maximumf (F := Ideal) (φ := .f32)) _ _ _ (by decide : S2x4x8192x8192.Reduces [3] S2x4x8192)]
  rw [runMax_eq_fold]
  show Finset.univ.fold max (Ideal.ofBits .f32 0xFF800000#32) _ = _
  rw [neg_inf]
  refine Finset.fold_congr fun n _ => ?_
  refine Eq.trans (congrArg (val_main_v16 (F := Ideal) q k) ?_) (score_apply q k b h t n)
  funext a
  fin_cases a <;> rfl

theorem shift_apply :
    val_main_v21 (F := Ideal) q k (ix4 b h t n) = runMax (score q k b h t) 8192 := by
  rw [val_main_v21_apply, val_main_v20_apply, val_main_v19_apply, val_main_v18_apply, val_main_cst_1_apply]
  refine Eq.trans ?_ (max_apply q k b h t)
  show max (Ideal.ofBits .f32 0xFF800000#32 : EReal) (val_main_v17 (F := Ideal) q k _) = _
  rw [neg_inf, bot_sup_eq]
  congr 1
  exact eq_ix3 _

theorem exp_apply :
    val_main_v23 (F := Ideal) q k (ix4 b h t n)
      = Ideal.exp (score q k b h t n.val - runMax (score q k b h t) 8192) := by
  rw [val_main_v23_apply, val_main_v22_apply, score_apply, shift_apply]
  rfl

theorem sum_apply :
    val_main_v26 (F := Ideal) q k (ix4 b h t n)
      = runSum (score q k b h t) (runMax (score q k b h t) 8192) 8192 := by
  rw [val_main_v26_apply, val_main_v25_apply, val_main_v24_apply, val_main_cst_2_apply]
  show (Ideal.ofBits .f32 0x00000000#32 : EReal) + _ = _
  rw [Ideal.ofBits_zero_f32, zero_add, runSum, Finset.sum_range]
  refine Finset.sum_congr rfl fun n' _ => ?_
  rw [← exp_apply]
  congr 1
  exact eq_ix4 _

/-- THE REFERENCE at a row and a column. -/
theorem res_apply (d : Fin 128) :
    val_main_v30 (F := Ideal) q k v (ix2 (row b t) (vcol h d)) = attn q k v b h t d := by
  rw [val_main_v30_apply, val_main_v29_apply]
  have e : idx_main_v29 (idx_main_v30 (ix2 (row b t) (vcol h d))) = ix4 b h t d := by
    funext a
    apply Fin.ext
    fin_cases a
    · show ((8192 * b.val + t.val) * 512 + (128 * h.val + d.val)) / 4194304 = b.val
      omega
    · show ((8192 * b.val + t.val) * 512 + (128 * h.val + d.val)) / 128 % 4 = h.val
      omega
    · show ((8192 * b.val + t.val) * 512 + (128 * h.val + d.val)) / 512 % 8192 = t.val
      omega
    · show ((8192 * b.val + t.val) * 512 + (128 * h.val + d.val)) % 128 = d.val
      omega
  rw [e, val_main_v28_apply]
  refine Finset.sum_congr rfl fun n _ => ?_
  have el : lidx_main_v28 (ix4 b h t d) n = ix4 b h t n := eq_ix4 _
  have er : ridx_main_v28 (ix4 b h t d) n = ix4 b h n d := eq_ix4 _
  rw [el, er, val_main_v27_apply, exp_apply, sum_apply, value_apply]
  rfl

/-- The reference's result as an array. -/
theorem res_eq : val_main_v30 (F := Ideal) q k v = out q k v := by
  funext y
  have h0 := idx2_lt0 y
  have h1 := idx2_lt1 y
  have e : y = ix2 (row ⟨(y 0).val / 8192, by omega⟩ ⟨(y 0).val % 8192, by omega⟩)
      (vcol ⟨(y 1).val / 128, by omega⟩ ⟨(y 1).val % 128, by omega⟩) := by
    refine (eq_ix2 y).trans ?_
    congr 1 <;> apply Fin.ext
    · show (y 0).val = 8192 * ((y 0).val / 8192) + (y 0).val % 8192
      omega
    · show (y 1).val = 128 * ((y 1).val / 128) + (y 1).val % 128
      omega
  rw [e, res_apply, out_apply]

end Cert.ReferenceIdeal.Attn

end
-- ==== Proof.Norm.lean ====
/-
  THE ROOT-MEAN-SQUARE NORM at the extended reals, as a function of one row, and the vector operations a kernel spells it
  with read at an index.
-/
module

public import Idealize.ShloMosaic.Lib.ValueIdx
public import Idealize.ShloMosaic.Lib.Pipeline.Value
public import Idealize.ShloMosaic.Lib.MatmulPlain
public import Idealize.ShloMosaic.PureOps.Ideal.Laws

@[expose] public section

noncomputable section

namespace Cert.Norm

open Idealize.ShloMosaic Idealize.ShloMosaic.ValueIdx

/-- One over the root of a row's mean square plus `eps`: `n` is the word of the row's length, `eps` of the offset. -/
def scale (n eps : BitVec 32) {K : ℕ} (f : Fin K → EReal) : EReal :=
  Ideal.rsqrt (Ideal.div (∑ k, f k * f k) (Ideal.ofBits .f32 n) + Ideal.ofBits .f32 eps)

/-- The normed row. -/
def normed (n eps : BitVec 32) {K : ℕ} (f g : Fin K → EReal) (k : Fin K) : EReal := f k * scale n eps f * g k

variable {M K N : ℕ}

/-- A column spread over a row. -/
theorem spread_col (x : FVec Ideal ⟨2, ![M, 1]⟩ .f32) (h : (⟨2, ![M, 1]⟩ : Shape).Broadcasts ⟨2, ![M, N]⟩) (r : Fin M) (j : Fin N) :
    broadcastTo ⟨2, ![M, N]⟩ x h (ix2 r j) = x (ix2 r 0) := by
  apply broadcastTo_apply
  intro a
  fin_cases a
  · show r.val = if M = 1 then 0 else r.val
    split
    · have := r.isLt; omega
    · rfl
  · rfl

/-- A row spread over the rows. -/
theorem spread_row (x : FVec Ideal ⟨2, ![1, N]⟩ .f32) (h : (⟨2, ![1, N]⟩ : Shape).Broadcasts ⟨2, ![M, N]⟩) (r : Fin M) (j : Fin N) :
    broadcastTo ⟨2, ![M, N]⟩ x h (ix2 r j) = x (ix2 0 j) := by
  apply broadcastTo_apply
  intro a
  fin_cases a
  · rfl
  · show j.val = if N = 1 then 0 else j.val
    split
    · have := j.isLt; omega
    · rfl

/-- A vector turned into a column. -/
theorem to_col (x : FVec Ideal ⟨1, ![M]⟩ .f32) (h : (⟨1, ![M]⟩ : Shape).ShapeCasts ⟨2, ![M, 1]⟩) (r : Fin M) :
    shapeCast ⟨2, ![M, 1]⟩ x h (ix2 r 0) = x (ix1 r) := by
  apply shapeCast_apply
  rw [Shape.rowMajor_val_one, Shape.rowMajor_val_two]
  show r.val = r.val * 1 + 0
  omega

/-- A row's sum. -/
theorem row_sum (x : FVec Ideal ⟨2, ![M, K]⟩ .f32) (h : (⟨2, ![M, K]⟩ : Shape).Reduces [1] ⟨1, ![M]⟩) (hk) (hb) (r : Fin M) :
    multiReduction .add [1] ⟨1, ![M]⟩ x 0x00000000#32 h hk hb (ix1 r) = ∑ k : Fin K, x (ix2 r k) := by
  refine (Ideal.multiReduction_add_single _ _ _ _ _ _).trans ?_
  refine Finset.sum_congr rfl fun k _ => congrArg x ?_
  funext a
  fin_cases a <;> rfl

/-- Batch and position merged into one row number. -/
theorem merge_rows {α : Type} (x : (⟨3, ![2, 8192, N]⟩ : Shape).Idx → α)
    (h : (⟨3, ![2, 8192, N]⟩ : Shape).ShapeCasts ⟨2, ![16384, N]⟩) (r : Fin 16384) (k : Fin N) :
    shapeCast ⟨2, ![16384, N]⟩ x h (ix2 r k) = x (ix3 ⟨r.val / 8192, by omega⟩ ⟨r.val % 8192, by omega⟩ k) := by
  apply shapeCast_apply
  rw [Shape.rowMajor_val_three, Shape.rowMajor_val_two]
  show (r.val / 8192 * 8192 + r.val % 8192) * N + k.val = r.val * N + k.val
  rw [show r.val / 8192 * 8192 + r.val % 8192 = r.val by omega]

/-- A vector turned into a row. -/
theorem to_row {α : Type} (x : (⟨1, ![N]⟩ : Shape).Idx → α) (h : (⟨1, ![N]⟩ : Shape).ShapeCasts ⟨2, ![1, N]⟩) (k : Fin N) :
    shapeCast ⟨2, ![1, N]⟩ x h (ix2 0 k) = x (ix1 k) := by
  apply shapeCast_apply
  rw [Shape.rowMajor_val_one, Shape.rowMajor_val_two]
  show k.val = 0 * N + k.val
  omega

/-- A kernel's normed block at an index. -/
theorem block_apply (n eps : BitVec 32) (x : FVec Ideal ⟨2, ![M, K]⟩ .f32) (g : FVec Ideal ⟨2, ![1, K]⟩ .f32)
    (h : (⟨2, ![M, K]⟩ : Shape).Reduces [1] ⟨1, ![M]⟩) (hk) (hb) (hc : (⟨1, ![M]⟩ : Shape).ShapeCasts ⟨2, ![M, 1]⟩)
    (h1 : (⟨2, ![M, 1]⟩ : Shape).Broadcasts ⟨2, ![M, K]⟩) (h2 : (⟨2, ![1, K]⟩ : Shape).Broadcasts ⟨2, ![M, K]⟩)
    (r : Fin M) (k : Fin K) :
    mulf (mulf x (broadcastTo ⟨2, ![M, K]⟩ (rsqrt (addf (divf (shapeCast ⟨2, ![M, 1]⟩
        (multiReduction .add [1] ⟨1, ![M]⟩ (mulf x x) 0x00000000#32 h hk hb) hc) (broadcast ⟨2, ![M, 1]⟩ (Scalar.ofBits .f32 n)))
        (broadcast ⟨2, ![M, 1]⟩ (Scalar.ofBits .f32 eps)))) h1)) (broadcastTo ⟨2, ![M, K]⟩ g h2) (ix2 r k)
      = normed n eps (fun k => x (ix2 r k)) (fun k => g (ix2 0 k)) k := by
  show x (ix2 r k) * broadcastTo ⟨2, ![M, K]⟩ _ h1 (ix2 r k) * broadcastTo ⟨2, ![M, K]⟩ g h2 (ix2 r k) = _
  rw [spread_col, spread_row]
  show x (ix2 r k) * Ideal.rsqrt (Ideal.div (shapeCast ⟨2, ![M, 1]⟩ _ hc (ix2 r 0)) (Ideal.ofBits .f32 n) + Ideal.ofBits .f32 eps) * _ = _
  rw [to_col, row_sum]
  rfl

/-- A kernel's normed block times a block of weights, from the entries of the blocks. -/
theorem block_dot (n eps : BitVec 32) (x : FVec Ideal ⟨2, ![M, K]⟩ .f32) (g : FVec Ideal ⟨2, ![1, K]⟩ .f32)
    (w : FVec Ideal ⟨2, ![K, N]⟩ .bf16)
    (h : (⟨2, ![M, K]⟩ : Shape).Reduces [1] ⟨1, ![M]⟩) (hk) (hb) (hc : (⟨1, ![M]⟩ : Shape).ShapeCasts ⟨2, ![M, 1]⟩)
    (h1 : (⟨2, ![M, 1]⟩ : Shape).Broadcasts ⟨2, ![M, K]⟩) (h2 : (⟨2, ![1, K]⟩ : Shape).Broadcasts ⟨2, ![M, K]⟩) (hbits)
    (r : Fin M) (j : Fin N) (x' g' w' : Fin K → EReal) (hx : ∀ k, x (ix2 r k) = x' k) (hg : ∀ k, g (ix2 0 k) = g' k)
    (hw : ∀ k, w (ix2 k j) = w' k) :
    FloatOps.matmul (DotDims.plain M K N) none
      (truncf .bf16 (mulf (mulf x (broadcastTo ⟨2, ![M, K]⟩ (rsqrt (addf (divf (shapeCast ⟨2, ![M, 1]⟩
        (multiReduction .add [1] ⟨1, ![M]⟩ (mulf x x) 0x00000000#32 h hk hb) hc) (broadcast ⟨2, ![M, 1]⟩ (Scalar.ofBits .f32 n)))
        (broadcast ⟨2, ![M, 1]⟩ (Scalar.ofBits .f32 eps)))) h1)) (broadcastTo ⟨2, ![M, K]⟩ g h2)) hbits)
      w (constant ⟨2, ![M, N]⟩ .f32 0x00000000#32) (ix2 r j)
      = ∑ k : Fin K, normed n eps x' g' k * w' k := by
  rw [Ideal.matmul_plain_apply]
  show (Ideal.ofBits .f32 0x00000000#32 : EReal) + _ = _
  rw [Ideal.ofBits_zero_f32, zero_add]
  obtain rfl := funext hx
  obtain rfl := funext hg
  obtain rfl := funext hw
  exact Finset.sum_congr rfl fun k _ => congrArg (· * _) (block_apply n eps x g h hk hb hc h1 h2 r k)

end Cert.Norm

end
-- ==== Proof.Project.lean ====
/-
  THE INPUT PROJECTION: the normed rows times the weights, from the kernel's blocks and from the reference.
-/
module

public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Norm
public import proofs.«01_k».proof.Proof.Attention
public import Idealize.ShloMosaic.Lib.Pipeline.ValueKit
public import Idealize.ShloMosaic.Lib.Pipeline.ValueKit.Tiles

@[expose] public section

set_option maxRecDepth 16384

noncomputable section

namespace Cert.ProjectIdeal.Rows

open Cert.ProjectIdeal Cert.ProjectIdeal.Gen Cert.Norm Cert.Attention
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-- Row `r`, column `j` of the normed rows times the weights. -/
def entry (x : (⟨3, ![2, 8192, 1024]⟩ : Shape).Idx → EReal) (g : (⟨1, ![1024]⟩ : Shape).Idx → EReal) (w : Mat 1024 3072)
    (r : Fin 16384) (j : Fin 3072) : EReal :=
  ∑ k : Fin 1024, normed 0x44800000#32 0x358637BD#32
    (fun k => x (ix3 ⟨r.val / 8192, by omega⟩ ⟨r.val % 8192, by omega⟩ k)) (fun k => g (ix1 k)) k * w (ix2 k j)

def out (x : (⟨3, ![2, 8192, 1024]⟩ : Shape).Idx → EReal) (g : (⟨1, ![1024]⟩ : Shape).Idx → EReal) (w : Mat 1024 3072) :
    Mat 16384 3072 := fun y => entry x g w (y 0) (y 1)

/-- One grid point's block at an index, from the entries of the blocks it reads. -/
theorem pay_of (x : Vec Ideal S512x1024 .f32) (g : Vec Ideal S1x1024 .f32) (w : Vec Ideal S1024x3072 .bf16) (r : Fin 512)
    (j : Fin 3072) (x' g' w' : Fin 1024 → EReal) (hx : ∀ k, x (ix2 r k) = x' k) (hg : ∀ k, g (ix2 0 k) = g' k)
    (hw : ∀ k, w (ix2 k j) = w' k) :
    k0_pay1 x g w (ix2 r j) = ∑ k : Fin 1024, normed 0x44800000#32 0x358637BD#32 x' g' k * w' k := by
  unfold k0_pay1
  dsimp only
  simp only [shapeCast_self]
  exact block_dot 0x44800000#32 0x358637BD#32 x g w _ _ _ _ _ _ _ r j x' g' w' hx hg hw

theorem out_block (x : Vec Ideal S512x1024 .f32) (g : Vec Ideal S1x1024 .f32) (w : Vec Ideal S1024x3072 .bf16) :
    out0_3 x g w = k0_pay1 x g w := by
  frame_out

variable (m : (ℓ : Loc nD τ sig) → Buf (Elt Ideal) ℓ) (c : Dev nD)

/-- The three arguments. -/
abbrev X : (⟨3, ![2, 8192, 1024]⟩ : Shape).Idx → EReal := m ((c.tc : Thread nD τ).loc main_arg0)
abbrev G : (⟨1, ![1024]⟩ : Shape).Idx → EReal := m ((c.tc : Thread nD τ).loc main_arg1)
abbrev W : Mat 1024 3072 := m ((c.tc : Thread nD τ).loc main_arg2)

theorem rows_apply (r : Fin 16384) (k : Fin 1024) :
    V m c main_v0 (ix2 r k) = X m c (ix3 ⟨r.val / 8192, by omega⟩ ⟨r.val % 8192, by omega⟩ k) := by
  unfold_abbrev_sides
  after_results
  exact merge_rows _ _ r k

theorem gain_apply (k : Fin 1024) : V m c main_v2 (ix2 0 k) = G m c (ix1 k) := by
  unfold_abbrev_sides
  after_results
  exact to_row _ _ k

theorem weight_apply (k : Fin 1024) (j : Fin 3072) : V m c main_v1 (ix2 k j) = W m c (ix2 k j) := by
  unfold_abbrev_sides
  after_results
  rfl

/-- Which blocks a grid point reads and writes. -/
theorem idx_all : ∀ t : Fin cfg0.N,
    win0_0.index t = ![(grid0.coords t 0).val, 0] ∧ win0_1.index t = ![0, 0] ∧ win0_2.index t = ![0, 0]
    ∧ win0_3.index t = ![(grid0.coords t 0).val, 0] :=
  (by decide +kernel : ∀ t : Fin grid0.N,
    win0_0.index t = ![(grid0.coords t 0).val, 0] ∧ win0_1.index t = ![0, 0] ∧ win0_2.index t = ![0, 0]
    ∧ win0_3.index t = ![(grid0.coords t 0).val, 0])

theorem arr_eq : (dats m 0 c).arrAt 3 cfg0.N = out (X m c) (G m c) (W m c) := by
  refine (dats m 0 c).arrAt_eq_of_covers 3 _ (by decide +kernel) fun t hf y => ?_
  blk_simp
  rw [after0_3]
  obtain ⟨e0, e1, e2, e3⟩ := idx_all t
  have y0 : (y 0).val < 512 := (y 0).isLt
  have y1 : (y 1).val < 3072 := (y 1).isLt
  have c0 : (grid0.coords t 0).val < 32 := (grid0.coords t 0).isLt
  have hy : (win0_3.blk t).view.emb y
      = ix2 (⟨512 * (grid0.coords t 0).val + (y 0).val, by omega⟩ : Fin 16384) (⟨(y 1).val, y1⟩ : Fin 3072) := by
    blk_ext [e3]
  have hx : ∀ k : Fin 1024, iblk m c 0 t (ix2 (⟨(y 0).val, y0⟩ : Fin 512) k)
      = V m c main_v0 (ix2 (⟨512 * (grid0.coords t 0).val + (y 0).val, by omega⟩ : Fin 16384) k) := fun k => by
    blk_ext [iblk, e0]
  have hg : ∀ k : Fin 1024, iblk m c 1 t (ix2 0 k) = V m c main_v2 (ix2 0 k) := fun k => by
    blk_ext [iblk, e1]
  have hw : ∀ k : Fin 1024, iblk m c 2 t (ix2 k (⟨(y 1).val, y1⟩ : Fin 3072)) = V m c main_v1 (ix2 k (⟨(y 1).val, y1⟩ : Fin 3072)) := fun k => by
    blk_ext [iblk, e2]
  rw [hy, out_block]
  exact (congrArg _ (ValueIdx.eq_ix2 y)).trans (pay_of (iblk m c 0 t) (iblk m c 1 t) (iblk m c 2 t) ⟨(y 0).val, y0⟩ ⟨(y 1).val, y1⟩ _ _ _
    (fun k => (hx k).trans (rows_apply m c _ k)) (fun k => (hg k).trans (gain_apply m c k))
    (fun k => (hw k).trans (weight_apply m c k _)))

end Cert.ProjectIdeal.Rows

namespace Cert.ProjectRefIdeal.Rows

open Cert.ProjectRefIdeal Cert.ProjectRefIdeal.Read Cert.Norm Cert.Attention Cert.ProjectIdeal.Rows
open Idealize.ShloMosaic hiding ix1 ix2 ix3
open Idealize.ShloMosaic.ValueIdx

variable (x : (⟨3, ![2, 8192, 1024]⟩ : Shape).Idx → EReal) (g : (⟨1, ![1024]⟩ : Shape).Idx → EReal) (w : Mat 1024 3072)

theorem scale_apply (b : Fin 2) (t : Fin 8192) (k : Fin 1024) :
    val_main_v8 (F := Ideal) x (ix3 b t k) = scale 0x44800000#32 0x358637BD#32 fun k => x (ix3 b t k) := by
  rw [val_main_v8_apply, val_main_v7_apply, val_main_v6_apply, val_main_v5_apply, val_main_cst_1_apply, val_main_v4_apply,
    val_main_v3_apply, val_main_cst_0_apply, val_main_v2_apply, val_main_v1_apply, val_main_cst_apply]
  show Ideal.rsqrt (Ideal.div ((Ideal.ofBits .f32 0x00000000#32 : EReal) + _) (Ideal.ofBits .f32 0x44800000#32)
    + Ideal.ofBits .f32 0x358637BD#32) = _
  rw [Ideal.ofBits_zero_f32, zero_add, scale]
  congr 3
  refine Finset.sum_congr rfl fun k _ => ?_
  rw [val_main_v0_apply]
  exact congrArg (fun i => x i * x i) (ValueIdx.eq_ix3 _)

/-- The reference's result as an array. -/
theorem res_eq : val_main_v14 (F := Ideal) x g w = out x g w := by
  funext y
  have h0 := idx2_lt0 y
  have h1 := idx2_lt1 y
  rw [val_main_v14_apply]
  have e : idx_main_v14 y = ix3 (⟨(y 0).val / 8192, by omega⟩ : Fin 2) (⟨(y 0).val % 8192, by omega⟩ : Fin 8192)
      (⟨(y 1).val, h1⟩ : Fin 3072) := by
    funext a
    apply Fin.ext
    fin_cases a
    · show ((y 0).val * 3072 + (y 1).val) / 25165824 = (y 0).val / 8192
      omega
    · show ((y 0).val * 3072 + (y 1).val) / 3072 % 8192 = (y 0).val % 8192
      omega
    · show ((y 0).val * 3072 + (y 1).val) % 3072 = (y 1).val
      omega
  rw [e, val_main_v13_apply]
  show _ = entry x g w (y 0) (y 1)
  unfold entry
  refine Finset.sum_congr rfl fun k _ => ?_
  have el : lidx_main_v13 (ix3 (⟨(y 0).val / 8192, by omega⟩ : Fin 2) (⟨(y 0).val % 8192, by omega⟩ : Fin 8192)
      (⟨(y 1).val, h1⟩ : Fin 3072)) k = ix3 ⟨(y 0).val / 8192, by omega⟩ ⟨(y 0).val % 8192, by omega⟩ k := ValueIdx.eq_ix3 _
  rw [el, val_main_v12_apply, val_main_v9_apply, scale_apply, val_main_v11_apply, val_main_v10_apply]
  exact congrArg₂ _ (congrArg _ (congrArg g (ValueIdx.eq_ix1 _))) (congrArg w (ValueIdx.eq_ix2 _))

end Cert.ProjectRefIdeal.Rows

end
-- ==== Proof.Latent.lean ====
/-
  THE SECOND LAYER'S PROJECTION: RMS-normed rows times the weights, its columns in the kernel's packed order (the rotary
  columns twice, as they are and with their halves swapped, each padded with zeros), from the kernel's blocks and from the
  reference.
-/
module

public import proofs.«01_k».proof.Proof.Gen.LatentIdeal.Value
public import proofs.«01_k».proof.Proof.Gen.LatentRefIdeal.Run
public import proofs.«01_k».proof.Proof.Gen.LatentRefIdeal.Read
public import proofs.«01_k».proof.Proof.Norm
public import proofs.«01_k».proof.Proof.Attention
public import Idealize.ShloMosaic.Lib.Pipeline.ValueKit
public import Idealize.ShloMosaic.Lib.Pipeline.ValueKit.Tiles
public import Idealize.ShloMosaic.Lib.StableHlo.RunClose
public import Idealize.ShloMosaic.Lib.KernelVsHost

@[expose] public section

set_option maxRecDepth 16384

noncomputable section

namespace Cert.LatentIdeal.Rows

open Cert.LatentIdeal Cert.LatentIdeal.Gen Cert.Norm Cert.Attention
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-- A row of 1984 columns in the packed order: the last 1536, the first 448, 64 zeros, the rotary columns 384 … 447 with their
    halves swapped, 64 zeros. -/
def packed (f : Fin 1984 → EReal) (j : Fin 2176) : EReal :=
  if h : j.val < 1536 then f ⟨448 + j.val, by omega⟩
  else if h : j.val < 1984 then f ⟨j.val - 1536, by omega⟩
  else if j.val < 2048 then 0
  else if h : j.val < 2080 then f ⟨j.val - 1632, by omega⟩
  else if h : j.val < 2112 then f ⟨j.val - 1696, by omega⟩
  else 0

/-- A sum against packed weights is the packed row of the sums. -/
theorem sum_packed (n : Fin 1024 → EReal) (f : Fin 1024 → Fin 1984 → EReal) (j : Fin 2176) :
    ∑ k, n k * packed (f k) j = packed (fun i => ∑ k, n k * f k i) j := by
  unfold packed
  split_ifs <;> simp

/-- Row `r`, column `j` of the normed rows times the weights, packed. -/
def entry (x : Mat 16384 1024) (g : (⟨1, ![1024]⟩ : Shape).Idx → EReal) (w : Mat 1024 1984)
    (r : Fin 16384) (j : Fin 2176) : EReal :=
  packed (fun i => ∑ k : Fin 1024, normed 0x44800000#32 0x358637BD#32
    (fun k => x (ix2 r k)) (fun k => g (ix1 k)) k * w (ix2 k i)) j

def out (x : Mat 16384 1024) (g : (⟨1, ![1024]⟩ : Shape).Idx → EReal) (w : Mat 1024 1984) :
    Mat 16384 2176 := fun y => entry x g w (y 0) (y 1)

/-- 64 columns with 64 columns of padding on the right: a column of the left half. -/
theorem padded_left {u : Shape} (x : Mat 1024 64) (v : u.Idx → EReal) (h) (hu) (k : Fin 1024) (j : Fin 128) (hj : j.val < 64) :
    pad ⟨2, ![1024, 128]⟩ ![0, 0] ![0, 64] ![0, 0] x v h hu (ix2 k j) = x (ix2 k ⟨j.val, hj⟩) := by
  refine pad_apply_of_inside _ _ _ _ _ _ _ _ _ fun a => ?_
  fin_cases a
  · show k.val = 0 + k.val * 1
    omega
  · show j.val = 0 + j.val * 1
    omega

/-- A column of the padding. -/
theorem padded_right {u : Shape} (x : Mat 1024 64) (v : u.Idx → EReal) (hv : ∀ i, v i = 0) (h) (hu) (k : Fin 1024) (j : Fin 128)
    (hj : ¬j.val < 64) :
    pad ⟨2, ![1024, 128]⟩ ![0, 0] ![0, 64] ![0, 0] x v h hu (ix2 k j) = 0 := by
  refine (pad_apply_of_not_inside _ _ _ _ _ _ _ _ 1 fun hin => hj ?_).trans (hv _)
  have := hin.2.2
  change (j.val - 0) / 1 < 64 at this
  omega

section

variable (w : Mat 1024 1984)

/-- The rotary columns. -/
abbrev rotary : Mat 1024 64 := extractStridedSlice S1024x64 ![0, 384] w slices_S1024x1984_S1024x64_0_384

theorem rotary_apply (k : Fin 1024) (j : Fin 64) : rotary w (ix2 k j) = w (ix2 k ⟨384 + j.val, by omega⟩) := by
  refine extractStridedSlice_apply _ _ _ _ _ fun a => ?_
  fin_cases a
  · show k.val = 0 + k.val
    omega
  · rfl

/-- The rotary columns with their halves swapped. -/
abbrev swapped : Mat 1024 64 :=
  concatenate S1024x64 1 [⟨S1024x32, extractStridedSlice S1024x32 ![0, 32] (rotary w) slices_S1024x64_S1024x32_0_32⟩,
    ⟨S1024x32, extractStridedSlice S1024x32 ![0, 0] (rotary w) slices_S1024x64_S1024x32_0_0⟩]
    concatenates_S1024x32_S1024x32_S1024x64_d1

theorem swapped_left (k : Fin 1024) (j : Fin 64) (hj : j.val < 32) :
    swapped w (ix2 k j) = w (ix2 k ⟨416 + j.val, by omega⟩) := by
  refine Eq.trans (concatenate_pair_apply_left (t := S1024x64) (s₁ := S1024x32) (s₂ := S1024x32) _ _ _ _ _ rfl (ix2 k (⟨j.val, hj⟩ : Fin 32)) fun b => ?_) ?_
  · fin_cases b <;> rfl
  refine (extractStridedSlice_apply _ _ _ _ (ix2 k (⟨32 + j.val, by omega⟩ : Fin 64)) fun a => ?_).trans ?_
  · fin_cases a
    · show k.val = 0 + k.val
      omega
    · rfl
  rw [rotary_apply]
  refine congrArg (fun i => w (ix2 k i)) (Fin.ext ?_)
  show 384 + (32 + j.val) = 416 + j.val
  omega

theorem swapped_right (k : Fin 1024) (j : Fin 64) (hj : ¬j.val < 32) :
    swapped w (ix2 k j) = w (ix2 k ⟨352 + j.val, by omega⟩) := by
  refine Eq.trans (concatenate_pair_apply_right (t := S1024x64) (s₁ := S1024x32) (s₂ := S1024x32) _ _ _ _ _ rfl rfl (ix2 k (⟨j.val - 32, by omega⟩ : Fin 32)) (fun b hb => ?_) ?_) ?_
  · fin_cases b
    · rfl
    · exact absurd rfl hb
  · show j.val - 32 + 32 = j.val
    omega
  refine (extractStridedSlice_apply _ _ _ _ (ix2 k (⟨j.val - 32, by omega⟩ : Fin 64)) fun a => ?_).trans ?_
  · fin_cases a
    · show k.val = 0 + k.val
      omega
    · show j.val - 32 = 0 + (j.val - 32)
      omega
  rw [rotary_apply]
  refine congrArg (fun i => w (ix2 k i)) (Fin.ext ?_)
  show 384 + (j.val - 32) = 352 + j.val
  omega

/-- The packed weights' columns. -/
theorem weights_packed {u : Shape} (v v' : u.Idx → EReal) (hv : ∀ i, v i = 0) (hv' : ∀ i, v' i = 0) (hu hu') (k : Fin 1024) (j : Fin 2176) :
    concatenate S1024x2176 1 [⟨S1024x1536, extractStridedSlice S1024x1536 ![0, 448] w slices_S1024x1984_S1024x1536_0_448⟩,
      ⟨S1024x384, extractStridedSlice S1024x384 ![0, 0] w slices_S1024x1984_S1024x384_0_0⟩,
      ⟨S1024x128, pad S1024x128 ![0, 0] ![0, 64] ![0, 0] (rotary w) v pads_S1024x64_S1024x128_000_0640 hu⟩,
      ⟨S1024x128, pad S1024x128 ![0, 0] ![0, 64] ![0, 0] (swapped w) v' pads_S1024x64_S1024x128_000_0640 hu'⟩]
      concatenates_S1024x1536_S1024x384_S1024x128_S1024x128_S1024x2176_d1 (ix2 k j) = packed (fun i => w (ix2 k i)) j := by
  have hj := j.isLt
  by_cases h1 : j.val < 1536
  · rw [packed, dif_pos h1]
    refine Eq.trans (concatenate_apply_piece (t := S1024x2176) 1 _ _ _ 0 (by exact (by decide : 0 < 4)) S1024x1536 _ rfl rfl 0 rfl (ix2 k (⟨j.val, h1⟩ : Fin 1536))
      (fun b hb => ?_) ?_) ?_
    · fin_cases b
      · rfl
      · exact absurd rfl hb
    · show 0 + j.val = j.val
      omega
    refine extractStridedSlice_apply _ _ _ _ _ fun a => ?_
    fin_cases a
    · show k.val = 0 + k.val
      omega
    · rfl
  by_cases h2 : j.val < 1920
  · rw [packed, dif_neg h1, dif_pos (by omega)]
    refine Eq.trans (concatenate_apply_piece (t := S1024x2176) 1 _ _ _ 1 (by exact (by decide : 1 < 4)) S1024x384 _ rfl rfl 1536 rfl (ix2 k (⟨j.val - 1536, by omega⟩ : Fin 384))
      (fun b hb => ?_) ?_) ?_
    · fin_cases b
      · rfl
      · exact absurd rfl hb
    · show 1536 + (j.val - 1536) = j.val
      omega
    refine extractStridedSlice_apply _ _ _ _ _ fun a => ?_
    fin_cases a
    · show k.val = 0 + k.val
      omega
    · show j.val - 1536 = 0 + (j.val - 1536)
      omega
  by_cases h3 : j.val < 2048
  · refine Eq.trans (concatenate_apply_piece (t := S1024x2176) 1 _ _ _ 2 (by exact (by decide : 2 < 4)) S1024x128 _ rfl rfl 1920 rfl (ix2 k (⟨j.val - 1920, by omega⟩ : Fin 128))
      (fun b hb => ?_) ?_) ?_
    · fin_cases b
      · rfl
      · exact absurd rfl hb
    · show 1920 + (j.val - 1920) = j.val
      omega
    by_cases h4 : j.val < 1984
    · refine (padded_left _ _ _ _ _ _ (show j.val - 1920 < 64 by omega)).trans ((rotary_apply w k _).trans ?_)
      rw [packed, dif_neg h1, dif_pos h4]
      refine congrArg (fun i => w (ix2 k i)) (Fin.ext ?_)
      show 384 + (j.val - 1920) = j.val - 1536
      omega
    · rw [packed, dif_neg h1, dif_neg h4, if_pos h3]
      exact padded_right _ _ hv _ _ _ _ (show ¬j.val - 1920 < 64 by omega)
  · refine Eq.trans (concatenate_apply_piece (t := S1024x2176) 1 _ _ _ 3 (by exact (by decide : 3 < 4)) S1024x128 _ rfl rfl 2048 rfl (ix2 k (⟨j.val - 2048, by omega⟩ : Fin 128))
      (fun b hb => ?_) ?_) ?_
    · fin_cases b
      · rfl
      · exact absurd rfl hb
    · show 2048 + (j.val - 2048) = j.val
      omega
    rw [packed, dif_neg h1, dif_neg (by omega), if_neg h3]
    by_cases h4 : j.val < 2112
    · refine (padded_left _ _ _ _ _ _ (show j.val - 2048 < 64 by omega)).trans ?_
      by_cases h5 : j.val < 2080
      · rw [dif_pos h5]
        refine (swapped_left w k _ (show j.val - 2048 < 32 by omega)).trans ?_
        refine congrArg (fun i => w (ix2 k i)) (Fin.ext ?_)
        show 416 + (j.val - 2048) = j.val - 1632
        omega
      · rw [dif_neg h5, dif_pos h4]
        refine (swapped_right w k _ (show ¬j.val - 2048 < 32 by omega)).trans ?_
        refine congrArg (fun i => w (ix2 k i)) (Fin.ext ?_)
        show 352 + (j.val - 2048) = j.val - 1696
        omega
    · rw [dif_neg (by omega), dif_neg h4]
      exact padded_right _ _ hv' _ _ _ _ (show ¬j.val - 2048 < 64 by omega)

end

/-- One grid point's block at an index, from the entries of the blocks it reads. -/
theorem pay_of (x : Vec Ideal S512x1024 .f32) (g : Vec Ideal S1x1024 .f32) (w : Vec Ideal S1024x2176 .bf16) (r : Fin 512)
    (j : Fin 2176) (x' g' w' : Fin 1024 → EReal) (hx : ∀ k, x (ix2 r k) = x' k) (hg : ∀ k, g (ix2 0 k) = g' k)
    (hw : ∀ k, w (ix2 k j) = w' k) :
    k0_pay1 x g w (ix2 r j) = ∑ k : Fin 1024, normed 0x44800000#32 0x358637BD#32 x' g' k * w' k := by
  unfold k0_pay1
  dsimp only
  simp only [shapeCast_self]
  exact block_dot 0x44800000#32 0x358637BD#32 x g w _ _ _ _ _ _ _ r j x' g' w' hx hg hw

theorem out_block (x : Vec Ideal S512x1024 .f32) (g : Vec Ideal S1x1024 .f32) (w : Vec Ideal S1024x2176 .bf16) :
    out0_3 x g w = k0_pay1 x g w := by
  frame_out

variable (m : (ℓ : Loc nD τ sig) → Buf (Elt Ideal) ℓ) (c : Dev nD)

/-- The three arguments. -/
abbrev X : Mat 16384 1024 := m ((c.tc : Thread nD τ).loc main_arg0)
abbrev G : (⟨1, ![1024]⟩ : Shape).Idx → EReal := m ((c.tc : Thread nD τ).loc main_arg1)
abbrev W : Mat 1024 1984 := m ((c.tc : Thread nD τ).loc main_arg2)

theorem gain_apply (k : Fin 1024) : V m c main_v10 (ix2 0 k) = G m c (ix1 k) := by
  unfold_abbrev_sides
  simp only [hostOps0, hostOps0_1, hostOps0_2, hostOps0_3, hostOps0_4, List.flatten_cons, List.flatten_nil, List.append_nil,
    List.cons_append, List.nil_append]
  after_results
  exact to_row _ _ k

/-- The padding's value. -/
theorem zero_scalar (i : S_.Idx) : sitofp (F := Ideal) .f32 (constantI S_ 32 0#32) i = 0 := by
  show (((0#32 : BitVec 32).toInt : ℝ) : EReal) = 0
  simp

/-- The weights the kernel reads, before they are rounded. -/
abbrev weights (w : Mat 1024 1984) : Mat 1024 2176 :=
  concatenate S1024x2176 1 [⟨S1024x1536, extractStridedSlice S1024x1536 ![0, 448] w slices_S1024x1984_S1024x1536_0_448⟩,
    ⟨S1024x384, extractStridedSlice S1024x384 ![0, 0] w slices_S1024x1984_S1024x384_0_0⟩,
    ⟨S1024x128, pad S1024x128 ![0, 0] ![0, 64] ![0, 0] (rotary w) (sitofp (F := Ideal) .f32 (constantI S_ 32 0#32))
      pads_S1024x64_S1024x128_000_0640 h_S_⟩,
    ⟨S1024x128, pad S1024x128 ![0, 0] ![0, 64] ![0, 0] (swapped w) (sitofp (F := Ideal) .f32 (constantI S_ 32 0#32))
      pads_S1024x64_S1024x128_000_0640 h_S_⟩]
    concatenates_S1024x1536_S1024x384_S1024x128_S1024x128_S1024x2176_d1

theorem weights_read : V m c main_v9 = weights (W m c) := by
  unfold_abbrev_sides
  simp only [hostOps0, hostOps0_1, hostOps0_2, hostOps0_3, hostOps0_4, List.flatten_cons, List.flatten_nil, List.append_nil,
    List.cons_append, List.nil_append]
  after_results_entrywise (rounds := 1) []

theorem weight_apply (k : Fin 1024) (j : Fin 2176) : V m c main_v9 (ix2 k j) = packed (fun i => W m c (ix2 k i)) j :=
  (congrFun (weights_read m c) _).trans (weights_packed _ _ _ zero_scalar zero_scalar _ _ k j)

/-- Which blocks a grid point reads and writes. -/
theorem idx_all : ∀ t : Fin cfg0.N,
    win0_0.index t = ![(grid0.coords t 0).val, 0] ∧ win0_1.index t = ![0, 0] ∧ win0_2.index t = ![0, 0]
    ∧ win0_3.index t = ![(grid0.coords t 0).val, 0] :=
  (by decide +kernel : ∀ t : Fin grid0.N,
    win0_0.index t = ![(grid0.coords t 0).val, 0] ∧ win0_1.index t = ![0, 0] ∧ win0_2.index t = ![0, 0]
    ∧ win0_3.index t = ![(grid0.coords t 0).val, 0])

theorem arr_eq : (dats m 0 c).arrAt 3 cfg0.N = out (X m c) (G m c) (W m c) := by
  refine (dats m 0 c).arrAt_eq_of_covers 3 _ (by decide +kernel) fun t hf y => ?_
  blk_simp
  rw [after0_3]
  obtain ⟨e0, e1, e2, e3⟩ := idx_all t
  have y0 : (y 0).val < 512 := (y 0).isLt
  have y1 : (y 1).val < 2176 := (y 1).isLt
  have c0 : (grid0.coords t 0).val < 32 := (grid0.coords t 0).isLt
  have hy : (win0_3.blk t).view.emb y
      = ix2 (⟨512 * (grid0.coords t 0).val + (y 0).val, by omega⟩ : Fin 16384) (⟨(y 1).val, y1⟩ : Fin 2176) := by
    blk_ext [e3]
  have hx : ∀ k : Fin 1024, iblk m c 0 t (ix2 (⟨(y 0).val, y0⟩ : Fin 512) k)
      = X m c (ix2 (⟨512 * (grid0.coords t 0).val + (y 0).val, by omega⟩ : Fin 16384) k) := fun k => by
    blk_ext [iblk, V, e0]
  have hg : ∀ k : Fin 1024, iblk m c 1 t (ix2 0 k) = V m c main_v10 (ix2 0 k) := fun k => by
    blk_ext [iblk, e1]
  have hw : ∀ k : Fin 1024, iblk m c 2 t (ix2 k (⟨(y 1).val, y1⟩ : Fin 2176)) = V m c main_v9 (ix2 k (⟨(y 1).val, y1⟩ : Fin 2176)) := fun k => by
    blk_ext [iblk, e2]
  rw [hy, out_block]
  refine (congrArg _ (ValueIdx.eq_ix2 y)).trans ((pay_of (iblk m c 0 t) (iblk m c 1 t) (iblk m c 2 t) ⟨(y 0).val, y0⟩ ⟨(y 1).val, y1⟩ _ _ _
    hx (fun k => (hg k).trans (gain_apply m c k))
    (fun k => (hw k).trans (weight_apply m c k _))).trans (sum_packed _ _ _))

end Cert.LatentIdeal.Rows

namespace Cert.LatentRefIdeal.Rows

open Cert.LatentRefIdeal Cert.LatentRefIdeal.Gen Cert.LatentRefIdeal.Read Cert.Norm Cert.Attention Cert.LatentIdeal.Rows
open Idealize.ShloMosaic hiding ix1 ix2 ix3
open Idealize.ShloMosaic.ValueIdx

variable (x : Mat 16384 1024) (g : (⟨1, ![1024]⟩ : Shape).Idx → EReal) (w : Mat 1024 1984)

theorem scale_apply (r : Fin 16384) (k : Fin 1024) :
    val_main_v8 (F := Ideal) x (ix2 r k) = scale 0x44800000#32 0x358637BD#32 fun k => x (ix2 r k) := by
  rw [val_main_v8_apply, val_main_v7_apply, val_main_v6_apply, val_main_v5_apply, val_main_cst_1_apply, val_main_v4_apply,
    val_main_v3_apply, val_main_cst_0_apply, val_main_v2_apply, val_main_v1_apply, val_main_cst_apply]
  show Ideal.rsqrt (Ideal.div ((Ideal.ofBits .f32 0x00000000#32 : EReal) + _) (Ideal.ofBits .f32 0x44800000#32)
    + Ideal.ofBits .f32 0x358637BD#32) = _
  rw [Ideal.ofBits_zero_f32, zero_add, scale]
  congr 3
  refine Finset.sum_congr rfl fun k _ => ?_
  rw [val_main_v0_apply]
  exact congrArg (fun i => x i * x i) (ValueIdx.eq_ix2 _)

/-- The products, before they are packed. -/
abbrev product (r : Fin 16384) (i : Fin 1984) : EReal :=
  ∑ k : Fin 1024, normed 0x44800000#32 0x358637BD#32 (fun k => x (ix2 r k)) (fun k => g (ix1 k)) k * w (ix2 k i)

theorem product_apply (r : Fin 16384) (i : Fin 1984) (y) (h0 : (y 0).val = r.val) (h1 : (y 1).val = i.val) :
    val_main_v13 (F := Ideal) x g w y = product x g w r i := by
  have hy : y = ix2 r i := by
    refine (ValueIdx.eq_ix2 y).trans ?_
    exact congrArg₂ ix2 (Fin.ext h0) (Fin.ext h1)
  rw [hy, val_main_v13_apply]
  refine Finset.sum_congr rfl fun k _ => ?_
  have el : lidx_main_v13 (ix2 r i) k = ix2 r k := ValueIdx.eq_ix2 _
  rw [el, val_main_v12_apply, val_main_v9_apply, scale_apply, val_main_v11_apply, val_main_v10_apply]
  exact congrArg₂ _ (congrArg _ (congrArg g (ValueIdx.eq_ix1 _))) (congrArg w (ValueIdx.eq_ix2 _))

/-- An index of a piece and the whole's, off the joined axis. -/
theorem piece_off {n : ℕ} (r : Fin 16384) (j : Fin 2176) (i : Fin n) (b : Fin 2) (hb : b ≠ 1) :
    ((ix2 r i : (⟨2, ![16384, n]⟩ : Shape).Idx) b).val = ((ix2 r j : (⟨2, ![16384, 2176]⟩ : Shape).Idx) b).val := by
  fin_cases b
  · rfl
  · exact absurd rfl hb

theorem zeros_apply (y) : val_main_v19 (F := Ideal) y = 0 := by
  rw [val_main_v19_apply, val_main_cst_2_apply]
  exact Ideal.ofBits_zero_f32

theorem packed_apply (r : Fin 16384) (j : Fin 2176) : val_main_v20 (F := Ideal) x g w (ix2 r j) = packed (product x g w r) j := by
  have hj := j.isLt
  unfold val_main_v20 packed
  by_cases h1 : j.val < 1536
  · rw [dif_pos h1]
    refine Eq.trans (concatenate_apply_piece (t := S16384x2176) 1 _ _ _ 0 (by exact (by decide : 0 < 8)) S16384x1536 _ rfl rfl 0 rfl
      (ix2 r (⟨j.val - 0, by omega⟩ : Fin 1536)) (piece_off r j _) (show 0 + (j.val - 0) = j.val by omega)) ?_
    rw [val_main_v16_apply]
    refine product_apply x g w r _ _ rfl ?_
    show 448 + (j.val - 0) = 448 + j.val
    omega
  by_cases h2 : j.val < 1984
  · rw [dif_neg h1, dif_pos h2]
    by_cases h3 : j.val < 1920
    · refine Eq.trans (concatenate_apply_piece (t := S16384x2176) 1 _ _ _ 1 (by exact (by decide : 1 < 8)) S16384x384 _ rfl rfl 1536 rfl
        (ix2 r (⟨j.val - 1536, by omega⟩ : Fin 384)) (piece_off r j _) (show 1536 + (j.val - 1536) = j.val by omega)) ?_
      rw [val_main_v14_apply]
      refine product_apply x g w r _ _ rfl ?_
      rfl
    by_cases h4 : j.val < 1952
    · refine Eq.trans (concatenate_apply_piece (t := S16384x2176) 1 _ _ _ 2 (by exact (by decide : 2 < 8)) S16384x32 _ rfl rfl 1920 rfl
        (ix2 r (⟨j.val - 1920, by omega⟩ : Fin 32)) (piece_off r j _) (show 1920 + (j.val - 1920) = j.val by omega)) ?_
      rw [val_main_v17_apply, val_main_v15_apply]
      refine product_apply x g w r _ _ rfl ?_
      show 384 + (j.val - 1920) = j.val - 1536
      omega
    · refine Eq.trans (concatenate_apply_piece (t := S16384x2176) 1 _ _ _ 3 (by exact (by decide : 3 < 8)) S16384x32 _ rfl rfl 1952 rfl
        (ix2 r (⟨j.val - 1952, by omega⟩ : Fin 32)) (piece_off r j _) (show 1952 + (j.val - 1952) = j.val by omega)) ?_
      rw [val_main_v18_apply, val_main_v15_apply]
      refine product_apply x g w r _ _ rfl ?_
      show 384 + (32 + (j.val - 1952)) = j.val - 1536
      omega
  by_cases h5 : j.val < 2048
  · rw [dif_neg h1, dif_neg h2, if_pos h5]
    refine Eq.trans (concatenate_apply_piece (t := S16384x2176) 1 _ _ _ 4 (by exact (by decide : 4 < 8)) S16384x64 _ rfl rfl 1984 rfl
      (ix2 r (⟨j.val - 1984, by omega⟩ : Fin 64)) (piece_off r j _) (show 1984 + (j.val - 1984) = j.val by omega)) ?_
    exact zeros_apply _
  by_cases h6 : j.val < 2080
  · rw [dif_neg h1, dif_neg h2, if_neg h5, dif_pos h6]
    refine Eq.trans (concatenate_apply_piece (t := S16384x2176) 1 _ _ _ 5 (by exact (by decide : 5 < 8)) S16384x32 _ rfl rfl 2048 rfl
      (ix2 r (⟨j.val - 2048, by omega⟩ : Fin 32)) (piece_off r j _) (show 2048 + (j.val - 2048) = j.val by omega)) ?_
    rw [val_main_v18_apply, val_main_v15_apply]
    refine product_apply x g w r _ _ rfl ?_
    show 384 + (32 + (j.val - 2048)) = j.val - 1632
    omega
  by_cases h7 : j.val < 2112
  · rw [dif_neg h1, dif_neg h2, if_neg h5, dif_neg h6, dif_pos h7]
    refine Eq.trans (concatenate_apply_piece (t := S16384x2176) 1 _ _ _ 6 (by exact (by decide : 6 < 8)) S16384x32 _ rfl rfl 2080 rfl
      (ix2 r (⟨j.val - 2080, by omega⟩ : Fin 32)) (piece_off r j _) (show 2080 + (j.val - 2080) = j.val by omega)) ?_
    rw [val_main_v17_apply, val_main_v15_apply]
    refine product_apply x g w r _ _ rfl ?_
    show 384 + (j.val - 2080) = j.val - 1696
    omega
  · rw [dif_neg h1, dif_neg h2, if_neg h5, dif_neg h6, dif_neg h7]
    refine Eq.trans (concatenate_apply_piece (t := S16384x2176) 1 _ _ _ 7 (by exact (by decide : 7 < 8)) S16384x64 _ rfl rfl 2112 rfl
      (ix2 r (⟨j.val - 2112, by omega⟩ : Fin 64)) (piece_off r j _) (show 2112 + (j.val - 2112) = j.val by omega)) ?_
    exact zeros_apply _

/-- The reference's result as an array. -/
theorem res_eq : val_main_v20 (F := Ideal) x g w = out x g w := by
  funext y
  exact (congrArg _ (ValueIdx.eq_ix2 y)).trans (packed_apply x g w (y 0) (y 1))

end Cert.LatentRefIdeal.Rows

end
-- ==== Proof.OutRows.lean ====
/-
  THE OUTPUT PROJECTION: the residual plus the two mixers' outputs side by side times the weights, from the kernel's blocks
  (one product per mixer, with its half of the weights) and from the reference.
-/
module

public import proofs.«01_k».proof.Proof.Gen.OutIdeal.Value
public import proofs.«01_k».proof.Proof.Gen.OutRefIdeal.Run
public import proofs.«01_k».proof.Proof.Gen.OutRefIdeal.Read
public import proofs.«01_k».proof.Proof.Norm
public import proofs.«01_k».proof.Proof.Attention
public import Idealize.ShloMosaic.Lib.Pipeline.ValueKit
public import Idealize.ShloMosaic.Lib.Pipeline.ValueKit.Tiles

@[expose] public section

set_option maxRecDepth 16384

noncomputable section

namespace Cert.OutIdeal.Rows

open Cert.OutIdeal Cert.OutIdeal.Gen Cert.Norm Cert.Attention
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-- Row `r`, column `j` of the result: the two halves of the contraction apart. -/
def entry (x : (⟨3, ![2, 8192, 1024]⟩ : Shape).Idx → EReal) (a b : Mat 16384 512) (w : Mat 1024 1024)
    (r : Fin 16384) (j : Fin 1024) : EReal :=
  x (ix3 ⟨r.val / 8192, by omega⟩ ⟨r.val % 8192, by omega⟩ j) + (∑ k : Fin 512, a (ix2 r k) * w (ix2 (k.castAdd 512) j))
    + ∑ k : Fin 512, b (ix2 r k) * w (ix2 (k.natAdd 512) j)

def out (x : (⟨3, ![2, 8192, 1024]⟩ : Shape).Idx → EReal) (a b : Mat 16384 512) (w : Mat 1024 1024) : Mat 16384 1024 :=
  fun y => entry x a b w (y 0) (y 1)

/-- One grid point's block at an index, from the entries of the blocks it reads. -/
theorem pay_of (x : Vec Ideal S512x1024 .f32) (a b : Vec Ideal S512x512 .f32) (u v : Vec Ideal S512x1024 .bf16) (r : Fin 512)
    (j : Fin 1024) (x' : EReal) (a' b' u' v' : Fin 512 → EReal) (hx : x (ix2 r j) = x') (ha : ∀ k, a (ix2 r k) = a' k)
    (hb : ∀ k, b (ix2 r k) = b' k) (hu : ∀ k, u (ix2 k j) = u' k) (hv : ∀ k, v (ix2 k j) = v' k) :
    k0_pay1 x a u b v (ix2 r j) = x' + (∑ k, a' k * u' k) + ∑ k, b' k * v' k := by
  have hz : (Ideal.ofBits .f32 0x00000000#32 : EReal) = 0 := Ideal.ofBits_zero_f32
  unfold k0_pay1
  simp only [shapeCast_self]
  refine (congrArg₂ (· + ·) (congrArg (x (ix2 r j) + ·) (Ideal.matmul_plain_apply _ _ _ _ _ _))
    (Ideal.matmul_plain_apply _ _ _ _ _ _)).trans ?_
  show x (ix2 r j) + ((Ideal.ofBits .f32 0x00000000#32 : EReal) + ∑ k, a (ix2 r k) * u (ix2 k j))
    + ((Ideal.ofBits .f32 0x00000000#32 : EReal) + ∑ k, b (ix2 r k) * v (ix2 k j)) = _
  simp only [hz, zero_add, hx, ha, hb, hu, hv]

theorem out_block (x : Vec Ideal S512x1024 .f32) (a b : Vec Ideal S512x512 .f32) (u v : Vec Ideal S512x1024 .bf16) :
    out0_5 x a b u v = k0_pay1 x a u b v := by
  frame_out

variable (m : (ℓ : Loc nD τ sig) → Buf (Elt Ideal) ℓ) (c : Dev nD)

/-- The four arguments. -/
abbrev X : (⟨3, ![2, 8192, 1024]⟩ : Shape).Idx → EReal := m ((c.tc : Thread nD τ).loc main_arg0)
abbrev A : Mat 16384 512 := m ((c.tc : Thread nD τ).loc main_arg1)
abbrev B : Mat 16384 512 := m ((c.tc : Thread nD τ).loc main_arg2)
abbrev W : Mat 1024 1024 := m ((c.tc : Thread nD τ).loc main_arg3)

theorem rows_apply (r : Fin 16384) (k : Fin 1024) :
    V m c main_v1 (ix2 r k) = X m c (ix3 ⟨r.val / 8192, by omega⟩ ⟨r.val % 8192, by omega⟩ k) := by
  unfold_abbrev_sides
  after_results
  exact merge_rows _ _ r k

theorem upper_apply (k : Fin 512) (j : Fin 1024) : V m c main_v2 (ix2 k j) = W m c (ix2 (k.castAdd 512) j) := by
  unfold_abbrev_sides
  after_results
  refine extractStridedSlice_apply _ _ _ _ _ fun a => ?_
  fin_cases a
  · show k.val = 0 + k.val
    omega
  · show j.val = 0 + j.val
    omega

theorem lower_apply (k : Fin 512) (j : Fin 1024) : V m c main_v3 (ix2 k j) = W m c (ix2 (k.natAdd 512) j) := by
  unfold_abbrev_sides
  after_results
  refine extractStridedSlice_apply _ _ _ _ _ fun a => ?_
  fin_cases a
  · rfl
  · show j.val = 0 + j.val
    omega

/-- Which blocks a grid point reads and writes. -/
theorem idx_all : ∀ t : Fin cfg0.N,
    win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![(grid0.coords t 0).val, 0] :=
  (by decide +kernel : ∀ t : Fin grid0.N,
    win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![(grid0.coords t 0).val, 0])

theorem arr_eq : (dats m 0 c).arrAt 5 cfg0.N = out (X m c) (A m c) (B m c) (W m c) := by
  refine (dats m 0 c).arrAt_eq_of_covers 5 _ (by decide +kernel) fun t hf y => ?_
  blk_simp
  rw [after0_5]
  obtain ⟨e0, e1, e2, e3, e4, e5⟩ := idx_all t
  have y0 : (y 0).val < 512 := (y 0).isLt
  have y1 : (y 1).val < 1024 := (y 1).isLt
  have c0 : (grid0.coords t 0).val < 32 := (grid0.coords t 0).isLt
  have hy : (win0_5.blk t).view.emb y = ix2 (⟨512 * (grid0.coords t 0).val + (y 0).val, by omega⟩ : Fin 16384) (⟨(y 1).val, y1⟩ : Fin 1024) := by
    blk_ext [e5]
  have hx : iblk m c 0 t (ix2 (⟨(y 0).val, y0⟩ : Fin 512) (⟨(y 1).val, y1⟩ : Fin 1024)) = V m c main_v1 (ix2 (⟨512 * (grid0.coords t 0).val + (y 0).val, by omega⟩ : Fin 16384) (⟨(y 1).val, y1⟩ : Fin 1024)) := by
    blk_ext [iblk, e0]
  have ha : ∀ k : Fin 512, iblk m c 1 t (ix2 (⟨(y 0).val, y0⟩ : Fin 512) k) = A m c (ix2 (⟨512 * (grid0.coords t 0).val + (y 0).val, by omega⟩ : Fin 16384) k) := fun k => by
    blk_ext [iblk, V, e1]
  have hb : ∀ k : Fin 512, iblk m c 2 t (ix2 (⟨(y 0).val, y0⟩ : Fin 512) k) = B m c (ix2 (⟨512 * (grid0.coords t 0).val + (y 0).val, by omega⟩ : Fin 16384) k) := fun k => by
    blk_ext [iblk, V, e2]
  have hu : ∀ k : Fin 512, iblk m c 3 t (ix2 k (⟨(y 1).val, y1⟩ : Fin 1024)) = V m c main_v2 (ix2 k (⟨(y 1).val, y1⟩ : Fin 1024)) := fun k => by
    blk_ext [iblk, e3]
  have hv : ∀ k : Fin 512, iblk m c 4 t (ix2 k (⟨(y 1).val, y1⟩ : Fin 1024)) = V m c main_v3 (ix2 k (⟨(y 1).val, y1⟩ : Fin 1024)) := fun k => by
    blk_ext [iblk, e4]
  rw [hy, out_block]
  exact (congrArg _ (ValueIdx.eq_ix2 y)).trans (pay_of (iblk m c 0 t) (iblk m c 1 t) (iblk m c 2 t) (iblk m c 3 t) (iblk m c 4 t)
    ⟨(y 0).val, y0⟩ ⟨(y 1).val, y1⟩ _ _ _ _ _ (hx.trans (rows_apply m c _ _)) ha hb (fun k => (hu k).trans (upper_apply m c k _))
    (fun k => (hv k).trans (lower_apply m c k _)))

end Cert.OutIdeal.Rows

namespace Cert.OutRefIdeal.Rows

open Cert.OutRefIdeal Cert.OutRefIdeal.Gen Cert.OutRefIdeal.Read Cert.Norm Cert.Attention Cert.OutIdeal.Rows
open Idealize.ShloMosaic hiding ix1 ix2 ix3
open Idealize.ShloMosaic.ValueIdx

variable (x : (⟨3, ![2, 8192, 1024]⟩ : Shape).Idx → EReal) (a b : Mat 16384 512) (w : Mat 1024 1024)

/-- The two mixers' outputs side by side: the left half. -/
theorem left_apply (r : Fin 16384) (h₀ : r.val / 8192 < 2) (h₁ : r.val % 8192 < 8192) (k : Fin 512) :
    val_main_v2 (F := Ideal) a b (ix3 (⟨r.val / 8192, h₀⟩ : Fin 2) (⟨r.val % 8192, h₁⟩ : Fin 8192) (k.castAdd 512 : Fin 1024))
      = a (ix2 r k) := by
  unfold val_main_v2
  refine Eq.trans (concatenate_pair_apply_left (t := S2x8192x1024) (s₁ := S2x8192x512) (s₂ := S2x8192x512) _ _ _ _ _ rfl
    (ix3 (⟨r.val / 8192, h₀⟩ : Fin 2) (⟨r.val % 8192, h₁⟩ : Fin 8192) (k : Fin 512)) fun i => ?_) ?_
  · fin_cases i <;> rfl
  · rw [val_main_v0_apply]
    refine congrArg a (funext fun i => Fin.ext ?_)
    fin_cases i
    · show ((r.val / 8192 * 8192 + r.val % 8192) * 512 + k.val) / 512 = r.val
      omega
    · show ((r.val / 8192 * 8192 + r.val % 8192) * 512 + k.val) % 512 = k.val
      omega

/-- The right half. -/
theorem right_apply (r : Fin 16384) (h₀ : r.val / 8192 < 2) (h₁ : r.val % 8192 < 8192) (k : Fin 512) :
    val_main_v2 (F := Ideal) a b (ix3 (⟨r.val / 8192, h₀⟩ : Fin 2) (⟨r.val % 8192, h₁⟩ : Fin 8192) (k.natAdd 512 : Fin 1024))
      = b (ix2 r k) := by
  unfold val_main_v2
  refine Eq.trans (concatenate_pair_apply_right (t := S2x8192x1024) (s₁ := S2x8192x512) (s₂ := S2x8192x512) _ _ _ _ _ rfl rfl
    (ix3 (⟨r.val / 8192, h₀⟩ : Fin 2) (⟨r.val % 8192, h₁⟩ : Fin 8192) (k : Fin 512)) (fun i hi => ?_) ?_) ?_
  · fin_cases i
    · rfl
    · rfl
    · exact absurd rfl hi
  · show k.val + 512 = 512 + k.val
    omega
  · rw [val_main_v1_apply]
    refine congrArg b (funext fun i => Fin.ext ?_)
    fin_cases i
    · show ((r.val / 8192 * 8192 + r.val % 8192) * 512 + k.val) / 512 = r.val
      omega
    · show ((r.val / 8192 * 8192 + r.val % 8192) * 512 + k.val) % 512 = k.val
      omega

/-- The reference's result as an array. -/
theorem res_eq : val_main_v5 (F := Ideal) x a b w = out x a b w := by
  funext y
  have h0 := idx2_lt0 y
  have h1 := idx2_lt1 y
  rw [val_main_v5_apply]
  have e : idx_main_v5 y = ix3 (⟨(y 0).val / 8192, by omega⟩ : Fin 2) (⟨(y 0).val % 8192, by omega⟩ : Fin 8192)
      (⟨(y 1).val, h1⟩ : Fin 1024) := by
    funext i
    apply Fin.ext
    fin_cases i
    · show ((y 0).val * 1024 + (y 1).val) / 8388608 = (y 0).val / 8192
      omega
    · show ((y 0).val * 1024 + (y 1).val) / 1024 % 8192 = (y 0).val % 8192
      omega
    · show ((y 0).val * 1024 + (y 1).val) % 1024 = (y 1).val
      omega
  rw [e, val_main_v4_apply, val_main_v3_apply]
  show _ = entry x a b w (y 0) (y 1)
  unfold entry
  refine Eq.trans (congrArg (x _ + ·) (Fin.sum_univ_add (a := 512) (b := 512) _)) ?_
  rw [add_assoc]
  refine congrArg (x _ + ·) (congrArg₂ (· + ·) (Finset.sum_congr rfl fun k _ => ?_) (Finset.sum_congr rfl fun k _ => ?_))
  · exact congrArg₂ (· * ·) ((congrArg _ (ValueIdx.eq_ix3 _)).trans (left_apply a b (y 0) _ _ k)) (congrArg w (ValueIdx.eq_ix2 _))
  · exact congrArg₂ (· * ·) ((congrArg _ (ValueIdx.eq_ix3 _)).trans (right_apply a b (y 0) _ _ k)) (congrArg w (ValueIdx.eq_ix2 _))

end Cert.OutRefIdeal.Rows

end
-- ==== Proof.RouteFirst.lean ====
/-
  The run of the routing body, once at the first head of a row block (where it norms the rows, writes them transposed and
  fills the query scratch) and once at the other heads (where it reads the scratch). What the stores leave in the normed
  rows, in the second scores and in the scratch is found by the run as lists of pieces; what they leave in the thresholds
  and in the two tables of exponentials is not named.
-/
module

public import proofs.«01_k».proof.Proof.Gen.RouteIdeal.Frame
public import proofs.«01_k».proof.Proof.Gen.RouteIdeal.Skeleton

@[expose] public section

set_option maxRecDepth 16384

noncomputable section

namespace Cert.RouteIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RouteIdeal.Gen

variable {F : FTy → Type} [FloatOps F]

/-- The head at a grid point is the first of its row block. -/
abbrev first (i : grid0.Coords) : Prop :=
  Scalar.cmpi .ne (Scalar.extui (Scalar.cmpi .eq (BitVec.ofNat 32 (i 1).val) 0#32)) 0#32 = 1#1

set_option maxHeartbeats 4000000 in
/-- The body at the first head. -/
noncomputable def atFirst (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1024x2048 .bf16) (harg4 : arg4.IsWhole)
    (arg5 : Memref sig .tc .vmem S1x2x128x128 .bf16) (harg5 : arg5.IsWhole)
    (arg6 : Memref sig .tc .vmem S1024x512 .bf16) (harg6 : arg6.IsWhole)
    (arg7 : Memref sig .tc .vmem S1x4x128x128 .f32) (harg7 : arg7.IsWhole)
    (arg8 : Memref sig .tc .vmem S1x4x128x128 .f32) (harg8 : arg8.IsWhole)
    (arg9 : Memref sig .tc .vmem S1x4x128x128 .f32) (harg9 : arg9.IsWhole)
    (arg10 : Memref sig .tc .vmem S1x4x128x128 .f32) (harg10 : arg10.IsWhole)
    (arg11 : Memref sig .tc .vmem S16x512x128 .bf16) (harg11 : arg11.IsWhole)
    (hc : first i) (x0 : Vec F S512x1024 .f32) (x1 : Vec F S1x1024 .f32) (x2 : Vec F S1024x2048 .bf16)
    (x3 : Vec F S1x2x128x128 .bf16) :
    Σ' (L4 : List (View.Piece (Elt F) S1024x512 .bf16)), Σ' (L6 : List (View.Piece (Elt F) S1x4x128x128 .f32)),
      { LS : List (View.Piece (Elt F) S16x512x128 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L4)
              ∗ (∃ d, owns (c : Thread nD τ) arg7 fullShare d)
              ∗ (∃ f, arg8.view.loc (c : Thread nD τ) ↦[arg8.view.set]{fullShare} arg8.view.writes (Elt F) f L6)
              ∗ (∃ d, owns (c : Thread nD τ) arg9 fullShare d) ∗ (∃ d, owns (c : Thread nD τ) arg10 fullShare d)
              ∗ (∃ f, arg11.view.loc (c : Thread nD τ) ↦[arg11.view.set]{fullShare} arg11.view.writes (Elt F) f LS)) -∗ K ⟨⟩))
          ⊢ wp frame (wpE (defs₀ (F := F)) Variants.none c none) E (cc0__peer_route_body i arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds, %fs, -, HS⟩, Hk⟩
    obtain rfl := harg2.eq_unread hf0; obtain rfl := harg3.eq_unread hf1
    obtain rfl := harg4.eq_unread hf2; obtain rfl := harg5.eq_unread hf3
    sl_exec_parts (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; iexists _; isplitr
      swap; · iexact H5
      ipureintro; rfl
    isplitl [H6]; · iexists _; iexact H6
    isplitl [H7]
    · iexists _; iexists _; isplitr
      swap; · iexact H7
      ipureintro; rfl
    isplitl [H8]
    · iexists _; iexists _; isplitr
      swap; · iexact H8
      ipureintro; rfl
    iexists _; iexact HS

end Cert.RouteIdeal.Run

end
-- ==== Proof.RouteOther.lean ====
/-
  The run of the routing body at the heads after the first, where it reads the scratch and leaves the normed rows alone.
-/
module

public import proofs.«01_k».proof.Proof.RouteFirst

@[expose] public section

set_option maxRecDepth 16384

noncomputable section

namespace Cert.RouteIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RouteIdeal.Gen

variable {F : FTy → Type} [FloatOps F]

set_option maxHeartbeats 4000000 in
/-- The body at the other heads. -/
noncomputable def atOther (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1024x2048 .bf16) (harg4 : arg4.IsWhole)
    (arg5 : Memref sig .tc .vmem S1x2x128x128 .bf16) (harg5 : arg5.IsWhole)
    (arg6 : Memref sig .tc .vmem S1024x512 .bf16) (harg6 : arg6.IsWhole)
    (arg7 : Memref sig .tc .vmem S1x4x128x128 .f32) (harg7 : arg7.IsWhole)
    (arg8 : Memref sig .tc .vmem S1x4x128x128 .f32) (harg8 : arg8.IsWhole)
    (arg9 : Memref sig .tc .vmem S1x4x128x128 .f32) (harg9 : arg9.IsWhole)
    (arg10 : Memref sig .tc .vmem S1x4x128x128 .f32) (harg10 : arg10.IsWhole)
    (arg11 : Memref sig .tc .vmem S16x512x128 .bf16) (harg11 : arg11.IsWhole)
    (hc : ¬first i) (x0 : Vec F S512x1024 .f32) (x1 : Vec F S1x1024 .f32) (x2 : Vec F S1024x2048 .bf16)
    (x3 : Vec F S1x2x128x128 .bf16) (x4 : Vec F S1024x512 .bf16) (xs : Vec F S16x512x128 .bf16) :
    { L6 : List (View.Piece (Elt F) S1x4x128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare x4
              ∗ (∃ d, owns (c : Thread nD τ) arg7 fullShare d)
              ∗ (∃ f, arg8.view.loc (c : Thread nD τ) ↦[arg8.view.set]{fullShare} arg8.view.writes (Elt F) f L6)
              ∗ (∃ d, owns (c : Thread nD τ) arg9 fullShare d) ∗ (∃ d, owns (c : Thread nD τ) arg10 fullShare d)
              ∗ owns (c : Thread nD τ) arg11 fullShare xs) -∗ K ⟨⟩))
          ⊢ wp frame (wpE (defs₀ (F := F)) Variants.none c none) E (cc0__peer_route_body i arg2 harg2 arg3 harg3 arg4 harg4 arg5 harg5 arg6 harg6 arg7 harg7 arg8 harg8 arg9 harg9 arg10 harg10 arg11 harg11) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs, %hfs, HS⟩, Hk⟩
    obtain rfl := harg2.eq_unread hf0; obtain rfl := harg3.eq_unread hf1
    obtain rfl := harg4.eq_unread hf2; obtain rfl := harg5.eq_unread hf3
    obtain rfl := harg6.eq_unread hf4; obtain rfl := harg11.eq_unread hfs
    sl_exec_parts (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexists _; isplitr
      swap; · iexact H5
      ipureintro; rfl
    isplitl [H6]; · iexists _; iexact H6
    isplitl [H7]
    · iexists _; iexists _; isplitr
      swap; · iexact H7
      ipureintro; rfl
    isplitl [H8]
    · iexists _; iexists _; isplitr
      swap; · iexact H8
      ipureintro; rfl
    iexists _; isplitr; · ipureintro; exact harg11.read_unread _
    iexact HS

end Cert.RouteIdeal.Run

end
-- ==== Proof.RouteBlocks.lean ====
/-
  WHAT THE ROUTING BODY LEAVES: the normed rows transposed, the queries of a row block and the scores of one head's second
  sub-keys, as functions of the blocks it reads.
-/
module

public import proofs.«01_k».proof.Proof.RouteOther
public import Idealize.ShloMosaic.Lib.ValueIdx
public import Idealize.ShloMosaic.Lib.Pipeline.Value

@[expose] public section

set_option maxRecDepth 16384

noncomputable section

namespace Cert.RouteIdeal.Run

open Idealize.ShloMosaic
open Idealize.ShloMosaic.TcCoe Idealize.ShloMosaic.Tactic Idealize.ShloMosaic.ValueIdx
open Idealize.SL Idealize.SL.Sem
open Cert.RouteIdeal.Gen

variable {F : FTy → Type} [FloatOps F]

/-- A row block's queries, one plane of 128 columns after the other. -/
def queries (x0 : Vec F S512x1024 .f32) (x1 : Vec F S1x1024 .f32) (x2 : Vec F S1024x2048 .bf16) : Vec F S16x512x128 .bf16 :=
  fun y =>
    have h0 : (y 0).val < 16 := (y 0).isLt
    have h2 : (y 2).val < 128 := (y 2).isLt
    truncf .bf16 (k0_pay7 x0 x1 x2) bitsLt_bf16_f32 (ix2 (⟨(y 1).val, (y 1).isLt⟩ : Fin 512) (⟨128 * (y 0).val + (y 2).val, by omega⟩ : Fin 2048))

/-- The second of a head's two tables of sub-keys. -/
def subKey (x3 : Vec F S1x2x128x128 .bf16) : Vec F S1x1x128x128 .bf16 :=
  fun y => x3 ((Rect.unit (s := S1x2x128x128) ![0, 1, 0, 0] S1x1x128x128.size inb_S1x2x128x128_S1x1x128x128_0_1_0_0).toLoadRect.idx y)

/-- The plane of queries that goes with it. -/
def plane (i : grid0.Coords) (xs : Vec F S16x512x128 .bf16) : Vec F S1x512x128 .bf16 :=
  fun y => xs ((Rect.unit (s := S16x512x128) (k0_off2 i) S1x512x128.size (k0_off2_inb i)).toLoadRect.idx y)

/-- The scores, in tiles of 128 rows. -/
def scores (i : grid0.Coords) (x3 : Vec F S1x2x128x128 .bf16) (xs : Vec F S16x512x128 .bf16) : Vec F S1x4x128x128 .f32 :=
  fun y =>
    have h1 : (y 1).val < 4 := (y 1).isLt
    have h3 : (y 3).val < 128 := (y 3).isLt
    k0_pay27 (subKey x3) (plane i xs) (ix2 (⟨(y 2).val, (y 2).isLt⟩ : Fin 128) (⟨128 * (y 1).val + (y 3).val, by omega⟩ : Fin 512))

/-- A load of a whole buffer. -/
theorem load_whole {s : Shape} {e : EltTy} (M : Memref sig .tc .vmem s e) (h : M.IsWhole) (x : s.Idx → Elt F e)
    (off : Fin s.rank → ℕ) (inb : ∀ a, off a + s.size a ≤ s.size a) :
    M.view.readAt (Elt F) (Rect.unit off s.size inb).toLoadRect (h.unread x) = x := by
  funext y
  rw [View.readAt_apply, h.read_unread]
  refine congrArg x (funext fun a => Fin.ext ?_)
  show off a + 1 * (y a).val = (y a).val
  have := inb a
  omega

/-- A tile of the scores. -/
theorem tile_apply (v : FVec F S128x512 .f32) (b : ℕ) (hs : S128x512.Slices ![0, b] S128x128) (hc : S128x128.ShapeCasts S1x1x128x128)
    (x : S1x1x128x128.Idx) (hb : b + 128 ≤ 512) :
    shapeCast S1x1x128x128 (extractStridedSlice S128x128 ![0, b] v hs) hc x
      = v (ix2 (⟨(x 2).val, (x 2).isLt⟩ : Fin 128) (⟨b + (x 3).val, by have : (x 3).val < 128 := (x 3).isLt; omega⟩ : Fin 512)) := by
  have h0 : (x 0).val < 1 := (x 0).isLt
  have h1 : (x 1).val < 1 := (x 1).isLt
  refine (shapeCast_apply _ _ x (ix2 (⟨(x 2).val, (x 2).isLt⟩ : Fin 128) (⟨(x 3).val, (x 3).isLt⟩ : Fin 128)) ?_).trans ?_
  · rw [Shape.rowMajor_val_two, Shape.rowMajor_val_four]
    show (x 2).val * 128 + (x 3).val = (((x 0).val * 1 + (x 1).val) * 128 + (x 2).val) * 128 + (x 3).val
    omega
  · refine congrArg v (funext fun a => Fin.ext ?_)
    fin_cases a
    · show 0 + (x 2).val = (x 2).val
      omega
    · rfl

/-- A plane of the queries. -/
theorem plane_apply (v : FVec F S512x2048 .f32) (b : ℕ) (hs : S512x2048.Slices ![0, b] S512x128) (hc : S512x128.ShapeCasts S1x512x128)
    (x : S1x512x128.Idx) (hb : b + 128 ≤ 2048) :
    shapeCast S1x512x128 (truncf .bf16 (extractStridedSlice S512x128 ![0, b] v hs) bitsLt_bf16_f32) hc x
      = truncf .bf16 v bitsLt_bf16_f32 (ix2 (⟨(x 1).val, (x 1).isLt⟩ : Fin 512)
        (⟨b + (x 2).val, by have : (x 2).val < 128 := (x 2).isLt; omega⟩ : Fin 2048)) := by
  have h0 : (x 0).val < 1 := (x 0).isLt
  refine (shapeCast_apply _ _ x (ix2 (⟨(x 1).val, (x 1).isLt⟩ : Fin 512) (⟨(x 2).val, (x 2).isLt⟩ : Fin 128)) ?_).trans ?_
  · rw [Shape.rowMajor_val_two, Shape.rowMajor_val_three]
    show (x 1).val * 128 + (x 2).val = ((x 0).val * 512 + (x 1).val) * 128 + (x 2).val
    omega
  · refine congrArg (truncf .bf16 v bitsLt_bf16_f32) (funext fun a => Fin.ext ?_)
    fin_cases a
    · show 0 + (x 1).val = (x 1).val
      omega
    · rfl

/-- A plane of the queries is the queries at its place. -/
theorem plane_queries (x0 : Vec F S512x1024 .f32) (x1 : Vec F S1x1024 .f32) (x2 : Vec F S1024x2048 .bf16) (p : ℕ)
    (inb : ∀ a, (![p, 0, 0] : Fin 3 → ℕ) a + S1x512x128.size a ≤ S16x512x128.size a) (hp : p < 16)
    (hs : S512x2048.Slices ![0, 128 * p] S512x128) (hc : S512x128.ShapeCasts S1x512x128) (x : S1x512x128.Idx) :
    shapeCast S1x512x128 (truncf .bf16 (extractStridedSlice S512x128 ![0, 128 * p] (k0_pay7 x0 x1 x2) hs) bitsLt_bf16_f32) hc x
      = queries x0 x1 x2 ((Rect.unit (s := S16x512x128) ![p, 0, 0] S1x512x128.size inb).emb x) := by
  rw [plane_apply _ _ _ _ _ (by omega)]
  unfold queries
  have h0 : (x 0).val < 1 := (x 0).isLt
  refine congrArg (truncf .bf16 (k0_pay7 x0 x1 x2) bitsLt_bf16_f32) (funext fun a => Fin.ext ?_)
  fin_cases a
  · show (x 1).val = 0 + 1 * (x 1).val
    omega
  · show 128 * p + (x 2).val = 128 * (p + 1 * (x 0).val) + (0 + 1 * (x 2).val)
    omega

/-- A tile of the scores is the scores at its place. -/
theorem tile_scores (i : grid0.Coords) (x3 : Vec F S1x2x128x128 .bf16) (xs : Vec F S16x512x128 .bf16) (b : ℕ)
    (inb : ∀ a, (![0, b, 0, 0] : Fin 4 → ℕ) a + S1x1x128x128.size a ≤ S1x4x128x128.size a) (hb : b < 4)
    (hs : S128x512.Slices ![0, 128 * b] S128x128) (hc : S128x128.ShapeCasts S1x1x128x128) (x : S1x1x128x128.Idx) :
    shapeCast S1x1x128x128 (extractStridedSlice S128x128 ![0, 128 * b] (k0_pay27 (subKey x3) (plane i xs)) hs) hc x
      = scores i x3 xs ((Rect.unit (s := S1x4x128x128) ![0, b, 0, 0] S1x1x128x128.size inb).emb x) := by
  rw [tile_apply _ _ _ _ _ (by omega)]
  unfold scores
  have h1 : (x 1).val < 1 := (x 1).isLt
  refine congrArg (k0_pay27 (subKey x3) (plane i xs)) (funext fun a => Fin.ext ?_)
  fin_cases a
  · show (x 2).val = 0 + 1 * (x 2).val
    omega
  · show 128 * b + (x 3).val = 128 * (b + 1 * (x 1).val) + (0 + 1 * (x 3).val)
    omega

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2x128x128 .bf16) (harg5 : arg5.IsWhole)
  (arg6 : Memref sig .tc .vmem S1024x512 .bf16) (harg6 : arg6.IsWhole)
  (arg7 : Memref sig .tc .vmem S1x4x128x128 .f32) (harg7 : arg7.IsWhole)
  (arg8 : Memref sig .tc .vmem S1x4x128x128 .f32) (harg8 : arg8.IsWhole)
  (arg9 : Memref sig .tc .vmem S1x4x128x128 .f32) (harg9 : arg9.IsWhole)
  (arg10 : Memref sig .tc .vmem S1x4x128x128 .f32) (harg10 : arg10.IsWhole)
  (arg11 : Memref sig .tc .vmem S16x512x128 .bf16) (harg11 : arg11.IsWhole)
  (x0 : Vec F S512x1024 .f32) (x1 : Vec F S1x1024 .f32) (x2 : Vec F S1024x2048 .bf16) (x3 : Vec F S1x2x128x128 .bf16)
  (x4 : Vec F S1024x512 .bf16) (xs : Vec F S16x512x128 .bf16)

/-- The first head leaves the normed rows, transposed, -/
theorem first_rows (hc : first i) (f) :
    arg6.view.read (Elt F) (arg6.view.writes (Elt F) f (atFirst c i arg2 harg2 arg3 harg3 arg4 harg4 arg5 harg5 arg6 harg6 arg7 harg7 arg8 harg8 arg9 harg9 arg10 harg10 arg11 harg11 hc x0 x1 x2 x3).1) = k0_pay6 x0 x1 := by
  dsimp only [atFirst]
  unfold atFirst.sl.H4_1
  funext y
  refine View.read_writes_apply_of_pieces arg6.view f (k0_pay6 x0 x1) _ ?_ y (View.cover_of_tiledL _ S1024x512.size (by sl_kernel_rfl) y)
  refine List.forall_mem_cons.mpr ⟨fun x => ?_, fun p hp => absurd hp List.not_mem_nil⟩
  rw [load_whole, load_whole]
  refine congrArg _ (funext fun a => Fin.ext ?_)
  fin_cases a
  · show (x 0).val = 0 + 1 * (x 0).val
    omega
  · show (x 1).val = 0 + 1 * (x 1).val
    omega

theorem first_pieces : ∀ p ∈ atFirst.sl.HS_16 c arg2 harg2 arg3 harg3 arg4 harg4 x0 x1 x2,
    ∀ x : p.1.shape.Idx, p.2 x = queries x0 x1 x2 (p.1.emb x) := by
  unfold atFirst.sl.HS_16 atFirst.sl.HS_2 atFirst.sl.r_3 atFirst.sl.r_2 atFirst.sl.r_1 atFirst.sl.r
  have e2 : View.readAt (Elt F) arg2.view (Rect.unit (s := S512x1024) ![0, 0] ![512, 1024] inb_S512x1024_S512x1024_0_0).toLoadRect (harg2.unread x0) = x0 :=
    load_whole arg2 harg2 x0 _ _
  have e3 : View.readAt (Elt F) arg3.view (Rect.unit (s := S1x1024) ![0, 0] ![1, 1024] inb_S1x1024_S1x1024_0_0).toLoadRect (harg3.unread x1) = x1 :=
    load_whole arg3 harg3 x1 _ _
  have e4 : View.readAt (Elt F) arg4.view (Rect.unit (s := S1024x2048) ![0, 0] ![1024, 2048] inb_S1024x2048_S1024x2048_0_0).toLoadRect (harg4.unread x2) = x2 :=
    load_whole arg4 harg4 x2 _ _
  simp only [e2, e3, e4]
  refine List.forall_mem_cons.mpr ⟨plane_queries x0 x1 x2 15 inb_S16x512x128_S1x512x128_15_0_0 (by omega) slices_S512x2048_o0_1920_S512x128 shapeCasts_S512x128_S1x512x128, ?_⟩
  refine List.forall_mem_cons.mpr ⟨plane_queries x0 x1 x2 14 inb_S16x512x128_S1x512x128_14_0_0 (by omega) slices_S512x2048_o0_1792_S512x128 shapeCasts_S512x128_S1x512x128, ?_⟩
  refine List.forall_mem_cons.mpr ⟨plane_queries x0 x1 x2 13 inb_S16x512x128_S1x512x128_13_0_0 (by omega) slices_S512x2048_o0_1664_S512x128 shapeCasts_S512x128_S1x512x128, ?_⟩
  refine List.forall_mem_cons.mpr ⟨plane_queries x0 x1 x2 12 inb_S16x512x128_S1x512x128_12_0_0 (by omega) slices_S512x2048_o0_1536_S512x128 shapeCasts_S512x128_S1x512x128, ?_⟩
  refine List.forall_mem_cons.mpr ⟨plane_queries x0 x1 x2 11 inb_S16x512x128_S1x512x128_11_0_0 (by omega) slices_S512x2048_o0_1408_S512x128 shapeCasts_S512x128_S1x512x128, ?_⟩
  refine List.forall_mem_cons.mpr ⟨plane_queries x0 x1 x2 10 inb_S16x512x128_S1x512x128_10_0_0 (by omega) slices_S512x2048_o0_1280_S512x128 shapeCasts_S512x128_S1x512x128, ?_⟩
  refine List.forall_mem_cons.mpr ⟨plane_queries x0 x1 x2 9 inb_S16x512x128_S1x512x128_9_0_0 (by omega) slices_S512x2048_o0_1152_S512x128 shapeCasts_S512x128_S1x512x128, ?_⟩
  refine List.forall_mem_cons.mpr ⟨plane_queries x0 x1 x2 8 inb_S16x512x128_S1x512x128_8_0_0 (by omega) slices_S512x2048_o0_1024_S512x128 shapeCasts_S512x128_S1x512x128, ?_⟩
  refine List.forall_mem_cons.mpr ⟨plane_queries x0 x1 x2 7 inb_S16x512x128_S1x512x128_7_0_0 (by omega) slices_S512x2048_o0_896_S512x128 shapeCasts_S512x128_S1x512x128, ?_⟩
  refine List.forall_mem_cons.mpr ⟨plane_queries x0 x1 x2 6 inb_S16x512x128_S1x512x128_6_0_0 (by omega) slices_S512x2048_o0_768_S512x128 shapeCasts_S512x128_S1x512x128, ?_⟩
  refine List.forall_mem_cons.mpr ⟨plane_queries x0 x1 x2 5 inb_S16x512x128_S1x512x128_5_0_0 (by omega) slices_S512x2048_o0_640_S512x128 shapeCasts_S512x128_S1x512x128, ?_⟩
  refine List.forall_mem_cons.mpr ⟨plane_queries x0 x1 x2 4 inb_S16x512x128_S1x512x128_4_0_0 (by omega) slices_S512x2048_o0_512_S512x128 shapeCasts_S512x128_S1x512x128, ?_⟩
  refine List.forall_mem_cons.mpr ⟨plane_queries x0 x1 x2 3 inb_S16x512x128_S1x512x128_3_0_0 (by omega) slices_S512x2048_o0_384_S512x128 shapeCasts_S512x128_S1x512x128, ?_⟩
  refine List.forall_mem_cons.mpr ⟨plane_queries x0 x1 x2 2 inb_S16x512x128_S1x512x128_2_0_0 (by omega) slices_S512x2048_o0_256_S512x128 shapeCasts_S512x128_S1x512x128, ?_⟩
  refine List.forall_mem_cons.mpr ⟨plane_queries x0 x1 x2 1 inb_S16x512x128_S1x512x128_1_0_0 (by omega) slices_S512x2048_o0_128_S512x128 shapeCasts_S512x128_S1x512x128, ?_⟩
  refine List.forall_mem_cons.mpr ⟨plane_queries x0 x1 x2 0 inb_S16x512x128_S1x512x128_0_0_0 (by omega) slices_S512x2048_o0_0_S512x128 shapeCasts_S512x128_S1x512x128, ?_⟩
  exact fun p hp => absurd hp List.not_mem_nil

/-- the queries of its row block, -/
theorem first_queries (hc : first i) (f) :
    arg11.view.read (Elt F) (arg11.view.writes (Elt F) f (atFirst c i arg2 harg2 arg3 harg3 arg4 harg4 arg5 harg5 arg6 harg6 arg7 harg7 arg8 harg8 arg9 harg9 arg10 harg10 arg11 harg11 hc x0 x1 x2 x3).2.2.1) = queries x0 x1 x2 := by
  dsimp only [atFirst]
  funext y
  exact View.read_writes_apply_of_pieces _ _ (queries x0 x1 x2) _ (first_pieces c arg2 harg2 arg3 harg3 arg4 harg4 x0 x1 x2) y
    (View.cover_of_tiledL (s := S16x512x128) _ ![1, 512, 128] (by sl_kernel_rfl) y)

/-- The four tiles of the scores. -/
theorem tiles (M : Memref sig .tc .vmem S1x4x128x128 .f32) (f) (v : FVec F S128x512 .f32) (hv : v = k0_pay27 (subKey x3) (plane i xs)) :
    M.view.read (Elt F) (M.view.writes (Elt F) f
      [⟨Rect.unit (s := S1x4x128x128) ![0, 3, 0, 0] S1x1x128x128.size inb_S1x4x128x128_S1x1x128x128_0_3_0_0, k0_pay2 v⟩,
       ⟨Rect.unit (s := S1x4x128x128) ![0, 2, 0, 0] S1x1x128x128.size inb_S1x4x128x128_S1x1x128x128_0_2_0_0, k0_pay3721 v⟩,
       ⟨Rect.unit (s := S1x4x128x128) ![0, 1, 0, 0] S1x1x128x128.size inb_S1x4x128x128_S1x1x128x128_0_1_0_0, k0_pay2493 v⟩,
       ⟨Rect.unit (s := S1x4x128x128) ![0, 0, 0, 0] S1x1x128x128.size inb_S1x4x128x128_S1x1x128x128_0_0_0_0,
        shapeCast S1x1x128x128 (extractStridedSlice S128x128 ![0, 0] v slices_S128x512_o0_0_S128x128) shapeCasts_S128x128_S1x1x128x128⟩])
      = scores i x3 xs := by
  subst hv
  funext y
  refine View.read_writes_apply_of_pieces _ _ (scores i x3 xs) _ ?_ y (View.cover_of_tiledL (s := S1x4x128x128) _ ![1, 1, 128, 128] (by sl_kernel_rfl) y)
  refine List.forall_mem_cons.mpr ⟨tile_scores i x3 xs 3 inb_S1x4x128x128_S1x1x128x128_0_3_0_0 (by omega) slices_S128x512_o0_384_S128x128 shapeCasts_S128x128_S1x1x128x128, ?_⟩
  refine List.forall_mem_cons.mpr ⟨tile_scores i x3 xs 2 inb_S1x4x128x128_S1x1x128x128_0_2_0_0 (by omega) slices_S128x512_o0_256_S128x128 shapeCasts_S128x128_S1x1x128x128, ?_⟩
  refine List.forall_mem_cons.mpr ⟨tile_scores i x3 xs 1 inb_S1x4x128x128_S1x1x128x128_0_1_0_0 (by omega) slices_S128x512_o0_128_S128x128 shapeCasts_S128x128_S1x1x128x128, ?_⟩
  refine List.forall_mem_cons.mpr ⟨tile_scores i x3 xs 0 inb_S1x4x128x128_S1x1x128x128_0_0_0_0 (by omega) slices_S128x512_o0_0_S128x128 shapeCasts_S128x128_S1x1x128x128, ?_⟩
  exact fun p hp => absurd hp List.not_mem_nil

/-- and the first head's scores. -/
theorem first_scores (hc : first i) (f) :
    arg8.view.read (Elt F) (arg8.view.writes (Elt F) f (atFirst c i arg2 harg2 arg3 harg3 arg4 harg4 arg5 harg5 arg6 harg6 arg7 harg7 arg8 harg8 arg9 harg9 arg10 harg10 arg11 harg11 hc x0 x1 x2 x3).2.1) = scores i x3 (queries x0 x1 x2) := by
  refine tiles i x3 (queries x0 x1 x2) arg8 f (atFirst.sl.r_5 c i arg2 harg2 arg3 harg3 arg4 harg4 arg5 harg5 arg11 x0 x1 x2 x3) ?_
  unfold atFirst.sl.r_5 atFirst.sl.v15
  refine congrArg₂ _ (funext fun y => ?_) (funext fun y => ?_)
  · rw [View.readAt_apply, harg5.read_unread]
    rfl
  · rw [View.readAt_apply]
    exact View.read_writes_apply_of_pieces _ _ (queries x0 x1 x2) _ (first_pieces c arg2 harg2 arg3 harg3 arg4 harg4 x0 x1 x2) _
      (View.cover_of_tiledL (s := S16x512x128) _ ![1, 512, 128] (by sl_kernel_rfl) _)

/-- The other heads leave their scores. -/
theorem other_scores (hc : ¬first i) (f) :
    arg8.view.read (Elt F) (arg8.view.writes (Elt F) f (atOther c i arg2 harg2 arg3 harg3 arg4 harg4 arg5 harg5 arg6 harg6 arg7 harg7 arg8 harg8 arg9 harg9 arg10 harg10 arg11 harg11 hc x0 x1 x2 x3 x4 xs).1) = scores i x3 xs := by
  refine tiles i x3 xs arg8 f (atOther.sl.r_1 c i arg5 harg5 arg11 harg11 x3 xs) ?_
  unfold atOther.sl.r_1
  refine congrArg₂ _ (funext fun y => ?_) (funext fun y => ?_)
  · rw [View.readAt_apply, harg5.read_unread]
    rfl
  · rw [View.readAt_apply, harg11.read_unread]
    rfl

end Cert.RouteIdeal.Run

end
-- ==== Proof.RouteRun.lean ====
/-
  THE RUN OF THE ROUTING CALL. Eight points, one per head, share a row block: the first leaves the block's normed rows and
  its queries, and the points after it find both where the first left them.
-/
module

public import proofs.«01_k».proof.Proof.RouteBlocks
public import proofs.«01_k».proof.Proof.Gen.RouteIdeal.Frame
public import Idealize.ShloMosaic.Lib.Claim

@[expose] public section

set_option maxRecDepth 16384

noncomputable section

namespace Cert.RouteIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.RouteIdeal.Gen

variable {F : FTy → Type} [FloatOps F]

variable (m : (ℓ : Loc nD τ sig) → Buf (Elt F) ℓ) (ρ : Dev nD → PrngReg)

/-- The first point of a point's row block. -/
def head (t : Fin cfg0.N) : Fin cfg0.N := ⟨t.val - t.val % 8, lt_of_le_of_lt (Nat.sub_le _ _) t.isLt⟩

theorem head_first (t : Fin cfg0.N) (h : t.val % 8 = 0) : head t = t := Fin.ext (by show t.val - t.val % 8 = t.val; omega)

theorem head_prev (t : Fin cfg0.N) (h : ¬t.val % 8 = 0) : head (⟨t.val - 1, Nat.lt_of_le_of_lt (Nat.sub_le _ _) t.isLt⟩ : Fin cfg0.N) = head t :=
  Fin.ext (by show t.val - 1 - (t.val - 1) % 8 = t.val - t.val % 8; omega)

theorem first_iff (t : Fin cfg0.N) : first (grid0.coords t) ↔ t.val % 8 = 0 := by
  have ht : t.val < 256 := Nat.lt_of_lt_of_eq t.isLt N_0
  have e1 : (grid0.coords t 1).val = t.val / 1 % 8 := Pipeline.Grid.coords_val t 1 (by decide) rfl
  simp only [first, e1]
  word_cmp

/-- The normed rows of a point's block. -/
def rowsAt (c : Dev nD) (t : Fin cfg0.N) : Vec F S1024x512 .bf16 := k0_pay6 (iblk m c 0 (head t)) (iblk m c 1 (head t))

/-- The queries of a point's block. -/
def queriesAt (c : Dev nD) (t : Fin cfg0.N) : Vec F S16x512x128 .bf16 :=
  queries (iblk m c 0 (head t)) (iblk m c 1 (head t)) (iblk m c 2 (head t))

/-- The scores of a point. -/
def scoresAt (c : Dev nD) (t : Fin cfg0.N) : Vec F S1x4x128x128 .f32 := scores (grid0.coords t) (iblk m c 3 t) (queriesAt m c t)

/-- The scratch that the points of a row block share. -/
abbrev shared : Memref sig .tc .vmem S16x512x128 .bf16 := Memref.whole cc0_scratch0

/-- What the region holds before its `n`-th point: after a point, the scratch at that point's queries. -/
def held (c : Dev nD) : (n : ℕ) → n ≤ cfg0.N → sProp (MT nD τ sig Unit (Elt F) ℕ (UR sig nD τ) ℕ)
  | 0, _ => Pipeline.ΦA spec0 c
  | n + 1, h => iprop(owns (c : Thread nD τ) shared fullShare (queriesAt m c ⟨n, h⟩) ∗ (∃ r, prngReg c r))

theorem held_pos (c : Dev nD) (n : ℕ) (h : n ≤ cfg0.N) (hz : n ≠ 0) :
    held m c n h = iprop(owns (c : Thread nD τ) shared fullShare (queriesAt m c ⟨n - 1, by omega⟩) ∗ (∃ r, prngReg c r)) := by
  cases n with
  | zero => exact absurd rfl hz
  | succ n => rfl

theorem rest_eq (c : Dev nD) :
    (Pipeline.ΦA spec0 c : sProp (MT nD τ sig Unit (Elt F) ℕ (UR sig nD τ) ℕ)) = iprop((∃ d, owns (c : Thread nD τ) shared fullShare d) ∗ (∃ r, prngReg c r)) := by
  unfold Pipeline.ΦA
  rw [scopedRest0_eq]
  simp only [shared, owns_whole]
  try rfl

/-- At any point the scratch can be taken at some contents. -/
theorem held_some (c : Dev nD) (n : ℕ) (h : n ≤ cfg0.N) :
    held m c n h ⊢ iprop((∃ d, owns (c : Thread nD τ) shared fullShare d) ∗ (∃ r, prngReg c r)) := by
  by_cases hz : n = 0
  · subst hz
    exact Entails.of_eq (rest_eq c)
  · rw [held_pos m c n h hz]
    iintro ⟨HS, Hg⟩
    isplitl [HS]
    · iexists _; iexact HS
    iexact Hg

/-- The outputs of which nothing is said. -/
def unsaid : Fin cfg0.W → Bool := fun w => w.val == 5 || w.val == 7 || w.val == 8

/-- The proof data: inputs keep their blocks, and of the outputs the normed rows and the scores are named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t
    | ⟨5, _⟩ => scoresAt m c t
    | ⟨6, _⟩ => scoresAt m c t
    | ⟨7, _⟩ => scoresAt m c t
    | ⟨8, _⟩ => scoresAt m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_at (c : Dev nD) (t : Fin cfg0.N) : (dats m 0 c).Φ t.castSucc = held m c t.val (Nat.le_of_lt t.isLt) := by
  dsimp only [dats]
  exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rowsAt m c t := by dsimp only [dats]
theorem after_6 (c : Dev nD) (t : Fin cfg0.N) : (dats m 0 c).after 6 t = scoresAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The first head writes the normed rows, -/
theorem live_4 (t : Fin cfg0.N) (h : t.val % 8 = 0) : cfg0.idle 4 (cfg0.grid.coords t) = false := by
  have hc : k0_cond1 (grid0.coords t) = 1#1 := (first_iff t).mpr h
  show (!(k0_cond1 (grid0.coords t) == 1#1)) = false
  rw [hc]
  rfl

/-- the others do not. -/
theorem idle_4 (t : Fin cfg0.N) (h : ¬t.val % 8 = 0) : cfg0.idle 4 (cfg0.grid.coords t) = true := by
  have hc : ¬k0_cond1 (grid0.coords t) = 1#1 := fun e => h ((first_iff t).mp e)
  show (!(k0_cond1 (grid0.coords t) == 1#1)) = true
  rw [beq_eq_false_iff_ne.mpr hc]
  rfl

/-- A later head finds the normed rows that the first left. -/
theorem before_4 (c : Dev nD) : ∀ (n : ℕ) (hn : n < cfg0.N) (h : ¬n % 8 = 0) (d), (dats m 0 c).before 4 ⟨n, hn⟩ d = rowsAt m c ⟨n, hn⟩
  | 0, hn, h, d => absurd rfl h
  | n + 1, hn, h, d => by
    have hf : (cfg0.win 4).flush (⟨n, Nat.lt_of_succ_lt hn⟩ : Fin cfg0.N) = false := by
      refine Bool.eq_false_iff.mpr fun hf => ?_
      have : n % 8 = 7 := (flush0_4 _).mp hf
      omega
    have hh : rowsAt m c ⟨n, Nat.lt_of_succ_lt hn⟩ = rowsAt m c ⟨n + 1, hn⟩ := by
      unfold rowsAt
      rw [← head_prev (⟨n + 1, hn⟩ : Fin cfg0.N) h]
      rfl
    refine ((dats m 0 c).before_of_pos 4 ⟨n + 1, hn⟩ (Nat.succ_ne_zero n) ((cfg0.win 4).fetch_out rfl _) d).trans ?_
    refine (if_neg (by show ¬(cfg0.win 4).flush (⟨n, Nat.lt_of_succ_lt hn⟩ : Fin cfg0.N) = true; rw [hf]; exact Bool.false_ne_true)).trans ?_
    show (dats m 0 c).left 4 (⟨n, Nat.lt_of_succ_lt hn⟩ : Fin cfg0.N) d = _
    unfold Dat.left
    by_cases h' : n % 8 = 0
    · rw [live_4 _ h']
      show (dats m 0 c).kept 4 (⟨n, Nat.lt_of_succ_lt hn⟩ : Fin cfg0.N) d = _
      unfold Dat.kept
      rw [Pipeline.fill_of_clip_none 4 _ (fun _ => rfl) d ((dats m 0 c).after 4 _), Window.fill_cut, after_4, hh]
    · rw [idle_4 _ h']
      exact (before_4 c n _ h' d).trans hh

/-- What the obligation asks of the normed rows' buffer. -/
theorem leave_4 (c : Dev nD) (t : Fin cfg0.N) :
    owns (c : Thread nD τ) (st0_4 t) fullShare ((dats m 0 c).after 4 t) ⊢ ((dats m 0 c).leavesExact 4 t : sProp (MT nD τ sig Unit (Elt F) ℕ (UR sig nD τ) ℕ)) := by
  unfold Dat.leavesExact
  by_cases h : t.val % 8 = 0
  · rw [live_4 t h]
  · rw [idle_4 t h]
    cases (cfg0.win 4).flush t
    · show _ ⊢ iprop(∃ d, owns (c : Thread nD τ) (st0_4 t) fullShare ((dats m 0 c).before 4 t d))
      rw [after_4]
      iintro H
      iexists rowsAt m c t
      rw [before_4 m c t.val t.isLt h]
      iexact H
    · exact Entails.refl _

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ owns (c : Thread nD τ) (st0_6 t) fullShare ((dats m 0 c).after 6 t)
    ∗ (∃ d, owns (c : Thread nD τ) (st0_7 t) fullShare d)
    ∗ (∃ d, owns (c : Thread nD τ) (st0_8 t) fullShare d))

set_option maxHeartbeats 4000000 in
/-- The body at any point. -/
theorem body_triple (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, after_6]
  rw [show (dats m 0 c).Φ t.succ = iprop(owns (c : Thread nD τ) shared fullShare (queriesAt m c t) ∗ (∃ r, prngReg c r)) from rfl, held_at]
  by_cases h0 : t.val % 8 = 0
  · have hc : first (grid0.coords t) := (first_iff t).mpr h0
    have er : rowsAt m c t = k0_pay6 (iblk m c 0 t) (iblk m c 1 t) := by unfold rowsAt; rw [head_first t h0]
    have eq : queriesAt m c t = queries (iblk m c 0 t) (iblk m c 1 t) (iblk m c 2 t) := by unfold queriesAt; rw [head_first t h0]
    have es : scoresAt m c t = scores (grid0.coords t) (iblk m c 3 t) (queries (iblk m c 0 t) (iblk m c 1 t) (iblk m c 2 t)) := by
      unfold scoresAt; rw [eq]
    rw [er, es, eq]
    refine (sep_mono (held_some m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atFirst c (grid0.coords t) _ _ _ _ _ _ _ _ _ _ _ _ _ _ _ _ _ _ _ _ hc (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS]; · iexact HS
    iintro ⟨H0, H1, H2, H3, ⟨%e4, H4⟩, H5, ⟨%e6, H6⟩, H7, H8, ⟨%es, HS⟩⟩
    isplitl [HS Hg]
    · isplitl [HS]
      · unfold owns; iexists _; isplitr
        swap; · iexact HS
        ipureintro; exact first_queries c _ _ _ _ _ _ _ _ _ _ _ _ _ _ _ _ _ _ _ _ _ _ _ _ _ hc _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact first_rows c _ _ _ _ _ _ _ _ _ _ _ _ _ _ _ _ _ _ _ _ _ _ _ _ _ hc _
    isplitl [H5]; · iexact H5
    isplitl [H6]
    · unfold owns; iexists _; isplitr
      swap; · iexact H6
      ipureintro; exact first_scores c _ _ _ _ _ _ _ _ _ _ _ _ _ _ _ _ _ _ _ _ _ _ _ _ _ hc _
    isplitl [H7]; · iexact H7
    iexact H8
  · have hc : ¬first (grid0.coords t) := fun h => h0 ((first_iff t).mp h)
    simp only [before_4 m c t.val t.isLt h0]
    have eq : queriesAt m c ⟨t.val - 1, Nat.lt_of_le_of_lt (Nat.sub_le _ _) t.isLt⟩ = queriesAt m c t := by
      unfold queriesAt; rw [head_prev t h0]
    rw [held_pos m c t.val _ (by omega), eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atOther c (grid0.coords t) _ _ _ _ _ _ _ _ _ _ _ _ _ _ _ _ _ _ _ _ hc (iblk m c 0 t) (iblk m c 1 t) (iblk m c 2 t) (iblk m c 3 t) (rowsAt m c t) (queriesAt m c t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact other_scores c _ _ _ _ _ _ _ _ _ _ _ _ _ _ _ _ _ _ _ _ _ _ _ _ _ _ _ hc _
    isplitl [H7]; · iexact H7
    iexact H8

theorem row_eq (t : Fin cfg0.N) : defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ unsaid := fun t => by
  rw [bigSep_W0, bigSep_W0, row_eq]
  rw [show unsaid 0 = false from rfl, show unsaid 1 = false from rfl, show unsaid 2 = false from rfl, show unsaid 3 = false from rfl,
    show unsaid 4 = false from rfl, show unsaid 5 = true from rfl, show unsaid 6 = false from rfl, show unsaid 7 = true from rfl,
    show unsaid 8 = true from rfl]
  exact triple_restated (body_triple m c t) rfl .rfl fun _ =>
    sep_mono .rfl (sep_mono .rfl (sep_mono .rfl (sep_mono .rfl (sep_mono .rfl (sep_mono .rfl (sep_mono (leave_4 m c t) .rfl))))))

theorem held_in (c : Dev nD) : Pipeline.ΦA spec0 c ⊢ (dats m 0 c).Φ 0 := Entails.refl _

theorem held_out (c : Dev nD) : (dats m 0 c).Φ (Fin.last cfg0.N) ⊢ Pipeline.ΦA spec0 c := by
  rw [rest_eq]
  exact held_some m c cfg0.N (Nat.le_refl _)

set_option backward.isDefEq.respectTransparency.types false in
/-- Every run ends with the named arrays at what the proof data say, and with every counter at zero. -/
theorem run : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_track_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := A_eq m) (hin := held_in m) (hout := held_out m)

/-- A named array, after a run. -/
theorem named (c : Dev nD) (w : Fin cfg0.W) (hw : unsaid w = false) {r : PUnit × MemSt nD τ sig (Elt F)}
    (h : Pipeline.RDat.FramePost cfg0 (fun c => (dats m 0 c).toRForget unsaid) (V m) r) :
    r.2.mem (((spec0 w).arr.view.loc (c.tc : Thread nD τ))) = (dats m 0 c).arrAt w cfg0.N :=
  ((dats m 0 c).toRForget_arrAt_iff hw cfg0.N _).mp ((h c).1 w)

/-- The arguments, after a run. -/
theorem args_kept (c : Dev nD) {r : PUnit × MemSt nD τ sig (Elt F)}
    (h : Pipeline.RDat.FramePost cfg0 (fun c => (dats m 0 c).toRForget unsaid) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(named m c 0 rfl h).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m c h.1, h.2⟩) (run m ρ)

end Cert.RouteIdeal.Run

end
-- ==== Proof.RouteFrame.lean ====
/-
  The routing call's frame at the bit-exact instance. The program and its idealization have the same text, so their bodies and
  their tables of bodies are equal, and the run of the one is the run of the other.
-/
module

public import proofs.«01_k».proof.Defs
public import proofs.«01_k».proof.Proof.RouteRun
public import proofs.«01_k».proof.Proof.Gen.Route.Frame

@[expose] public section

set_option maxRecDepth 65536

noncomputable section

namespace Cert.Route.Run

open Idealize.ShloMosaic Idealize.ShloMosaic.TcCoe Idealize.SL.Sem

theorem body_eq : @Cert.Route.cc0__peer_route_body Bits _ _ = @Cert.RouteIdeal.cc0__peer_route_body Bits _ _ := rfl

theorem bodies_eq : Cert.Route.defs₀ (F := Bits) = Cert.RouteIdeal.defs₀ (F := Bits) := by
  unfold Cert.Route.defs₀ Cert.RouteIdeal.defs₀
  refine congrArg Defs.onTc (funext fun l => funext fun a => ?_)
  match l, a with
  | 0, (t, s) => rfl

theorem defs_eq : Cert.Route.defs (F := Bits) = Cert.RouteIdeal.defs (F := Bits) :=
  congrArg (Pipeline.defs (Cert.RouteIdeal.pcfgs (F := Bits))) bodies_eq

theorem frame : Cert.quiescent_Route := fun m ρ _ => by
  rw [defs_eq]
  exact Cert.RouteIdeal.Run.frame (F := Bits) m ρ

end Cert.Route.Run

end
-- ==== Proof.RouteRows.lean ====
/-
  THE ROUTING CALL'S ARRAYS: the normed rows transposed, and the scores of the second sub-keys, from the kernel's blocks.
-/
module

public import proofs.«01_k».proof.Proof.RouteRun
public import proofs.«01_k».proof.Proof.Norm
public import proofs.«01_k».proof.Proof.Attention
public import Idealize.ShloMosaic.Lib.Pipeline.ValueKit
public import Idealize.ShloMosaic.Lib.Pipeline.ValueKit.Tiles

@[expose] public section

set_option maxRecDepth 16384

noncomputable section

namespace Cert.RouteIdeal.Rows

open Cert.RouteIdeal Cert.RouteIdeal.Gen Cert.RouteIdeal.Run Cert.Norm Cert.Attention
open Idealize.ShloMosaic hiding ix1 ix2 ix3 ix4
open Idealize.ShloMosaic.TcCoe Idealize.ShloMosaic.Tactic Idealize.SL.Sem Idealize.ShloMosaic.ValueIdx
open Idealize.ShloMosaic.Pipeline (Dat Cfg Window)

/-- The two tables of sub-keys of each head. -/
abbrev SubKeys := (⟨4, ![8, 2, 128, 128]⟩ : Shape).Idx → EReal

/-- Entry `k` of the normed row `r`. -/
def row (x : Mat 16384 1024) (g : (⟨1, ![1024]⟩ : Shape).Idx → EReal) (r : Fin 16384) (k : Fin 1024) : EReal :=
  normed 0x44800000#32 0x358637BD#32 (fun k => x (ix2 r k)) (fun k => g (ix1 k)) k

/-- Entry `j` of the queries of row `r`. -/
def query (x : Mat 16384 1024) (g : (⟨1, ![1024]⟩ : Shape).Idx → EReal) (w : Mat 1024 2048) (r : Fin 16384) (j : Fin 2048) :
    EReal := ∑ k : Fin 1024, row x g r k * w (ix2 k j)

/-- Row `r`'s score at sub-key `k` of head `h`'s second table. -/
def score (x : Mat 16384 1024) (g : (⟨1, ![1024]⟩ : Shape).Idx → EReal) (w : Mat 1024 2048) (s : SubKeys) (r : Fin 16384)
    (h : Fin 8) (k : Fin 128) : EReal :=
  ∑ d : Fin 128, s (ix4 h 1 k d) * query x g w r ⟨128 * (2 * h.val + 1) + d.val, by omega⟩

/-- The normed rows, transposed. -/
def outRows (x : Mat 16384 1024) (g : (⟨1, ![1024]⟩ : Shape).Idx → EReal) : Mat 1024 16384 := fun y => row x g (y 1) (y 0)

/-- The scores, by head and by blocks of 128 rows. -/
def outScores (x : Mat 16384 1024) (g : (⟨1, ![1024]⟩ : Shape).Idx → EReal) (w : Mat 1024 2048) (s : SubKeys) :
    (⟨4, ![8, 128, 128, 128]⟩ : Shape).Idx → EReal := fun y =>
  have h1 : (y 1).val < 128 := (y 1).isLt
  have h3 : (y 3).val < 128 := (y 3).isLt
  score x g w s ⟨128 * (y 1).val + (y 3).val, by omega⟩ (y 0) (y 2)

/-! ## One grid point -/

/-- A block's normed rows, transposed, from the entries of the blocks it reads. -/
theorem rows_of (x : Vec Ideal S512x1024 .f32) (g : Vec Ideal S1x1024 .f32) (r : Fin 512) (k : Fin 1024)
    (x' g' : Fin 1024 → EReal) (hx : ∀ k, x (ix2 r k) = x' k) (hg : ∀ k, g (ix2 0 k) = g' k) :
    k0_pay6 x g (ix2 k r) = normed 0x44800000#32 0x358637BD#32 x' g' k := by
  unfold k0_pay6
  dsimp only
  refine (transpose_apply [1, 0] (k0_pay5 x g) transposes_S512x1024_p1_0_S1024x512 (ix2 k r) (ix2 r k) (fun b => by
    fin_cases b <;> rfl)).trans ?_
  unfold k0_pay5
  dsimp only
  simp only [shapeCast_self]
  obtain rfl := funext hx
  obtain rfl := funext hg
  exact block_apply 0x44800000#32 0x358637BD#32 x g _ _ _ _ _ _ r k

/-- A block's queries, from the entries of the blocks it reads. -/
theorem queries_of (x : Vec Ideal S512x1024 .f32) (g : Vec Ideal S1x1024 .f32) (w : Vec Ideal S1024x2048 .bf16) (p : Fin 16)
    (r : Fin 512) (d : Fin 128) (x' g' w' : Fin 1024 → EReal) (hx : ∀ k, x (ix2 r k) = x' k) (hg : ∀ k, g (ix2 0 k) = g' k)
    (hw : ∀ k, w (ix2 k ⟨128 * p.val + d.val, by omega⟩) = w' k) :
    queries x g w (ix3 p r d) = ∑ k : Fin 1024, normed 0x44800000#32 0x358637BD#32 x' g' k * w' k := by
  show k0_pay7 x g w (ix2 r ⟨128 * p.val + d.val, by omega⟩) = _
  unfold k0_pay7 k0_pay5
  dsimp only
  simp only [shapeCast_self]
  exact block_dot 0x44800000#32 0x358637BD#32 x g w _ _ _ _ _ _ _ r _ x' g' w' hx hg hw

/-- A table of sub-keys times a plane of queries. -/
theorem product_apply (v : Vec Ideal S1x1x128x128 .bf16) (q : Vec Ideal S1x512x128 .bf16) (k : Fin 128) (r : Fin 512) :
    k0_pay27 v q (ix2 k r) = ∑ d : Fin 128, v (ix4 0 0 k d) * q (ix3 0 r d) := by
  unfold k0_pay27
  refine (Ideal.matmul_transposedRhs_apply (M := 128) (K := 128) (N := 512) _ _ _ _ k r).trans ?_
  show (Ideal.ofBits .f32 0x00000000#32 : EReal) + _ = _
  rw [Ideal.ofBits_zero_f32, zero_add]
  refine Finset.sum_congr rfl fun d _ => congrArg₂ (· * ·) ?_ ?_
  · refine shapeCast_apply _ _ _ _ ?_
    rw [Shape.rowMajor_val_four, Shape.rowMajor_val_two]
    show ((0 * 1 + 0) * 128 + k.val) * 128 + d.val = k.val * 128 + d.val
    omega
  · refine shapeCast_apply _ _ _ _ ?_
    rw [Shape.rowMajor_val_three, Shape.rowMajor_val_two]
    show (0 * 512 + r.val) * 128 + d.val = r.val * 128 + d.val
    omega

/-- A point's scores, from the entries of the table and of the queries. -/
theorem scores_of (i : grid0.Coords) (x3 : Vec Ideal S1x2x128x128 .bf16) (xs : Vec Ideal S16x512x128 .bf16) (p : Fin 16)
    (hp : k0_off2 i = ![p.val, 0, 0]) (b : Fin 4) (k l : Fin 128) (s' q' : Fin 128 → EReal)
    (hs : ∀ d, x3 (ix4 0 1 k d) = s' d) (hq : ∀ d, xs (ix3 p ⟨128 * b.val + l.val, by omega⟩ d) = q' d) :
    scores i x3 xs (ix4 0 b k l) = ∑ d : Fin 128, s' d * q' d := by
  show k0_pay27 (subKey x3) (plane i xs) (ix2 k ⟨128 * b.val + l.val, by omega⟩) = _
  rw [product_apply]
  refine Finset.sum_congr rfl fun d _ => congrArg₂ (· * ·) (Eq.trans ?_ (hs d)) (Eq.trans ?_ (hq d))
  · refine congrArg x3 (funext fun a => Fin.ext ?_)
    fin_cases a
    · rfl
    · rfl
    · show 0 + 1 * k.val = k.val
      omega
    · show 0 + 1 * d.val = d.val
      omega
  · refine congrArg xs (funext fun a => Fin.ext ?_)
    fin_cases a
    · show k0_off2 i 0 + 1 * 0 = p.val
      rw [hp]
      rfl
    · show k0_off2 i 1 + 1 * (128 * b.val + l.val) = 128 * b.val + l.val
      rw [hp]
      show 0 + 1 * (128 * b.val + l.val) = 128 * b.val + l.val
      omega
    · show k0_off2 i 2 + 1 * d.val = d.val
      rw [hp]
      show 0 + 1 * d.val = d.val
      omega

/-! ## The arrays -/

variable (m : (ℓ : Loc nD τ sig) → Buf (Elt Ideal) ℓ) (c : Dev nD)

/-- The four arguments. -/
abbrev X : Mat 16384 1024 := m ((c.tc : Thread nD τ).loc main_arg0)
abbrev G : (⟨1, ![1024]⟩ : Shape).Idx → EReal := m ((c.tc : Thread nD τ).loc main_arg1)
abbrev W : Mat 1024 2048 := m ((c.tc : Thread nD τ).loc main_arg2)
abbrev S : SubKeys := m ((c.tc : Thread nD τ).loc main_arg3)

theorem rows_apply (r : Fin 16384) (k : Fin 1024) : V m c main_arg0 (ix2 r k) = X m c (ix2 r k) :=
  congrFun (V_main_arg0 m c) _

theorem gain_apply (k : Fin 1024) : V m c main_v2 (ix2 0 k) = G m c (ix1 k) := by
  unfold_abbrev_sides
  after_results
  exact to_row _ _ k

theorem weight_apply (k : Fin 1024) (j : Fin 2048) : V m c main_v0 (ix2 k j) = W m c (ix2 k j) := by
  unfold_abbrev_sides
  after_results
  rfl

theorem key_apply (h : Fin 8) (p : Fin 2) (k d : Fin 128) : V m c main_v1 (ix4 h p k d) = S m c (ix4 h p k d) := by
  unfold_abbrev_sides
  after_results
  rfl

/-- Which blocks a grid point reads and writes, and which plane of queries it reads. -/
theorem idx_all : ∀ t : Fin cfg0.N,
    win0_0.index t = ![t.val / 8, 0] ∧ win0_1.index t = ![0, 0] ∧ win0_2.index t = ![0, 0]
    ∧ win0_3.index t = ![t.val % 8, 0, 0, 0] ∧ win0_4.index t = ![0, t.val / 8] ∧ win0_6.index t = ![t.val % 8, t.val / 8, 0, 0]
    ∧ k0_off2 (grid0.coords t) = ![2 * (t.val % 8) + 1, 0, 0] :=
  (by decide +kernel : ∀ t : Fin grid0.N,
    win0_0.index t = ![t.val / 8, 0] ∧ win0_1.index t = ![0, 0] ∧ win0_2.index t = ![0, 0]
    ∧ win0_3.index t = ![t.val % 8, 0, 0, 0] ∧ win0_4.index t = ![0, t.val / 8] ∧ win0_6.index t = ![t.val % 8, t.val / 8, 0, 0]
    ∧ k0_off2 (grid0.coords t) = ![2 * (t.val % 8) + 1, 0, 0])

theorem lt_points (t : Fin cfg0.N) : t.val < 256 := Nat.lt_of_lt_of_eq t.isLt N_0

/-- The rows that a point's row block reads. -/
theorem x_of (t : Fin cfg0.N) (r : Fin 512) (k : Fin 1024) : iblk m c 0 (head t) (ix2 r k)
    = X m c (ix2 (⟨512 * (t.val / 8) + r.val, by have := lt_points t; omega⟩ : Fin 16384) k) := by
  refine Eq.trans ?_ (rows_apply m c _ k)
  have ht := lt_points t
  have e0 : win0_0.index (head t) = ![t.val / 8, 0] :=
    (idx_all (head t)).1.trans (by show ![(t.val - t.val % 8) / 8, 0] = _; rw [show (t.val - t.val % 8) / 8 = t.val / 8 by omega])
  blk_ext [iblk, e0]
  show t.val / 8 * 512 + r.val = 512 * (t.val / 8) + r.val
  omega

theorem g_of (t : Fin cfg0.N) (k : Fin 1024) : iblk m c 1 t (ix2 0 k) = G m c (ix1 k) := by
  refine Eq.trans ?_ (gain_apply m c k)
  have e1 := (idx_all t).2.1
  blk_ext [iblk, e1]

theorem w_of (t : Fin cfg0.N) (k : Fin 1024) (j : Fin 2048) : iblk m c 2 t (ix2 k j) = W m c (ix2 k j) := by
  refine Eq.trans ?_ (weight_apply m c k j)
  have e2 := (idx_all t).2.2.1
  blk_ext [iblk, e2]

theorem s_of (t : Fin cfg0.N) (p : Fin 2) (k d : Fin 128) :
    iblk m c 3 t (ix4 0 p k d) = S m c (ix4 (⟨t.val % 8, by omega⟩ : Fin 8) p k d) := by
  refine Eq.trans ?_ (key_apply m c _ p k d)
  have e3 := (idx_all t).2.2.2.1
  blk_ext [iblk, e3]

theorem rows_eq : (dats m 0 c).arrAt 4 cfg0.N = outRows (X m c) (G m c) := by
  refine (dats m 0 c).arrAt_eq_of_covers 4 _ (by decide +kernel) fun t hf y => ?_
  blk_simp
  rw [after_4]
  have ht := lt_points t
  have e4 := (idx_all t).2.2.2.2.1
  have y0 : (y 0).val < 1024 := (y 0).isLt
  have y1 : (y 1).val < 512 := (y 1).isLt
  have hy : (win0_4.blk t).view.emb y
      = ix2 (⟨(y 0).val, y0⟩ : Fin 1024) (⟨512 * (t.val / 8) + (y 1).val, by omega⟩ : Fin 16384) := by
    blk_ext [e4]
  rw [hy]
  exact (congrArg (rowsAt m c t) (ValueIdx.eq_ix2 y)).trans
    (rows_of (iblk m c 0 (head t)) (iblk m c 1 (head t)) ⟨(y 1).val, y1⟩ ⟨(y 0).val, y0⟩ _ _ (x_of m c t _) (g_of m c (head t)))

theorem scores_eq : (dats m 0 c).arrAt 6 cfg0.N = outScores (X m c) (G m c) (W m c) (S m c) := by
  refine (dats m 0 c).arrAt_eq_of_covers 6 _ (by decide +kernel) fun t hf y => ?_
  blk_simp
  rw [after_6]
  have ht := lt_points t
  have e6 := (idx_all t).2.2.2.2.2.1
  have y0 : (y 0).val < 1 := (y 0).isLt
  have y1 : (y 1).val < 4 := (y 1).isLt
  have y2 : (y 2).val < 128 := (y 2).isLt
  have y3 : (y 3).val < 128 := (y 3).isLt
  have hy : (win0_6.blk t).view.emb y = ix4 (⟨t.val % 8, by omega⟩ : Fin 8) (⟨4 * (t.val / 8) + (y 1).val, by omega⟩ : Fin 128)
      (⟨(y 2).val, y2⟩ : Fin 128) (⟨(y 3).val, y3⟩ : Fin 128) := by
    blk_ext [e6]
  have hz : y = ix4 (0 : Fin 1) (⟨(y 1).val, y1⟩ : Fin 4) (⟨(y 2).val, y2⟩ : Fin 128) (⟨(y 3).val, y3⟩ : Fin 128) := by
    refine (ValueIdx.eq_ix4 y).trans (funext fun a => Fin.ext ?_)
    fin_cases a
    · show (y 0).val = 0
      omega
    · rfl
    · rfl
    · rfl
  rw [hy]
  refine (congrArg (scoresAt m c t) hz).trans
    ((scores_of (grid0.coords t) (iblk m c 3 t) (queriesAt m c t) ⟨2 * (t.val % 8) + 1, by omega⟩ (idx_all t).2.2.2.2.2.2 ⟨(y 1).val, y1⟩
      ⟨(y 2).val, y2⟩ ⟨(y 3).val, y3⟩ _ _ (s_of m c t 1 _) fun d => queries_of (iblk m c 0 (head t)) (iblk m c 1 (head t))
        (iblk m c 2 (head t)) _ _ d _ _ _ (x_of m c t _) (g_of m c (head t)) fun k => w_of m c (head t) k _).trans ?_)
  show _ = score _ _ _ _ _ _ _
  unfold score query row
  have er : (⟨512 * (t.val / 8) + (128 * (y 1).val + (y 3).val), by omega⟩ : Fin 16384)
      = ⟨128 * (4 * (t.val / 8) + (y 1).val) + (y 3).val, by omega⟩ := Fin.ext (by
        show 512 * (t.val / 8) + (128 * (y 1).val + (y 3).val) = 128 * (4 * (t.val / 8) + (y 1).val) + (y 3).val
        omega)
  rw [← er]

end Cert.RouteIdeal.Rows

end
-- ==== Proof.RouteRef.lean ====
/-
  THE ROUTING CALL'S REFERENCE: its two results are the kernel's arrays.
-/
module

public import proofs.«01_k».proof.Proof.RouteRows
public import proofs.«01_k».proof.Proof.Gen.RouteRefIdeal.Run
public import proofs.«01_k».proof.Proof.Gen.RouteRefIdeal.Read

@[expose] public section

set_option maxRecDepth 16384

noncomputable section

namespace Cert.RouteRefIdeal.Rows

open Cert.RouteRefIdeal Cert.RouteRefIdeal.Read Cert.Norm Cert.Attention Cert.RouteIdeal.Rows
open Idealize.ShloMosaic hiding ix1 ix2 ix3 ix4
open Idealize.ShloMosaic.ValueIdx

variable (x : Mat 16384 1024) (g : (⟨1, ![1024]⟩ : Shape).Idx → EReal) (w : Mat 1024 2048) (s : SubKeys)

theorem scale_apply (r : Fin 16384) (k : Fin 1024) :
    val_main_v8 (F := Ideal) x (ix2 r k) = scale 0x44800000#32 0x358637BD#32 fun k => x (ix2 r k) := by
  rw [val_main_v8_apply, val_main_v7_apply, val_main_v6_apply, val_main_v5_apply, val_main_cst_1_apply, val_main_v4_apply,
    val_main_v3_apply, val_main_cst_0_apply, val_main_v2_apply, val_main_v1_apply, val_main_cst_apply]
  show Ideal.rsqrt (Ideal.div ((Ideal.ofBits .f32 0x00000000#32 : EReal) + _) (Ideal.ofBits .f32 0x44800000#32)
    + Ideal.ofBits .f32 0x358637BD#32) = _
  rw [Ideal.ofBits_zero_f32, zero_add, scale]
  congr 3
  refine Finset.sum_congr rfl fun k _ => ?_
  rw [val_main_v0_apply]
  exact congrArg (fun i => x i * x i) (ValueIdx.eq_ix2 _)

theorem normed_apply (r : Fin 16384) (k : Fin 1024) : val_main_v12 (F := Ideal) x g (ix2 r k) = row x g r k := by
  rw [val_main_v12_apply, val_main_v9_apply, scale_apply, val_main_v11_apply, val_main_v10_apply]
  exact congrArg (_ * scale _ _ (fun k => x (ix2 r k)) * ·) (congrArg g (ValueIdx.eq_ix1 _))

/-- The first result. -/
theorem rows_eq : val_main_v21 (F := Ideal) x g = outRows x g := by
  funext y
  rw [val_main_v21_apply, val_main_v20_apply]
  exact (congrArg (val_main_v12 (F := Ideal) x g) (ValueIdx.eq_ix2 _)).trans (normed_apply x g (y 1) (y 0))

theorem query_apply (r : Fin 16384) (j : Fin 2048) : val_main_v13 (F := Ideal) x g w (ix2 r j) = query x g w r j := by
  rw [val_main_v13_apply]
  unfold query
  refine Finset.sum_congr rfl fun k _ => congrArg₂ (· * ·) ?_ (congrArg w (ValueIdx.eq_ix2 _))
  exact (congrArg (val_main_v12 (F := Ideal) x g) (ValueIdx.eq_ix2 _)).trans (normed_apply x g r k)

/-- The half of a head's query that meets its second table. -/
theorem half_apply (r : Fin 16384) (h : Fin 8) (d : Fin 128) : val_main_v16 (F := Ideal) x g w (ix3 r h d)
    = query x g w r ⟨128 * (2 * h.val + 1) + d.val, by omega⟩ := by
  rw [val_main_v16_apply, val_main_v15_apply, val_main_v14_apply, ← query_apply]
  refine congrArg (val_main_v13 (F := Ideal) x g w) (funext fun a => Fin.ext ?_)
  have hr := r.isLt
  have hh := h.isLt
  have hd := d.isLt
  have e0 : ((r.val * 8 + h.val) * 128 + d.val) / 1024 = r.val := by omega
  have e1 : ((r.val * 8 + h.val) * 128 + d.val) / 128 % 8 = h.val := by omega
  have e2 : ((r.val * 8 + h.val) * 128 + d.val) % 128 = d.val := by omega
  fin_cases a
  · show (((((r.val * 8 + h.val) * 128 + d.val) / 1024 * 8 + ((r.val * 8 + h.val) * 128 + d.val) / 128 % 8) * 2 + (1 + 0)) * 128
      + ((r.val * 8 + h.val) * 128 + d.val) % 128) / 2048 = r.val
    rw [e0, e1, e2]
    show (((r.val * 8 + h.val) * 2 + (1 + 0)) * 128 + d.val) / 2048 = r.val
    omega
  · show (((((r.val * 8 + h.val) * 128 + d.val) / 1024 * 8 + ((r.val * 8 + h.val) * 128 + d.val) / 128 % 8) * 2 + (1 + 0)) * 128
      + ((r.val * 8 + h.val) * 128 + d.val) % 128) % 2048 = 128 * (2 * h.val + 1) + d.val
    rw [e0, e1, e2]
    show (((r.val * 8 + h.val) * 2 + (1 + 0)) * 128 + d.val) % 2048 = 128 * (2 * h.val + 1) + d.val
    omega

/-- A head's second table. -/
theorem table_apply (h : Fin 8) (k d : Fin 128) : val_main_v18 (F := Ideal) s (ix3 h k d) = s (ix4 h 1 k d) := by
  rw [val_main_v18_apply, val_main_v17_apply]
  refine congrArg s (funext fun a => Fin.ext ?_)
  have hh := h.isLt
  have hk := k.isLt
  have hd := d.isLt
  fin_cases a
  · show ((h.val * 128 + k.val) * 128 + d.val) / 16384 = h.val
    omega
  · rfl
  · show ((h.val * 128 + k.val) * 128 + d.val) / 128 % 128 = k.val
    omega
  · show ((h.val * 128 + k.val) * 128 + d.val) % 128 = d.val
    omega

theorem score_apply (h : Fin 8) (r : Fin 16384) (k : Fin 128) :
    val_main_v19 (F := Ideal) x g w s (ix3 h r k) = Cert.RouteIdeal.Rows.score x g w s r h k := by
  rw [val_main_v19_apply]
  unfold Cert.RouteIdeal.Rows.score
  refine Finset.sum_congr rfl fun d _ => (congrArg₂ (· * ·) ?_ ?_).trans (mul_comm _ _)
  · exact (congrArg (val_main_v16 (F := Ideal) x g w) (ValueIdx.eq_ix3 _)).trans (half_apply x g w r h d)
  · exact (congrArg (val_main_v18 (F := Ideal) s) (ValueIdx.eq_ix3 _)).trans (table_apply s h k d)

/-- The second result. -/
theorem scores_eq : val_main_v23 (F := Ideal) x g w s = outScores x g w s := by
  funext y
  have h0 : (y 0).val < 8 := (y 0).isLt
  have h1 : (y 1).val < 128 := (y 1).isLt
  have h2 : (y 2).val < 128 := (y 2).isLt
  have h3 : (y 3).val < 128 := (y 3).isLt
  rw [val_main_v23_apply, val_main_v22_apply]
  refine (congrArg (val_main_v19 (F := Ideal) x g w s) (?_ : _ = ix3 (⟨(y 0).val, h0⟩ : Fin 8)
    (⟨128 * (y 1).val + (y 3).val, by omega⟩ : Fin 16384) (⟨(y 2).val, h2⟩ : Fin 128))).trans (score_apply x g w s _ _ _)
  refine funext fun a => Fin.ext ?_
  fin_cases a
  · show ((((y 0).val * 128 + (y 1).val) * 128 + (y 3).val) * 128 + (y 2).val) / 2097152 = (y 0).val
    omega
  · show ((((y 0).val * 128 + (y 1).val) * 128 + (y 3).val) * 128 + (y 2).val) / 128 % 16384 = 128 * (y 1).val + (y 3).val
    omega
  · show ((((y 0).val * 128 + (y 1).val) * 128 + (y 3).val) * 128 + (y 2).val) % 128 = (y 2).val
    omega

end Cert.RouteRefIdeal.Rows

end
-- ==== Proof.Words.lean ====
/-
  THE WORDS whose values a proof needs, as extended reals.
-/
module

public import Idealize.ShloMosaic.PureOps.Ideal.Laws

@[expose] public section

noncomputable section

namespace Cert.Words

open Idealize.ShloMosaic

/-- The length of a head. -/
theorem head_length : Ideal.ofBits .f32 0x43400000#32 = ((192 : ℝ) : EReal) := by
  simp [Ideal.ofBits, Ideal.ieee, -EReal.coe_mul]; norm_num

/-- The queries' scale is a nonnegative real. -/
theorem query_scale : ∃ x : ℝ, 0 ≤ x ∧ Ideal.ofBits .f32 0x3D93CD3A#32 = ((x : ℝ) : EReal) := by
  refine ⟨9686330 / 134217728, by norm_num, ?_⟩
  simp [Ideal.ofBits, Ideal.ieee, -EReal.coe_mul]; norm_num

end Cert.Words

end
-- ==== Proof.Turn.lean ====
/-
  A HEAD OF 192 COLUMNS, normed and with its last 64 columns turned by an angle, at the extended reals: as the mathematics
  says it, and as three rows of 128 columns (the first 128, the last 64 and zeros, the last 64 with their halves swapped and
  zeros) multiplied lane by lane.
-/
module

public import proofs.«01_k».proof.Proof.Norm
public import proofs.«01_k».proof.Proof.Words

@[expose] public section

noncomputable section

namespace Cert.Turn

open Idealize.ShloMosaic Cert.Norm

/-- The first 128 columns. -/
def low (f : Fin 192 → EReal) (c : Fin 128) : EReal := f ⟨c.val, by omega⟩

/-- The last 64 columns, and zeros. -/
def rot (f : Fin 192 → EReal) (c : Fin 128) : EReal := if h : c.val < 64 then f ⟨128 + c.val, by omega⟩ else 0

/-- The last 64 columns with their halves swapped, and zeros. -/
def swp (f : Fin 192 → EReal) (c : Fin 128) : EReal :=
  if h : c.val < 32 then f ⟨160 + c.val, by omega⟩ else if h' : c.val < 64 then f ⟨96 + c.val, by omega⟩ else 0

/-- The cosines, twice, and zeros. -/
def cosRow (C : Fin 32 → EReal) (c : Fin 128) : EReal := if c.val < 64 then C ⟨c.val % 32, by omega⟩ else 0

/-- The sines, negated and not, and zeros. -/
def sinRow (S : Fin 32 → EReal) (c : Fin 128) : EReal :=
  if h : c.val < 32 then -S ⟨c.val, h⟩ else if h' : c.val < 64 then S ⟨c.val - 32, by omega⟩ else 0

/-- The head with its last 64 columns turned, and 64 zeros. -/
def turned (f : Fin 192 → EReal) (C S : Fin 32 → EReal) (d : Fin 256) : EReal :=
  if h : d.val < 128 then f ⟨d.val, by omega⟩
  else if h1 : d.val < 160 then
    f ⟨d.val, by omega⟩ * C ⟨d.val - 128, by omega⟩ - f ⟨d.val + 32, by omega⟩ * S ⟨d.val - 128, by omega⟩
  else if h2 : d.val < 192 then
    f ⟨d.val, by omega⟩ * C ⟨d.val - 160, by omega⟩ + f ⟨d.val - 32, by omega⟩ * S ⟨d.val - 160, by omega⟩
  else 0

/-- The two rows' squares add up to the head's. -/
theorem squares (f : Fin 192 → EReal) : ∑ c, low f c * low f c + ∑ c, rot f c * rot f c = ∑ d, f d * f d := by
  have h1 : ∑ c : Fin 128, rot f c * rot f c = ∑ c : Fin 64, f ⟨128 + c.val, by omega⟩ * f ⟨128 + c.val, by omega⟩ := by
    refine (Fin.sum_univ_add (a := 64) (b := 64) fun c => rot f c * rot f c).trans ?_
    rw [Finset.sum_eq_zero (s := Finset.univ) (f := fun i : Fin 64 => rot f (Fin.natAdd 64 i) * rot f (Fin.natAdd 64 i)), add_zero]
    · refine Finset.sum_congr rfl fun c _ => ?_
      have : rot f (Fin.castAdd 64 c) = f ⟨128 + c.val, by omega⟩ := dif_pos c.isLt
      rw [this]
    · intro c _
      have : rot f (Fin.natAdd 64 c) = 0 := dif_neg (by show ¬(64 + c.val < 64); omega)
      rw [this, mul_zero]
  rw [h1]
  exact (Fin.sum_univ_add (a := 128) (b := 64) fun d => f d * f d).symm

/-- One over the root of the mean square, from the two rows and the reciprocal of 192. -/
theorem scale_rows (f : Fin 192 → EReal) (e : BitVec 32) :
    Ideal.rsqrt ((∑ c, low f c * low f c + ∑ c, rot f c * rot f c) * ((1 / 192 : ℝ) : EReal) + Ideal.ofBits .f32 e)
      = scale 0x43400000#32 e f := by
  rw [squares, scale, Words.head_length, Ideal.div_coe (by norm_num : (192 : ℝ) ≠ 0)]

/-- The first row of a normed head. -/
theorem low_row (f g : Fin 192 → EReal) (C S : Fin 32 → EReal) (s : EReal) (c : Fin 128) :
    low f c * s * low g c = turned (fun d => f d * s * g d) C S ⟨c.val, by omega⟩ := by
  rw [turned, dif_pos (show c.val < 128 from c.isLt)]
  rfl

/-- The other two rows, multiplied by the cosines and the sines. -/
theorem rot_row (f g : Fin 192 → EReal) (C S : Fin 32 → EReal) (s : EReal) (c : Fin 128) :
    rot f c * s * rot g c * cosRow C c + swp f c * s * swp g c * sinRow S c
      = turned (fun d => f d * s * g d) C S ⟨128 + c.val, by omega⟩ := by
  rw [turned, dif_neg (by show ¬(128 + c.val < 128); omega)]
  unfold rot swp cosRow sinRow
  by_cases h1 : c.val < 32
  · rw [dif_pos (by omega : c.val < 64), dif_pos (by omega : c.val < 64), dif_pos h1, dif_pos h1, dif_pos h1, if_pos (by omega),
      dif_pos (show 128 + c.val < 160 by omega), mul_neg, ← sub_eq_add_neg]
    have e1 : (⟨c.val % 32, by omega⟩ : Fin 32) = ⟨128 + c.val - 128, by omega⟩ := Fin.ext (by show c.val % 32 = 128 + c.val - 128; omega)
    have e2 : (⟨c.val, by omega⟩ : Fin 32) = ⟨128 + c.val - 128, by omega⟩ := Fin.ext (by show c.val = 128 + c.val - 128; omega)
    have e3 : (⟨160 + c.val, by omega⟩ : Fin 192) = ⟨128 + c.val + 32, by omega⟩ := Fin.ext (by show 160 + c.val = 128 + c.val + 32; omega)
    rw [e1, e2, e3]
  · by_cases h2 : c.val < 64
    · rw [dif_pos h2, dif_pos h2, dif_neg h1, dif_pos h2, dif_neg h1, dif_pos h2, if_pos h2, dif_neg h1, dif_pos h2,
        dif_neg (show ¬(128 + c.val < 160) by omega), dif_pos (show 128 + c.val < 192 by omega)]
      have e1 : (⟨c.val % 32, by omega⟩ : Fin 32) = ⟨128 + c.val - 160, by omega⟩ := Fin.ext (by show c.val % 32 = 128 + c.val - 160; omega)
      have e2 : (⟨c.val - 32, by omega⟩ : Fin 32) = ⟨128 + c.val - 160, by omega⟩ := Fin.ext (by show c.val - 32 = 128 + c.val - 160; omega)
      have e3 : (⟨96 + c.val, by omega⟩ : Fin 192) = ⟨128 + c.val - 32, by omega⟩ := Fin.ext (by show 96 + c.val = 128 + c.val - 32; omega)
      rw [e1, e2, e3]
    · rw [dif_neg h2, dif_neg h2, dif_neg h1, dif_neg h2, if_neg h2,
        dif_neg (show ¬(128 + c.val < 160) by omega), dif_neg (show ¬(128 + c.val < 192) by omega)]
      simp

/-- A factor common to all the columns, a nonnegative real, may be multiplied in before the turn or after it. -/
theorem turned_mul (f : Fin 192 → EReal) (C S : Fin 32 → EReal) (σ : EReal) (h0 : 0 ≤ σ) (ht : σ ≠ ⊤) (d : Fin 256) :
    turned (fun d => f d * σ) C S d = turned f C S d * σ := by
  have hm : ∀ a b : EReal, a * σ * b = a * b * σ := fun a b => by rw [mul_assoc, mul_comm σ, ← mul_assoc]
  unfold turned
  split
  · rfl
  · split
    · rw [hm, hm, sub_eq_add_neg, sub_eq_add_neg, EReal.right_distrib_of_nonneg_of_ne_top h0 ht, neg_mul]
    · split
      · rw [hm, hm, EReal.right_distrib_of_nonneg_of_ne_top h0 ht]
      · rw [zero_mul]

/-- The scaled head, in the order the rows are multiplied in. -/
theorem turned_scaled (f g : Fin 192 → EReal) (C S : Fin 32 → EReal) (r σ : EReal) (h0 : 0 ≤ σ) (ht : σ ≠ ⊤) (d : Fin 256) :
    turned (fun d => f d * (r * σ) * g d) C S d = turned (fun d => f d * r * g d) C S d * σ := by
  rw [← turned_mul _ C S σ h0 ht]
  refine congrArg (fun f => turned f C S d) (funext fun k => ?_)
  rw [← mul_assoc, mul_assoc _ σ, mul_comm σ, ← mul_assoc]

end Cert.Turn

end
-- ==== Proof.PrepBlock.lean ====
/-
  WHAT THE BODY OF THE QUERY, KEY AND VALUE PREPARATION LEAVES in its three blocks, from the entries of the blocks it reads:
  each head's columns are normed, its last 64 turned.
-/
module

public import proofs.«01_k».proof.Proof.Gen.PrepIdeal.Value
public import proofs.«01_k».proof.Proof.Turn
public import Idealize.ShloMosaic.Lib.Pipeline.ValueKit.Acc

@[expose] public section

set_option maxRecDepth 16384

noncomputable section

namespace Cert.PrepIdeal.Block

open Idealize.ShloMosaic
open Idealize.ShloMosaic.TcCoe Idealize.ShloMosaic.Tactic Idealize.ShloMosaic.ValueIdx
open Idealize.SL Idealize.SL.Sem
open Cert.PrepIdeal.Gen Cert.Norm Cert.Turn

/-- The kernel's named reciprocal is that of 192. -/
theorem inv_qk : Named.named (F := Ideal) κ "inv_qk" (φ := .f32) 0x3BAAAAAB#32 = ((1 / 192 : ℝ) : EReal) :=
  IdealRules.named_const.ideal_named_scalar _ _ _ _ rfl

/-! ## The vectors of one head -/

/-- A block's row sums of squares. -/
def sumSq (x : FVec Ideal S256x128 .f32) : FVec Ideal S256x1 .f32 :=
  shapeCast S256x1 (multiReduction .add [1] S256 (mulf x x) 0x00000000#32 reduces_S256x128_S256 (.inl rfl) rfl) shapeCasts_S256_S256x1

/-- One over the root of the mean square of a head, from its two row sums. -/
def rowScale (a b : FVec Ideal S256x1 .f32) : FVec Ideal S256x1 .f32 :=
  rsqrt (addf (mulf (addf a b) (broadcast S256x1 (Named.named κ "inv_qk" 0x3BAAAAAB#32)))
    (broadcast S256x1 (Scalar.ofBits .f32 0x358637BD#32)))

/-- The queries' row factor. -/
def scaled (s : FVec Ideal S256x1 .f32) : FVec Ideal S256x1 .f32 := mulf s (broadcast S256x1 (Scalar.ofBits .f32 0x3D93CD3A#32))

/-- A block times its row factor and its gains. -/
def gained (x : FVec Ideal S256x128 .f32) (s : FVec Ideal S256x1 .f32) (g : FVec Ideal S1x128 .f32) : FVec Ideal S256x128 .f32 :=
  mulf (mulf x (broadcastTo S256x128 s broadcasts_S256x1_S256x128)) (broadcastTo S256x128 g broadcasts_S1x128_S256x128)

theorem sumSq_apply (x : FVec Ideal S256x128 .f32) (r : Fin 256) : sumSq x (ix2 r 0) = ∑ k : Fin 128, x (ix2 r k) * x (ix2 r k) := by
  unfold sumSq
  exact (to_col _ _ r).trans (row_sum _ _ _ _ r)

theorem rowScale_apply (a b : FVec Ideal S256x1 .f32) (r : Fin 256) (f : Fin 192 → EReal)
    (ha : a (ix2 r 0) = ∑ k, low f k * low f k) (hb : b (ix2 r 0) = ∑ k, rot f k * rot f k) :
    rowScale a b (ix2 r 0) = scale 0x43400000#32 0x358637BD#32 f := by
  rw [← scale_rows]
  show Ideal.rsqrt ((a (ix2 r 0) + b (ix2 r 0)) * Named.named (F := Ideal) κ "inv_qk" (φ := .f32) 0x3BAAAAAB#32 + Ideal.ofBits .f32 0x358637BD#32) = _
  rw [ha, hb, inv_qk]

theorem gained_apply (x : FVec Ideal S256x128 .f32) (s : FVec Ideal S256x1 .f32) (g : FVec Ideal S1x128 .f32) (r : Fin 256) (k : Fin 128) :
    gained x s g (ix2 r k) = x (ix2 r k) * s (ix2 r 0) * g (ix2 0 k) := by
  show x (ix2 r k) * broadcastTo S256x128 s _ (ix2 r k) * broadcastTo S256x128 g _ (ix2 r k) = _
  rw [spread_col, spread_row]

/-- Some columns of a block. -/
theorem cut_apply {M N : ℕ} (P : FVec Ideal ⟨2, ![M, N]⟩ .f32) {m : ℕ} (a o : ℕ) (hs : (⟨2, ![M, N]⟩ : Shape).Slices ![a, o] ⟨2, ![m, 128]⟩) (r : Fin m) (k : Fin 128)
    (j : Fin M) (n : Fin N) (hj : j.val = a + r.val) (hn : n.val = o + k.val) :
    extractStridedSlice ⟨2, ![m, 128]⟩ ![a, o] P hs (ix2 r k) = P (ix2 j n) := by
  refine extractStridedSlice_apply _ _ _ _ _ fun b => ?_
  fin_cases b
  · exact hj
  · exact hn

/-! ## The pieces -/

/-- The rows, heads and columns of the prepared queries or keys: `F` the heads before the norm, `g` the gains, `s` the row
    factors. -/
def heads (F : Fin 256 → Fin 4 → Fin 192 → EReal) (s : Fin 256 → Fin 4 → EReal) (g : Fin 192 → EReal) (C S : Fin 256 → Fin 32 → EReal) :
    FVec Ideal S256x1024 .bf16 := fun y =>
  have h1 : (y 1).val < 1024 := (y 1).isLt
  turned (fun d => F (y 0) ⟨(y 1).val / 256, by omega⟩ d * s (y 0) ⟨(y 1).val / 256, by omega⟩ * g d) (C (y 0)) (S (y 0))
    ⟨(y 1).val % 256, by omega⟩

variable (F : Fin 256 → Fin 4 → Fin 192 → EReal) (s : Fin 256 → Fin 4 → EReal) (g : Fin 192 → EReal) (C S : Fin 256 → Fin 32 → EReal)

/-- An entry of the heads. -/
theorem heads_at (y : S256x1024.Idx) (r : Fin 256) (h : Fin 4) (d : Fin 256) (h0 : y 0 = r) (h1 : (y 1).val = 256 * h.val + d.val) :
    heads F s g C S y = turned (fun e => F r h e * s r h * g e) (C r) (S r) d := by
  have hy : (y 1).val < 1024 := (y 1).isLt
  have hd := d.isLt
  have ha : (⟨(y 1).val / 256, by omega⟩ : Fin 4) = h := Fin.ext (by show (y 1).val / 256 = h.val; omega)
  have hb : (⟨(y 1).val % 256, by omega⟩ : Fin 256) = d := Fin.ext (by show (y 1).val % 256 = d.val; omega)
  subst h0
  show turned (fun e => F (y 0) ⟨(y 1).val / 256, by omega⟩ e * s (y 0) ⟨(y 1).val / 256, by omega⟩ * g e) (C (y 0)) (S (y 0))
    ⟨(y 1).val % 256, by omega⟩ = _
  rw [ha, hb]

/-- A head's first 128 columns. -/
theorem low_piece (h : Fin 4) (x : FVec Ideal S256x128 .f32) (t : FVec Ideal S256x1 .f32) (w : FVec Ideal S1x128 .f32)
    (hx : ∀ r k, x (ix2 r k) = low (F r h) k) (ht : ∀ r, t (ix2 r 0) = s r h) (hw : ∀ k, w (ix2 0 k) = low g k)
    (o : ℕ) (ho : o = 256 * h.val) (inb : ∀ a, (![0, o] : Fin 2 → ℕ) a + S256x128.size a ≤ S256x1024.size a)
    (y : (Rect.unit (s := S256x1024) ![0, o] S256x128.size inb).shape.Idx) :
    (truncf .bf16 (gained x t w) bitsLt_bf16_f32 : FVec Ideal S256x128 .bf16) y
      = heads F s g C S ((Rect.unit (s := S256x1024) ![0, o] S256x128.size inb).emb y) := by
  subst ho
  obtain ⟨r, k, rfl⟩ : ∃ (r : Fin 256) (k : Fin 128), y = ix2 r k := ⟨y 0, y 1, funext fun a => by fin_cases a <;> rfl⟩
  have hr := r.isLt
  have hk := k.isLt
  show gained x t w (ix2 r k) = _
  rw [gained_apply, hx, ht, hw, low_row (F r h) g (C r) (S r)]
  refine (heads_at F s g C S _ r h _ (Fin.ext ?_) ?_).symm
  · show 0 + 1 * r.val = r.val
    omega
  · show 256 * h.val + 1 * k.val = 256 * h.val + k.val
    omega

/-- A head's last 64 columns, turned, and 64 zeros. -/
theorem rot_piece (h : Fin 4) (x y : FVec Ideal S256x128 .f32) (t : FVec Ideal S256x1 .f32) (w v : FVec Ideal S1x128 .f32) (c z : FVec Ideal S256x128 .f32)
    (hx : ∀ r k, x (ix2 r k) = rot (F r h) k) (hy : ∀ r k, k.val < 64 → y (ix2 r k) = swp (F r h) k) (ht : ∀ r, t (ix2 r 0) = s r h)
    (hw : ∀ k, w (ix2 0 k) = rot g k) (hv : ∀ k, v (ix2 0 k) = swp g k) (hc : ∀ r k, c (ix2 r k) = cosRow (C r) k)
    (hz : ∀ r k, z (ix2 r k) = sinRow (S r) k)
    (o : ℕ) (ho : o = 256 * h.val + 128) (inb : ∀ a, (![0, o] : Fin 2 → ℕ) a + S256x128.size a ≤ S256x1024.size a)
    (i : (Rect.unit (s := S256x1024) ![0, o] S256x128.size inb).shape.Idx) :
    (truncf .bf16 (addf (mulf (gained x t w) c) (mulf (gained y t v) z)) bitsLt_bf16_f32 : FVec Ideal S256x128 .bf16) i
      = heads F s g C S ((Rect.unit (s := S256x1024) ![0, o] S256x128.size inb).emb i) := by
  subst ho
  obtain ⟨r, k, rfl⟩ : ∃ (r : Fin 256) (k : Fin 128), i = ix2 r k := ⟨i 0, i 1, funext fun a => by fin_cases a <;> rfl⟩
  have hr := r.isLt
  have hk := k.isLt
  show gained x t w (ix2 r k) * c (ix2 r k) + gained y t v (ix2 r k) * z (ix2 r k) = _
  have hs : y (ix2 r k) * t (ix2 r 0) * v (ix2 0 k) = swp (F r h) k * s r h * swp g k := by
    rw [ht, hv]
    by_cases hk : k.val < 64
    · rw [hy r k hk]
    · have hg : swp g k = 0 := by
        unfold swp
        rw [dif_neg (by omega), dif_neg hk]
      rw [hg, mul_zero, mul_zero]
  rw [gained_apply, gained_apply, hs, hx, ht, hw, hc, hz, rot_row (F r h) g (C r) (S r)]
  refine (heads_at F s g C S _ r h _ (Fin.ext ?_) ?_).symm
  · show 0 + 1 * r.val = r.val
    omega
  · show 256 * h.val + 128 + 1 * k.val = 256 * h.val + (128 + k.val)
    omega

/-- The packed queries' entries: for each head its three rows. -/
structure Packed (P : FVec Ideal S256x1536 .f32) : Prop where
  low : ∀ r (h : Fin 4) k, P (ix2 r ⟨384 * h.val + k.val, by have := h.isLt; have := k.isLt; omega⟩) = Turn.low (F r h) k
  rot : ∀ r (h : Fin 4) k, P (ix2 r ⟨384 * h.val + 128 + k.val, by have := h.isLt; have := k.isLt; omega⟩) = Turn.rot (F r h) k
  swp : ∀ r (h : Fin 4) k, P (ix2 r ⟨384 * h.val + 256 + k.val, by have := h.isLt; have := k.isLt; omega⟩) = Turn.swp (F r h) k

/-- The packed gains' entries. -/
structure Gains (w : FVec Ideal S3x128 .f32) : Prop where
  low : ∀ k, w (ix2 0 k) = Turn.low g k
  rot : ∀ k, w (ix2 1 k) = Turn.rot g k
  swp : ∀ k, w (ix2 2 k) = Turn.swp g k

/-- The row factor of a query head. -/
def queryScale (r : Fin 256) (h : Fin 4) : EReal := scale 0x43400000#32 0x358637BD#32 (F r h) * Ideal.ofBits .f32 0x3D93CD3A#32

section
variable {P : FVec Ideal S256x1536 .f32} (hP : Packed F P) {w : FVec Ideal S3x128 .f32} (hw : Gains g w)
include hP

theorem factor (h : Fin 4) (o : ℕ) (ho : o = 384 * h.val) (o' : ℕ) (ho' : o' = 384 * h.val + 128) (hs : S256x1536.Slices ![0, o] S256x128) (hs' : S256x1536.Slices ![0, o'] S256x128) (r : Fin 256) :
    scaled (rowScale (sumSq (extractStridedSlice S256x128 ![0, o] P hs)) (sumSq (extractStridedSlice S256x128 ![0, o'] P hs'))) (ix2 r 0)
      = queryScale F r h := by
  subst ho ho'
  have hh := h.isLt
  show rowScale _ _ (ix2 r 0) * _ = _
  rw [rowScale_apply _ _ r (F r h)]
  · rfl
  · rw [sumSq_apply]
    exact Finset.sum_congr rfl fun k _ => by
      rw [cut_apply P 0 _ hs r k r ⟨384 * h.val + k.val, by have := k.isLt; omega⟩ (Nat.zero_add _).symm rfl, hP.low]
  · rw [sumSq_apply]
    exact Finset.sum_congr rfl fun k _ => by
      rw [cut_apply P 0 _ hs' r k r ⟨384 * h.val + 128 + k.val, by have := k.isLt; omega⟩ (Nat.zero_add _).symm rfl, hP.rot]

include hw

theorem query_low (h : Fin 4) (o : ℕ) (ho : o = 384 * h.val) (o' : ℕ) (ho' : o' = 384 * h.val + 128) (hs : S256x1536.Slices ![0, o] S256x128)
    (hs' : S256x1536.Slices ![0, o'] S256x128) (b : ℕ) (hb : b = 256 * h.val) (inb : ∀ a, (![0, b] : Fin 2 → ℕ) a + S256x128.size a ≤ S256x1024.size a)
    (y : (Rect.unit (s := S256x1024) ![0, b] S256x128.size inb).shape.Idx) :
    (truncf .bf16 (gained (extractStridedSlice S256x128 ![0, o] P hs)
        (scaled (rowScale (sumSq (extractStridedSlice S256x128 ![0, o] P hs)) (sumSq (extractStridedSlice S256x128 ![0, o'] P hs'))))
        (extractStridedSlice S1x128 ![0, 0] w slices_S3x128_o0_0_S1x128)) bitsLt_bf16_f32 : FVec Ideal S256x128 .bf16) y
      = heads F (queryScale F) g C S ((Rect.unit (s := S256x1024) ![0, b] S256x128.size inb).emb y) := by
  have hh := h.isLt
  refine low_piece F _ g C S h _ _ _ (fun r k => ?_) (factor F hP h o ho o' ho' hs hs') (fun k => ?_) b hb inb y
  · subst ho
    rw [cut_apply P 0 _ hs r k r ⟨384 * h.val + k.val, by have := k.isLt; omega⟩ (Nat.zero_add _).symm rfl, hP.low]
  · rw [cut_apply w 0 0 _ 0 k 0 k rfl (Nat.zero_add _).symm, hw.low]

theorem query_rot (h : Fin 4) (o : ℕ) (ho : o = 384 * h.val) (o' : ℕ) (ho' : o' = 384 * h.val + 128) (o'' : ℕ) (ho'' : o'' = 384 * h.val + 256) (hs : S256x1536.Slices ![0, o] S256x128)
    (hs' : S256x1536.Slices ![0, o'] S256x128) (hs'' : S256x1536.Slices ![0, o''] S256x128) (c z : FVec Ideal S256x128 .f32) (hc : ∀ r k, c (ix2 r k) = cosRow (C r) k)
    (hz : ∀ r k, z (ix2 r k) = sinRow (S r) k) (b : ℕ) (hb : b = 256 * h.val + 128) (inb : ∀ a, (![0, b] : Fin 2 → ℕ) a + S256x128.size a ≤ S256x1024.size a)
    (y : (Rect.unit (s := S256x1024) ![0, b] S256x128.size inb).shape.Idx) :
    (truncf .bf16 (addf
        (mulf (gained (extractStridedSlice S256x128 ![0, o'] P hs')
          (scaled (rowScale (sumSq (extractStridedSlice S256x128 ![0, o] P hs)) (sumSq (extractStridedSlice S256x128 ![0, o'] P hs'))))
          (extractStridedSlice S1x128 ![1, 0] w slices_S3x128_o1_0_S1x128)) c)
        (mulf (gained (extractStridedSlice S256x128 ![0, o''] P hs'')
          (scaled (rowScale (sumSq (extractStridedSlice S256x128 ![0, o] P hs)) (sumSq (extractStridedSlice S256x128 ![0, o'] P hs'))))
          (extractStridedSlice S1x128 ![2, 0] w slices_S3x128_o2_0_S1x128)) z)) bitsLt_bf16_f32 : FVec Ideal S256x128 .bf16) y
      = heads F (queryScale F) g C S ((Rect.unit (s := S256x1024) ![0, b] S256x128.size inb).emb y) := by
  have hh := h.isLt
  refine rot_piece F _ g C S h _ _ _ _ _ c z (fun r k => ?_) (fun r k _ => ?_) (factor F hP h o ho o' ho' hs hs') (fun k => ?_) (fun k => ?_) hc hz b hb inb y
  · subst ho'
    rw [cut_apply P 0 _ hs' r k r ⟨384 * h.val + 128 + k.val, by have := k.isLt; omega⟩ (Nat.zero_add _).symm rfl, hP.rot]
  · subst ho''
    rw [cut_apply P 0 _ hs'' r k r ⟨384 * h.val + 256 + k.val, by have := k.isLt; omega⟩ (Nat.zero_add _).symm rfl, hP.swp]
  · rw [cut_apply w 1 0 _ 0 k 1 k rfl (Nat.zero_add _).symm, hw.rot]
  · rw [cut_apply w 2 0 _ 0 k 2 k rfl (Nat.zero_add _).symm, hw.swp]

end

/-- The row factor of a key head. -/
def keyScale (r : Fin 256) (h : Fin 4) : EReal := scale 0x43400000#32 0x358637BD#32 (F r h)

/-- The keys' entries: each head's first 128 columns, and the rotary key that the heads share. -/
structure Keys (P : FVec Ideal S256x1024 .f32) (a b : FVec Ideal S256x128 .f32) : Prop where
  low : ∀ r (h : Fin 4) k, P (ix2 r ⟨256 * h.val + k.val, by have := h.isLt; have := k.isLt; omega⟩) = Turn.low (F r h) k
  rot : ∀ r (h : Fin 4) k, a (ix2 r k) = Turn.rot (F r h) k
  swp : ∀ r (h : Fin 4) (k : Fin 128), k.val < 64 → b (ix2 r k) = Turn.swp (F r h) k

section
variable {P : FVec Ideal S256x1024 .f32} {a b : FVec Ideal S256x128 .f32} (hP : Keys F P a b) {w : FVec Ideal S3x128 .f32} (hw : Gains g w)
include hP

theorem key_factor (h : Fin 4) (o : ℕ) (ho : o = 256 * h.val) (hs : S256x1024.Slices ![0, o] S256x128) (r : Fin 256) :
    rowScale (sumSq (extractStridedSlice S256x128 ![0, o] P hs)) (sumSq a) (ix2 r 0) = keyScale F r h := by
  subst ho
  have hh := h.isLt
  refine rowScale_apply _ _ r (F r h) ?_ ?_
  · rw [sumSq_apply]
    exact Finset.sum_congr rfl fun k _ => by
      rw [cut_apply P 0 _ hs r k r ⟨256 * h.val + k.val, by have := k.isLt; omega⟩ (Nat.zero_add _).symm rfl, hP.low]
  · rw [sumSq_apply]
    exact Finset.sum_congr rfl fun k _ => by rw [hP.rot r h k]

include hw

theorem key_low (h : Fin 4) (o : ℕ) (ho : o = 256 * h.val) (hs : S256x1024.Slices ![0, o] S256x128)
    (inb : ∀ a, (![0, o] : Fin 2 → ℕ) a + S256x128.size a ≤ S256x1024.size a)
    (y : (Rect.unit (s := S256x1024) ![0, o] S256x128.size inb).shape.Idx) :
    (truncf .bf16 (gained (extractStridedSlice S256x128 ![0, o] P hs)
        (rowScale (sumSq (extractStridedSlice S256x128 ![0, o] P hs)) (sumSq a))
        (extractStridedSlice S1x128 ![0, 0] w slices_S3x128_o0_0_S1x128)) bitsLt_bf16_f32 : FVec Ideal S256x128 .bf16) y
      = heads F (keyScale F) g C S ((Rect.unit (s := S256x1024) ![0, o] S256x128.size inb).emb y) := by
  have hh := h.isLt
  refine low_piece F _ g C S h _ _ _ (fun r k => ?_) (key_factor F hP h o ho hs) (fun k => ?_) o ho inb y
  · subst ho
    rw [cut_apply P 0 _ hs r k r ⟨256 * h.val + k.val, by have := k.isLt; omega⟩ (Nat.zero_add _).symm rfl, hP.low]
  · rw [cut_apply w 0 0 _ 0 k 0 k rfl (Nat.zero_add _).symm, hw.low]

theorem key_rot (h : Fin 4) (o : ℕ) (ho : o = 256 * h.val) (hs : S256x1024.Slices ![0, o] S256x128)
    (c z : FVec Ideal S256x128 .f32) (hc : ∀ r k, c (ix2 r k) = cosRow (C r) k)
    (hz : ∀ r k, z (ix2 r k) = sinRow (S r) k) (o' : ℕ) (ho' : o' = 256 * h.val + 128) (inb : ∀ a, (![0, o'] : Fin 2 → ℕ) a + S256x128.size a ≤ S256x1024.size a)
    (y : (Rect.unit (s := S256x1024) ![0, o'] S256x128.size inb).shape.Idx) :
    (truncf .bf16 (addf
        (mulf (gained a (rowScale (sumSq (extractStridedSlice S256x128 ![0, o] P hs)) (sumSq a))
          (extractStridedSlice S1x128 ![1, 0] w slices_S3x128_o1_0_S1x128)) c)
        (mulf (gained b (rowScale (sumSq (extractStridedSlice S256x128 ![0, o] P hs)) (sumSq a))
          (extractStridedSlice S1x128 ![2, 0] w slices_S3x128_o2_0_S1x128)) z)) bitsLt_bf16_f32 : FVec Ideal S256x128 .bf16) y
      = heads F (keyScale F) g C S ((Rect.unit (s := S256x1024) ![0, o'] S256x128.size inb).emb y) := by
  refine rot_piece F _ g C S h _ _ _ _ _ c z (fun r k => hP.rot r h k) (fun r k => hP.swp r h k) (key_factor F hP h o ho hs) (fun k => ?_) (fun k => ?_) hc hz o' ho' inb y
  · rw [cut_apply w 1 0 _ 0 k 1 k rfl (Nat.zero_add _).symm, hw.rot]
  · rw [cut_apply w 2 0 _ 0 k 2 k rfl (Nat.zero_add _).symm, hw.swp]

end

/-- The values' columns of the second product. -/
def values (P : FVec Ideal S256x1024 .f32) : FVec Ideal S256x512 .bf16 := fun y =>
  have h1 : (y 1).val < 512 := (y 1).isLt
  P (ix2 (⟨(y 0).val, (y 0).isLt⟩ : Fin 256) (⟨256 * ((y 1).val / 128) + 128 + (y 1).val % 128, by omega⟩ : Fin 1024))

theorem value_piece (P : FVec Ideal S256x1024 .f32) (h : Fin 4) (o : ℕ) (ho : o = 256 * h.val + 128) (hs : S256x1024.Slices ![0, o] S256x128)
    (b : ℕ) (hb : b = 128 * h.val) (inb : ∀ a, (![0, b] : Fin 2 → ℕ) a + S256x128.size a ≤ S256x512.size a)
    (y : (Rect.unit (s := S256x512) ![0, b] S256x128.size inb).shape.Idx) :
    (truncf .bf16 (extractStridedSlice S256x128 ![0, o] P hs) bitsLt_bf16_f32 : FVec Ideal S256x128 .bf16) y
      = values P ((Rect.unit (s := S256x512) ![0, b] S256x128.size inb).emb y) := by
  subst ho hb
  obtain ⟨r, k, rfl⟩ : ∃ (r : Fin 256) (k : Fin 128), y = ix2 r k := ⟨y 0, y 1, funext fun a => by fin_cases a <;> rfl⟩
  have hh := h.isLt
  have hk := k.isLt
  show extractStridedSlice S256x128 _ P hs (ix2 r k) = _
  refine cut_apply P 0 _ hs r k _ _ ?_ ?_
  · show 0 + 1 * r.val = 0 + r.val
    omega
  · show 256 * ((128 * h.val + 1 * k.val) / 128) + 128 + (128 * h.val + 1 * k.val) % 128 = 256 * h.val + 128 + k.val
    omega

/-! ## The three blocks -/

variable (c : Dev nD) (i : grid0.Coords)
  (arg1 : Memref sig .tc .vmem S256x256 .f32) (harg1 : arg1.IsWhole)
  (arg2 : Memref sig .tc .vmem S256x128 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S1x256 .f32) (harg7 : arg7.IsWhole)
  (arg8 : Memref sig .tc .vmem S1x128 .f32) (harg8 : arg8.IsWhole)
  (arg9 : Memref sig .tc .vmem S256x1536 .bf16) (harg9 : arg9.IsWhole)
  (arg10 : Memref sig .tc .vmem S128x1024 .bf16) (harg10 : arg10.IsWhole)
  (arg11 : Memref sig .tc .vmem S3x128 .f32) (harg11 : arg11.IsWhole)
  (arg12 : Memref sig .tc .vmem S3x128 .f32) (harg12 : arg12.IsWhole)
  (arg13 : Memref sig .tc .vmem S256x1024 .bf16) (harg13 : arg13.IsWhole)
  (arg14 : Memref sig .tc .vmem S256x1024 .bf16) (harg14 : arg14.IsWhole)
  (arg15 : Memref sig .tc .vmem S256x512 .bf16) (harg15 : arg15.IsWhole)
  (x0 : Vec Ideal S256x256 .f32) (x1 : Vec Ideal S256x128 .f32) (x2 : Vec Ideal S256x128 .f32) (x3 : Vec Ideal S256x128 .f32) (x4 : Vec Ideal S256x128 .f32) (x5 : Vec Ideal S256x128 .f32)
  (x6 : Vec Ideal S1x256 .f32) (x7 : Vec Ideal S1x128 .f32) (x8 : Vec Ideal S256x1536 .bf16) (x9 : Vec Ideal S128x1024 .bf16) (x10 : Vec Ideal S3x128 .f32) (x11 : Vec Ideal S3x128 .f32)

/-- The body's first product: the packed queries. -/
def queriesP : FVec Ideal S256x1536 .f32 := k0_pay4 x0 x6 x8

/-- The body's second product: keys and values. -/
def keysP : FVec Ideal S256x1024 .f32 := k0_pay5 (k0_pay3 x1 x7) x9

theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = values (keysP x1 x7 x9) := by
  frame_out
  funext y
  refine View.canon_apply_of_pieces (Val := Elt Ideal) (e := .bf16) (values (keysP x1 x7 x9)) _ ?_ y (View.cover_of_tiledL (s := S256x512) _ S256x128.size (by sl_kernel_rfl) y)
  refine List.forall_mem_cons.mpr ⟨value_piece (keysP x1 x7 x9) 3 896 rfl slices_S256x1024_o0_896_S256x128 384 rfl inb_S256x512_S256x128_0_384, ?_⟩
  refine List.forall_mem_cons.mpr ⟨value_piece (keysP x1 x7 x9) 2 640 rfl slices_S256x1024_o0_640_S256x128 256 rfl inb_S256x512_S256x128_0_256, ?_⟩
  refine List.forall_mem_cons.mpr ⟨value_piece (keysP x1 x7 x9) 1 384 rfl slices_S256x1024_o0_384_S256x128 128 rfl inb_S256x512_S256x128_0_128, ?_⟩
  refine List.forall_mem_cons.mpr ⟨value_piece (keysP x1 x7 x9) 0 128 rfl slices_S256x1024_o0_128_S256x128 0 rfl inb_S256x512_S256x128_0_0, ?_⟩
  exact fun p hp => absurd hp List.not_mem_nil

theorem out12 (hP : Packed F (queriesP x0 x6 x8)) (hw : Gains g x10) (hc : ∀ r k, x4 (ix2 r k) = cosRow (C r) k) (hz : ∀ r k, x5 (ix2 r k) = sinRow (S r) k) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = heads F (queryScale F) g C S := by
  have e4 : k0_pay1 x4 = x4 := shapeCast_self _ _
  have e5 : k0_pay2 x5 = x5 := shapeCast_self _ _
  have e10 : k0_pay7 x10 = x10 := shapeCast_self _ _
  have hc' : ∀ r k, k0_pay1 x4 (ix2 r k) = cosRow (C r) k := by rw [e4]; exact hc
  have hz' : ∀ r k, k0_pay2 x5 (ix2 r k) = sinRow (S r) k := by rw [e5]; exact hz
  have hw' : Gains g (k0_pay7 x10) := by rw [e10]; exact hw
  frame_out
  funext y
  refine View.canon_apply_of_pieces (Val := Elt Ideal) (e := .bf16) (heads F (queryScale F) g C S) _ ?_ y (View.cover_of_tiledL (s := S256x1024) _ S256x128.size (by sl_kernel_rfl) y)
  refine List.forall_mem_cons.mpr ⟨query_rot F g C S hP hw' 3 1152 rfl 1280 rfl 1408 rfl slices_S256x1536_o0_1152_S256x128 slices_S256x1536_o0_1280_S256x128 slices_S256x1536_o0_1408_S256x128 _ _ hc' hz' 896 rfl inb_S256x1024_S256x128_0_896, ?_⟩
  refine List.forall_mem_cons.mpr ⟨query_low F g C S hP hw' 3 1152 rfl 1280 rfl slices_S256x1536_o0_1152_S256x128 slices_S256x1536_o0_1280_S256x128 768 rfl inb_S256x1024_S256x128_0_768, ?_⟩
  refine List.forall_mem_cons.mpr ⟨query_rot F g C S hP hw' 2 768 rfl 896 rfl 1024 rfl slices_S256x1536_o0_768_S256x128 slices_S256x1536_o0_896_S256x128 slices_S256x1536_o0_1024_S256x128 _ _ hc' hz' 640 rfl inb_S256x1024_S256x128_0_640, ?_⟩
  refine List.forall_mem_cons.mpr ⟨query_low F g C S hP hw' 2 768 rfl 896 rfl slices_S256x1536_o0_768_S256x128 slices_S256x1536_o0_896_S256x128 512 rfl inb_S256x1024_S256x128_0_512, ?_⟩
  refine List.forall_mem_cons.mpr ⟨query_rot F g C S hP hw' 1 384 rfl 512 rfl 640 rfl slices_S256x1536_o0_384_S256x128 slices_S256x1536_o0_512_S256x128 slices_S256x1536_o0_640_S256x128 _ _ hc' hz' 384 rfl inb_S256x1024_S256x128_0_384, ?_⟩
  refine List.forall_mem_cons.mpr ⟨query_low F g C S hP hw' 1 384 rfl 512 rfl slices_S256x1536_o0_384_S256x128 slices_S256x1536_o0_512_S256x128 256 rfl inb_S256x1024_S256x128_0_256, ?_⟩
  refine List.forall_mem_cons.mpr ⟨query_rot F g C S hP hw' 0 0 rfl 128 rfl 256 rfl slices_S256x1536_o0_0_S256x128 slices_S256x1536_o0_128_S256x128 slices_S256x1536_o0_256_S256x128 _ _ hc' hz' 128 rfl inb_S256x1024_S256x128_0_128, ?_⟩
  refine List.forall_mem_cons.mpr ⟨query_low F g C S hP hw' 0 0 rfl 128 rfl slices_S256x1536_o0_0_S256x128 slices_S256x1536_o0_128_S256x128 0 rfl inb_S256x1024_S256x128_0_0, ?_⟩
  exact fun p hp => absurd hp List.not_mem_nil

theorem out13 (hP : Keys F (keysP x1 x7 x9) x2 x3) (hw : Gains g x11) (hc : ∀ r k, x4 (ix2 r k) = cosRow (C r) k) (hz : ∀ r k, x5 (ix2 r k) = sinRow (S r) k) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = heads F (keyScale F) g C S := by
  have e4 : k0_pay1 x4 = x4 := shapeCast_self _ _
  have e5 : k0_pay2 x5 = x5 := shapeCast_self _ _
  have e11 : k0_pay8 x11 = x11 := shapeCast_self _ _
  have hc' : ∀ r k, k0_pay1 x4 (ix2 r k) = cosRow (C r) k := by rw [e4]; exact hc
  have hz' : ∀ r k, k0_pay2 x5 (ix2 r k) = sinRow (S r) k := by rw [e5]; exact hz
  have hw' : Gains g (k0_pay8 x11) := by rw [e11]; exact hw
  frame_out
  funext y
  refine View.canon_apply_of_pieces (Val := Elt Ideal) (e := .bf16) (heads F (keyScale F) g C S) _ ?_ y (View.cover_of_tiledL (s := S256x1024) _ S256x128.size (by sl_kernel_rfl) y)
  refine List.forall_mem_cons.mpr ⟨key_rot F g C S hP hw' 3 768 rfl slices_S256x1024_o0_768_S256x128 _ _ hc' hz' 896 rfl inb_S256x1024_S256x128_0_896, ?_⟩
  refine List.forall_mem_cons.mpr ⟨key_low F g C S hP hw' 3 768 rfl slices_S256x1024_o0_768_S256x128 inb_S256x1024_S256x128_0_768, ?_⟩
  refine List.forall_mem_cons.mpr ⟨key_rot F g C S hP hw' 2 512 rfl slices_S256x1024_o0_512_S256x128 _ _ hc' hz' 640 rfl inb_S256x1024_S256x128_0_640, ?_⟩
  refine List.forall_mem_cons.mpr ⟨key_low F g C S hP hw' 2 512 rfl slices_S256x1024_o0_512_S256x128 inb_S256x1024_S256x128_0_512, ?_⟩
  refine List.forall_mem_cons.mpr ⟨key_rot F g C S hP hw' 1 256 rfl slices_S256x1024_o0_256_S256x128 _ _ hc' hz' 384 rfl inb_S256x1024_S256x128_0_384, ?_⟩
  refine List.forall_mem_cons.mpr ⟨key_low F g C S hP hw' 1 256 rfl slices_S256x1024_o0_256_S256x128 inb_S256x1024_S256x128_0_256, ?_⟩
  refine List.forall_mem_cons.mpr ⟨key_rot F g C S hP hw' 0 0 rfl slices_S256x1024_o0_0_S256x128 _ _ hc' hz' 128 rfl inb_S256x1024_S256x128_0_128, ?_⟩
  refine List.forall_mem_cons.mpr ⟨key_low F g C S hP hw' 0 0 rfl slices_S256x1024_o0_0_S256x128 inb_S256x1024_S256x128_0_0, ?_⟩
  exact fun p hp => absurd hp List.not_mem_nil

end Cert.PrepIdeal.Block

end
-- ==== Proof.PrepHost.lean ====
/-
  WHAT THE PREPARATION'S KERNEL READS: the packed weights and gains, and the tables of cosines and sines, entry by entry.
-/
module

public import proofs.«01_k».proof.Proof.Gen.PrepIdeal.Value
public import proofs.«01_k».proof.Proof.PrepBlock
public import proofs.«01_k».proof.Proof.Attention
public import Idealize.ShloMosaic.Lib.Pipeline.ValueKit
public import Idealize.ShloMosaic.Lib.Pipeline.ValueKit.Tiles
public import Idealize.ShloMosaic.Lib.StableHlo.RunClose
public import Idealize.ShloMosaic.Lib.KernelVsHost

@[expose] public section

set_option maxRecDepth 16384

noncomputable section

namespace Cert.PrepIdeal.Tables

open Cert.PrepIdeal Cert.PrepIdeal.Gen Cert.Norm Cert.Turn Cert.Attention
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-! ## Angles -/

/-- The 32 frequencies. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- A row's position times a frequency. -/
def angles (p : S2x8192.Idx → BitVec 32) : FVec Ideal S16384x32 .f32 := fun y =>
  have h0 : (y 0).val < 16384 := (y 0).isLt
  ((((p (ix2 (⟨(y 0).val / 8192, by omega⟩ : Fin 2) (⟨(y 0).val % 8192, by omega⟩ : Fin 8192))).toInt : ℝ) : EReal))
    * freqs (ix1 (⟨(y 1).val, (y 1).isLt⟩ : Fin 32))

/-- A row's cosines and sines. -/
def cosines (p : S2x8192.Idx → BitVec 32) (r : Fin 16384) (k : Fin 32) : EReal := Host.cos (angles p) (ix2 r k)
def sines (p : S2x8192.Idx → BitVec 32) (r : Fin 16384) (k : Fin 32) : EReal := Host.sin (angles p) (ix2 r k)

/-- The angles as the host computes them. -/
abbrev angleVec (p : S2x8192.Idx → BitVec 32) : FVec Ideal S16384x32 .f32 :=
  mulf (broadcastInDim S16384x32 ![0, 1] bcast_S16384x1_S16384x32_0_1 (sitofp .f32 (shapeCast S16384x1 p shapeCasts_S2x8192_S16384x1)))
    (broadcastInDim S16384x32 ![0, 1] bcast_S1x32_S16384x32_0_1 (broadcastInDim S1x32 ![1] bcast_S32_S1x32_1 freqs))

theorem angleVec_eq (p : S2x8192.Idx → BitVec 32) : angleVec p = angles p := by
  funext y
  have h0 : (y 0).val < 16384 := (y 0).isLt
  have h1 : (y 1).val < 32 := (y 1).isLt
  unfold angles
  refine congrArg₂ (fun a b : EReal => a * b)
    ((broadcastInDim_apply _ _ _ y (ix2 (⟨(y 0).val, h0⟩ : Fin 16384) (0 : Fin 1)) (fun a => by fin_cases a <;> rfl)).trans ?_)
    ((broadcastInDim_apply _ _ _ y (ix2 (0 : Fin 1) (⟨(y 1).val, h1⟩ : Fin 32)) (fun a => by fin_cases a <;> rfl)).trans
      (broadcastInDim_apply _ _ _ _ (ix1 (⟨(y 1).val, h1⟩ : Fin 32)) (fun a => by fin_cases a; rfl)))
  show ((((shapeCast S16384x1 p shapeCasts_S2x8192_S16384x1 (ix2 (⟨(y 0).val, h0⟩ : Fin 16384) (0 : Fin 1))).toInt : ℝ) : EReal)) = _
  rw [shapeCast_apply p _ _ (ix2 (⟨(y 0).val / 8192, by omega⟩ : Fin 2) (⟨(y 0).val % 8192, by omega⟩ : Fin 8192)) (by
    rw [Shape.rowMajor_val_two, Shape.rowMajor_val_two]
    show (y 0).val / 8192 * 8192 + (y 0).val % 8192 = (y 0).val * 1 + 0
    omega)]

/-! ## Joined and padded pieces -/

/-- The three pieces of a table. -/
theorem table_apply (a b : FVec Ideal S16384x32 .f32) (z : FVec Ideal S16384x64 .f32) (hz : ∀ i, z i = 0) (r : Fin 16384) (k : Fin 128) :
    concatenate S16384x128 1 [⟨S16384x32, a⟩, ⟨S16384x32, b⟩, ⟨S16384x64, z⟩] concatenates_S16384x32_S16384x32_S16384x64_S16384x128_d1 (ix2 r k)
      = if h : k.val < 32 then a (ix2 r ⟨k.val, h⟩) else if h' : k.val < 64 then b (ix2 r ⟨k.val - 32, by omega⟩) else 0 := by
  have hk := k.isLt
  split
  · rename_i h
    refine concatenate_apply_piece (t := S16384x128) 1 _ _ _ 0 (by exact (by decide : 0 < 3)) S16384x32 _ rfl rfl 0 rfl (ix2 r (⟨k.val, h⟩ : Fin 32)) (fun b hb => ?_) ?_
    · fin_cases b
      · rfl
      · exact absurd rfl hb
    · show 0 + k.val = k.val
      omega
  · split
    · refine concatenate_apply_piece (t := S16384x128) 1 _ _ _ 1 (by exact (by decide : 1 < 3)) S16384x32 _ rfl rfl 32 rfl (ix2 r (⟨k.val - 32, by omega⟩ : Fin 32)) (fun b hb => ?_) ?_
      · fin_cases b
        · rfl
        · exact absurd rfl hb
      · show 32 + (k.val - 32) = k.val
        omega
    · refine (concatenate_apply_piece (t := S16384x128) 1 _ _ _ 2 (by exact (by decide : 2 < 3)) S16384x64 _ rfl rfl 64 rfl (ix2 r (⟨k.val - 64, by omega⟩ : Fin 64)) (fun b hb => ?_) ?_).trans (hz _)
      · fin_cases b
        · rfl
        · exact absurd rfl hb
      · show 64 + (k.val - 64) = k.val
        omega

/-- The padding's value. -/
theorem zero_scalar (i : S_.Idx) : sitofp (F := Ideal) .f32 (constantI S_ 32 0#32) i = 0 := by
  show (((0#32 : BitVec 32).toInt : ℝ) : EReal) = 0
  simp

/-- The zeros of the tables. -/
theorem zeros_apply (i : S16384x64.Idx) : broadcastInDim S16384x64 ![] bcast_S_S16384x64 (constant (F := Ideal) S_ .f32 0x00000000#32) i = 0 := by
  show Ideal.ofBits .f32 0x00000000#32 = 0
  exact Ideal.ofBits_zero_f32

/-! ## The gains -/

section

variable (g : FVec Ideal S192 .f32)

/-- The last 64 gains. -/
abbrev last : FVec Ideal S64 .f32 := extractStridedSlice S64 ![128] g slices_S192_S64_128

theorem last_apply (k : Fin 64) : last g (ix1 k) = g (ix1 ⟨128 + k.val, by omega⟩) :=
  extractStridedSlice_apply _ _ _ _ _ fun a => by fin_cases a; rfl

/-- The last 64 with their halves swapped. -/
abbrev lastSwapped : FVec Ideal S64 .f32 :=
  concatenate S64 0 [⟨S32, extractStridedSlice S32 ![32] (last g) slices_S64_S32_32⟩, ⟨S32, extractStridedSlice S32 ![0] (last g) slices_S64_S32_0⟩]
    concatenates_S32_S32_S64_d0

theorem lastSwapped_left (k : Fin 64) (h : k.val < 32) : lastSwapped g (ix1 k) = g (ix1 ⟨160 + k.val, by omega⟩) := by
  refine Eq.trans (concatenate_pair_apply_left (t := S64) (s₁ := S32) (s₂ := S32) _ _ _ _ _ rfl (ix1 (⟨k.val, h⟩ : Fin 32)) fun b => by fin_cases b; rfl) ?_
  refine (extractStridedSlice_apply _ _ _ _ (ix1 (⟨32 + k.val, by omega⟩ : Fin 64)) fun a => by fin_cases a; rfl).trans ?_
  rw [last_apply]
  refine congrArg (fun i => g (ix1 i)) (Fin.ext ?_)
  show 128 + (32 + k.val) = 160 + k.val
  omega

theorem lastSwapped_right (k : Fin 64) (h : ¬k.val < 32) : lastSwapped g (ix1 k) = g (ix1 ⟨96 + k.val, by omega⟩) := by
  have hk := k.isLt
  refine Eq.trans (concatenate_pair_apply_right (t := S64) (s₁ := S32) (s₂ := S32) _ _ _ _ _ rfl rfl (ix1 (⟨k.val - 32, by omega⟩ : Fin 32)) (fun b hb => ?_) ?_) ?_
  · fin_cases b
    exact absurd rfl hb
  · show k.val - 32 + 32 = k.val
    omega
  refine (extractStridedSlice_apply _ _ _ _ (ix1 (⟨k.val - 32, by omega⟩ : Fin 64)) fun a => ?_).trans ?_
  · fin_cases a
    show k.val - 32 = 0 + (k.val - 32)
    omega
  rw [last_apply]
  refine congrArg (fun i => g (ix1 i)) (Fin.ext ?_)
  show 128 + (k.val - 32) = 96 + k.val
  omega

/-- 64 entries and 64 of padding. -/
theorem padded_apply (x : FVec Ideal S64 .f32) (v : S_.Idx → EReal) (hv : ∀ i, v i = 0) (k : Fin 128) :
    pad S128 ![0] ![64] ![0] x v pads_S64_S128_0640 h_S_ (ix1 k) = if h : k.val < 64 then x (ix1 ⟨k.val, h⟩) else 0 := by
  split
  · refine pad_apply_of_inside _ _ _ _ _ _ _ _ _ fun a => ?_
    fin_cases a
    show k.val = 0 + k.val * 1
    omega
  · rename_i hk
    refine (pad_apply_of_not_inside _ _ _ _ _ _ _ _ 0 fun hin => hk ?_).trans (hv _)
    have := hin.2.2
    change (k.val - 0) / 1 < 64 at this
    omega

/-- The packed gains. -/
abbrev gainVec (g : FVec Ideal S192 .f32) : FVec Ideal S3x128 .f32 :=
  concatenate S3x128 0 [⟨S1x128, broadcastInDim S1x128 ![1] bcast_S128_S1x128_1 (extractStridedSlice S128 ![0] g slices_S192_S128_0)⟩,
    ⟨S1x128, broadcastInDim S1x128 ![1] bcast_S128_S1x128_1 (pad S128 ![0] ![64] ![0] (last g) (sitofp (F := Ideal) .f32 (constantI S_ 32 0#32)) pads_S64_S128_0640 h_S_)⟩,
    ⟨S1x128, broadcastInDim S1x128 ![1] bcast_S128_S1x128_1 (pad S128 ![0] ![64] ![0] (lastSwapped g) (sitofp (F := Ideal) .f32 (constantI S_ 32 0#32)) pads_S64_S128_0640 h_S_)⟩]
    concatenates_S1x128_S1x128_S1x128_S3x128_d0

theorem spread_gain (x : FVec Ideal S128 .f32) (k : Fin 128) : broadcastInDim S1x128 ![1] bcast_S128_S1x128_1 x (ix2 0 k) = x (ix1 k) :=
  broadcastInDim_apply _ _ _ _ _ fun a => by fin_cases a; rfl

theorem gains_packed : Block.Gains (fun d => g (ix1 d)) (gainVec g) where
  low k := by
    refine (concatenate_apply_piece (t := S3x128) 0 _ _ _ 0 (by exact (by decide : 0 < 3)) S1x128 _ rfl rfl 0 rfl (ix2 0 k) (fun b hb => ?_) rfl).trans ?_
    · fin_cases b
      · exact absurd rfl hb
      · rfl
    refine (spread_gain _ k).trans ?_
    refine extractStridedSlice_apply _ _ _ _ _ fun a => ?_
    fin_cases a
    show k.val = 0 + k.val
    omega
  rot k := by
    refine (concatenate_apply_piece (t := S3x128) 0 _ _ _ 1 (by exact (by decide : 1 < 3)) S1x128 _ rfl rfl 1 rfl (ix2 0 k) (fun b hb => ?_) rfl).trans ?_
    · fin_cases b
      · exact absurd rfl hb
      · rfl
    refine (spread_gain _ k).trans ((padded_apply _ _ zero_scalar k).trans ?_)
    unfold Turn.rot
    split
    · exact last_apply g _
    · rfl
  swp k := by
    refine (concatenate_apply_piece (t := S3x128) 0 _ _ _ 2 (by exact (by decide : 2 < 3)) S1x128 _ rfl rfl 2 rfl (ix2 0 k) (fun b hb => ?_) rfl).trans ?_
    · fin_cases b
      · exact absurd rfl hb
      · rfl
    refine (spread_gain _ k).trans ((padded_apply _ _ zero_scalar k).trans ?_)
    unfold Turn.swp
    by_cases h1 : k.val < 32
    · rw [dif_pos (by omega : k.val < 64), dif_pos h1]
      exact lastSwapped_left g _ h1
    · by_cases h2 : k.val < 64
      · rw [dif_pos h2, dif_neg h1, dif_pos h2]
        exact lastSwapped_right g _ h1
      · rw [dif_neg h2, dif_neg h1, dif_neg h2]

end

/-! ## The query weights -/

section

variable (w : FVec Ideal S256x768 .f32)

/-- The weights by heads. -/
abbrev byHeads : FVec Ideal S256x4x192 .f32 := shapeCast S256x4x192 w shapeCasts_S256x768_S256x4x192

theorem byHeads_apply (k : Fin 256) (h : Fin 4) (d : Fin 192) : byHeads w (ix3 k h d) = w (ix2 k ⟨192 * h.val + d.val, by omega⟩) := by
  refine shapeCast_apply _ _ _ _ ?_
  rw [Shape.rowMajor_val_two, Shape.rowMajor_val_three]
  show k.val * 768 + (192 * h.val + d.val) = (k.val * 4 + h.val) * 192 + d.val
  omega

/-- A head's last 64 columns. -/
abbrev lastCols : FVec Ideal S256x4x64 .f32 := extractStridedSlice S256x4x64 ![0, 0, 128] (byHeads w) slices_S256x4x192_S256x4x64_0_0_128

theorem lastCols_apply (k : Fin 256) (h : Fin 4) (d : Fin 64) : lastCols w (ix3 k h d) = byHeads w (ix3 k h ⟨128 + d.val, by omega⟩) := by
  refine extractStridedSlice_apply _ _ _ _ _ fun a => ?_
  fin_cases a
  · show k.val = 0 + k.val
    omega
  · show h.val = 0 + h.val
    omega
  · rfl

abbrev colsSwapped : FVec Ideal S256x4x64 .f32 :=
  concatenate S256x4x64 2 [⟨S256x4x32, extractStridedSlice S256x4x32 ![0, 0, 32] (lastCols w) slices_S256x4x64_S256x4x32_0_0_32⟩,
    ⟨S256x4x32, extractStridedSlice S256x4x32 ![0, 0, 0] (lastCols w) slices_S256x4x64_S256x4x32_0_0_0⟩] concatenates_S256x4x32_S256x4x32_S256x4x64_d2

theorem colsSwapped_left (k : Fin 256) (h : Fin 4) (d : Fin 64) (hd : d.val < 32) : colsSwapped w (ix3 k h d) = byHeads w (ix3 k h ⟨160 + d.val, by omega⟩) := by
  refine Eq.trans (concatenate_pair_apply_left (t := S256x4x64) (s₁ := S256x4x32) (s₂ := S256x4x32) _ _ _ _ _ rfl (ix3 k h (⟨d.val, hd⟩ : Fin 32)) fun b => by fin_cases b <;> rfl) ?_
  refine (extractStridedSlice_apply _ _ _ _ (ix3 k h (⟨32 + d.val, by omega⟩ : Fin 64)) fun a => ?_).trans ?_
  · fin_cases a
    · show k.val = 0 + k.val
      omega
    · show h.val = 0 + h.val
      omega
    · rfl
  rw [lastCols_apply]
  refine congrArg (fun i => byHeads w (ix3 k h i)) (Fin.ext ?_)
  show 128 + (32 + d.val) = 160 + d.val
  omega

theorem colsSwapped_right (k : Fin 256) (h : Fin 4) (d : Fin 64) (hd : ¬d.val < 32) : colsSwapped w (ix3 k h d) = byHeads w (ix3 k h ⟨96 + d.val, by omega⟩) := by
  have hd' := d.isLt
  refine Eq.trans (concatenate_pair_apply_right (t := S256x4x64) (s₁ := S256x4x32) (s₂ := S256x4x32) _ _ _ _ _ rfl rfl (ix3 k h (⟨d.val - 32, by omega⟩ : Fin 32)) (fun b hb => ?_) ?_) ?_
  · fin_cases b
    · rfl
    · rfl
    · exact absurd rfl hb
  · show d.val - 32 + 32 = d.val
    omega
  refine (extractStridedSlice_apply _ _ _ _ (ix3 k h (⟨d.val - 32, by omega⟩ : Fin 64)) fun a => ?_).trans ?_
  · fin_cases a
    · show k.val = 0 + k.val
      omega
    · show h.val = 0 + h.val
      omega
    · show d.val - 32 = 0 + (d.val - 32)
      omega
  rw [lastCols_apply]
  refine congrArg (fun i => byHeads w (ix3 k h i)) (Fin.ext ?_)
  show 128 + (d.val - 32) = 96 + d.val
  omega

theorem padded_cols (x : FVec Ideal S256x4x64 .f32) (v : S_.Idx → EReal) (hv : ∀ i, v i = 0) (k : Fin 256) (h : Fin 4) (d : Fin 128) :
    pad S256x4x128 ![0, 0, 0] ![0, 0, 64] ![0, 0, 0] x v pads_S256x4x64_S256x4x128_000_000_0640 h_S_ (ix3 k h d) = if hd : d.val < 64 then x (ix3 k h ⟨d.val, hd⟩) else 0 := by
  split
  · refine pad_apply_of_inside _ _ _ _ _ _ _ _ _ fun a => ?_
    fin_cases a
    · show k.val = 0 + k.val * 1
      omega
    · show h.val = 0 + h.val * 1
      omega
    · show d.val = 0 + d.val * 1
      omega
  · rename_i hd
    refine (pad_apply_of_not_inside _ _ _ _ _ _ _ _ 2 fun hin => hd ?_).trans (hv _)
    have := hin.2.2
    change (d.val - 0) / 1 < 64 at this
    omega

/-- The packed weights by heads, and in columns. -/
abbrev packedHeads : FVec Ideal S256x4x384 .f32 :=
  concatenate S256x4x384 2 [⟨S256x4x128, extractStridedSlice S256x4x128 ![0, 0, 0] (byHeads w) slices_S256x4x192_S256x4x128_0_0_0⟩,
    ⟨S256x4x128, pad S256x4x128 ![0, 0, 0] ![0, 0, 64] ![0, 0, 0] (lastCols w) (sitofp (F := Ideal) .f32 (constantI S_ 32 0#32)) pads_S256x4x64_S256x4x128_000_000_0640 h_S_⟩,
    ⟨S256x4x128, pad S256x4x128 ![0, 0, 0] ![0, 0, 64] ![0, 0, 0] (colsSwapped w) (sitofp (F := Ideal) .f32 (constantI S_ 32 0#32)) pads_S256x4x64_S256x4x128_000_000_0640 h_S_⟩]
    concatenates_S256x4x128_S256x4x128_S256x4x128_S256x4x384_d2

abbrev packedVec : FVec Ideal S256x1536 .bf16 := truncf .bf16 (shapeCast S256x1536 (packedHeads w) shapeCasts_S256x4x384_S256x1536) bitsLt_bf16_f32

theorem packedVec_apply (k : Fin 256) (h : Fin 4) (d : Fin 384) (n : Fin 1536) (hn : n.val = 384 * h.val + d.val) : packedVec w (ix2 k n) = packedHeads w (ix3 k h d) := by
  refine shapeCast_apply (packedHeads w) _ _ _ ?_
  rw [Shape.rowMajor_val_two, Shape.rowMajor_val_three]
  show (k.val * 4 + h.val) * 384 + d.val = k.val * 1536 + n.val
  omega

/-- A head's weights. -/
def headWeights (k : Fin 256) (h : Fin 4) (d : Fin 192) : EReal := w (ix2 k ⟨192 * h.val + d.val, by omega⟩)

theorem packed_low (k : Fin 256) (h : Fin 4) (d : Fin 128) (n : Fin 1536) (hn : n.val = 384 * h.val + d.val) :
    packedVec w (ix2 k n) = low (headWeights w k h) d := by
  rw [packedVec_apply w k h ⟨d.val, by omega⟩ n hn]
  refine (concatenate_apply_piece (t := S256x4x384) 2 _ _ _ 0 (by exact (by decide : 0 < 3)) S256x4x128 _ rfl rfl 0 rfl (ix3 k h d) (fun b hb => ?_) ?_).trans ?_
  · fin_cases b
    · rfl
    · rfl
    · exact absurd rfl hb
  · show 0 + d.val = d.val
    omega
  refine (extractStridedSlice_apply _ _ _ _ (ix3 k h (⟨d.val, by omega⟩ : Fin 192)) fun a => ?_).trans (byHeads_apply w k h _)
  fin_cases a
  · show k.val = 0 + k.val
    omega
  · show h.val = 0 + h.val
    omega
  · show d.val = 0 + d.val
    omega

theorem packed_rot (k : Fin 256) (h : Fin 4) (d : Fin 128) (n : Fin 1536) (hn : n.val = 384 * h.val + 128 + d.val) :
    packedVec w (ix2 k n) = rot (headWeights w k h) d := by
  rw [packedVec_apply w k h ⟨128 + d.val, by omega⟩ n (by show _ = 384 * h.val + (128 + d.val); omega)]
  refine (concatenate_apply_piece (t := S256x4x384) 2 _ _ _ 1 (by exact (by decide : 1 < 3)) S256x4x128 _ rfl rfl 128 rfl (ix3 k h d) (fun b hb => ?_) rfl).trans ?_
  · fin_cases b
    · rfl
    · rfl
    · exact absurd rfl hb
  refine (padded_cols _ _ zero_scalar k h d).trans ?_
  unfold rot
  split
  · exact (lastCols_apply w k h _).trans (byHeads_apply w k h _)
  · rfl

theorem packed_swp (k : Fin 256) (h : Fin 4) (d : Fin 128) (n : Fin 1536) (hn : n.val = 384 * h.val + 256 + d.val) :
    packedVec w (ix2 k n) = swp (headWeights w k h) d := by
  rw [packedVec_apply w k h ⟨256 + d.val, by omega⟩ n (by show _ = 384 * h.val + (256 + d.val); omega)]
  refine (concatenate_apply_piece (t := S256x4x384) 2 _ _ _ 2 (by exact (by decide : 2 < 3)) S256x4x128 _ rfl rfl 256 rfl (ix3 k h d) (fun b hb => ?_) rfl).trans ?_
  · fin_cases b
    · rfl
    · rfl
    · exact absurd rfl hb
  refine (padded_cols _ _ zero_scalar k h d).trans ?_
  unfold swp
  by_cases h1 : d.val < 32
  · rw [dif_pos (by omega : d.val < 64), dif_pos h1]
    exact (colsSwapped_left w k h _ h1).trans (byHeads_apply w k h _)
  · by_cases h2 : d.val < 64
    · rw [dif_pos h2, dif_neg h1, dif_pos h2]
      exact (colsSwapped_right w k h _ h1).trans (byHeads_apply w k h _)
    · rw [dif_neg h2, dif_neg h1, dif_neg h2]

end

/-! ## What the kernel reads -/

variable (m : (ℓ : Loc nD τ sig) → Buf (Elt Ideal) ℓ) (c : Dev nD)

/-- The arguments. -/
abbrev Z : Mat 16384 2176 := m ((c.tc : Thread nD τ).loc main_arg0)
abbrev Pos : S2x8192.Idx → BitVec 32 := m ((c.tc : Thread nD τ).loc main_arg1)
abbrev Gq : FVec Ideal S256 .f32 := m ((c.tc : Thread nD τ).loc main_arg2)
abbrev Gkv : FVec Ideal S128 .f32 := m ((c.tc : Thread nD τ).loc main_arg3)
abbrev Wq : FVec Ideal S256x768 .f32 := m ((c.tc : Thread nD τ).loc main_arg4)
abbrev Wkv : FVec Ideal S128x1024 .f32 := m ((c.tc : Thread nD τ).loc main_arg5)
abbrev Nq : FVec Ideal S192 .f32 := m ((c.tc : Thread nD τ).loc main_arg6)
abbrev Nk : FVec Ideal S192 .f32 := m ((c.tc : Thread nD τ).loc main_arg7)

theorem cos_read : V m c main_v15 = concatenate S16384x128 1 [⟨S16384x32, Host.cos (angleVec (Pos m c))⟩, ⟨S16384x32, Host.cos (angleVec (Pos m c))⟩,
    ⟨S16384x64, broadcastInDim S16384x64 ![] bcast_S_S16384x64 (constant (F := Ideal) S_ .f32 0x00000000#32)⟩] concatenates_S16384x32_S16384x32_S16384x64_S16384x128_d1 := by
  unfold angleVec freqs
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results_entrywise (rounds := 1) []

theorem sin_read : V m c main_v19 = concatenate S16384x128 1 [⟨S16384x32, Host.negf (Host.sin (angleVec (Pos m c)))⟩, ⟨S16384x32, Host.sin (angleVec (Pos m c))⟩,
    ⟨S16384x64, broadcastInDim S16384x64 ![] bcast_S_S16384x64 (constant (F := Ideal) S_ .f32 0x00000000#32)⟩] concatenates_S16384x32_S16384x32_S16384x64_S16384x128_d1 := by
  unfold angleVec freqs
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results_entrywise (rounds := 1) []

theorem wq_read : V m c main_v31 = packedVec (Wq m c) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results_entrywise (rounds := 1) []

theorem nq_read : V m c main_v45 = gainVec (Nq m c) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results_entrywise (rounds := 1) []

theorem nk_read : V m c main_v56 = gainVec (Nk m c) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results_entrywise (rounds := 1) []

theorem gq_apply (k : Fin 256) : V m c main_v32 (ix2 0 k) = Gq m c (ix1 k) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results
  exact to_row _ _ k

theorem gkv_apply (k : Fin 128) : V m c main_v33 (ix2 0 k) = Gkv m c (ix1 k) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results
  exact to_row _ _ k

theorem wkv_read : V m c main_v34 = truncf .bf16 (Wkv m c) bitsLt_bf16_f32 := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_results

theorem cos_apply (r : Fin 16384) (k : Fin 128) : V m c main_v15 (ix2 r k) = cosRow (cosines (Pos m c) r) k := by
  rw [cos_read, angleVec_eq, table_apply _ _ _ zeros_apply]
  unfold cosRow
  by_cases h1 : k.val < 32
  · rw [dif_pos h1, if_pos (by omega)]
    exact congrArg (fun i => Host.cos (angles (Pos m c)) (ix2 r i)) (Fin.ext (by show k.val = k.val % 32; omega))
  · by_cases h2 : k.val < 64
    · rw [dif_neg h1, dif_pos h2, if_pos h2]
      exact congrArg (fun i => Host.cos (angles (Pos m c)) (ix2 r i)) (Fin.ext (by show k.val - 32 = k.val % 32; omega))
    · rw [dif_neg h1, dif_neg h2, if_neg h2]

theorem sin_apply (r : Fin 16384) (k : Fin 128) : V m c main_v19 (ix2 r k) = sinRow (sines (Pos m c) r) k := by
  rw [sin_read, angleVec_eq, table_apply _ _ _ zeros_apply]
  rfl

end Cert.PrepIdeal.Tables

end
-- ==== Proof.PrepRows.lean ====
/-
  THE PREPARATION'S RESULTS AS ARRAYS: queries and keys by heads, normalized and turned, and values.
-/
module

public import proofs.«01_k».proof.Proof.PrepHost
public import proofs.«01_k».proof.Proof.Words

@[expose] public section

set_option maxRecDepth 16384

noncomputable section

namespace Cert.PrepIdeal.Rows

open Cert.PrepIdeal Cert.PrepIdeal.Gen Cert.PrepIdeal.Tables Cert.Norm Cert.Turn Cert.Attention
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-! ## The results -/

section

variable (z : Mat 16384 2176) (p : S2x8192.Idx → BitVec 32) (gq : FVec Ideal S256 .f32) (gkv : FVec Ideal S128 .f32) (wq : FVec Ideal S256x768 .f32)
  (wkv : FVec Ideal S128x1024 .f32) (nq nk : FVec Ideal S192 .f32)

/-- A head of a row's queries, before its norm. -/
def query (r : Fin 16384) (h : Fin 4) (d : Fin 192) : EReal :=
  ∑ k : Fin 256, normed 0x43800000#32 0x358637BD#32 (fun k : Fin 256 => z (ix2 r ⟨1536 + k.val, by omega⟩)) (fun k => gq (ix1 k)) k * headWeights wq k h d

/-- A row's keys and values, by columns. -/
def keyValue (r : Fin 16384) (j : Fin 1024) : EReal :=
  ∑ k : Fin 128, normed 0x43000000#32 0x358637BD#32 (fun k : Fin 128 => z (ix2 r ⟨1792 + k.val, by omega⟩)) (fun k => gkv (ix1 k)) k * wkv (ix2 k j)

/-- A head of a row's keys, before its norm. -/
def key (r : Fin 16384) (h : Fin 4) (d : Fin 192) : EReal :=
  if hd : d.val < 128 then keyValue z gkv wkv r ⟨256 * h.val + d.val, by omega⟩ else z (ix2 r ⟨1920 + (d.val - 128), by omega⟩)

/-- The queries, with their scale. -/
def outQ : Mat 16384 1024 := fun y =>
  have h1 : (y 1).val < 1024 := (y 1).isLt
  turned (normed 0x43400000#32 0x358637BD#32 (query z gq wq (y 0) ⟨(y 1).val / 256, by omega⟩) fun d => nq (ix1 d)) (cosines p (y 0)) (sines p (y 0))
    ⟨(y 1).val % 256, by omega⟩ * Ideal.ofBits .f32 0x3D93CD3A#32

/-- The keys. -/
def outK : Mat 16384 1024 := fun y =>
  have h1 : (y 1).val < 1024 := (y 1).isLt
  turned (normed 0x43400000#32 0x358637BD#32 (key z gkv wkv (y 0) ⟨(y 1).val / 256, by omega⟩) fun d => nk (ix1 d)) (cosines p (y 0)) (sines p (y 0))
    ⟨(y 1).val % 256, by omega⟩

/-- The values. -/
def outV : Mat 16384 512 := fun y =>
  have h1 : (y 1).val < 512 := (y 1).isLt
  keyValue z gkv wkv (y 0) ⟨256 * ((y 1).val / 128) + 128 + (y 1).val % 128, by omega⟩

/-- What the rows' last columns hold: the rotary key padded with zeros, and its halves swapped. -/
structure PackedRows : Prop where
  zero : ∀ r (k : Fin 64), z (ix2 r ⟨1984 + k.val, by omega⟩) = 0
  left : ∀ r (k : Fin 32), z (ix2 r ⟨2048 + k.val, by omega⟩) = z (ix2 r ⟨1952 + k.val, by omega⟩)
  right : ∀ r (k : Fin 32), z (ix2 r ⟨2080 + k.val, by omega⟩) = z (ix2 r ⟨1920 + k.val, by omega⟩)

variable {z} in
theorem rotary_key (hz : PackedRows z) (r : Fin 16384) (h : Fin 4) (k : Fin 128) : z (ix2 r ⟨1920 + k.val, by omega⟩) = rot (key z gkv wkv r h) k := by
  unfold rot
  split
  · unfold key
    rw [dif_neg (by show ¬128 + k.val < 128; omega)]
    refine congrArg (fun i => z (ix2 r i)) (Fin.ext ?_)
    show 1920 + k.val = 1920 + (128 + k.val - 128)
    omega
  · rename_i hk
    refine Eq.trans (congrArg (fun i => z (ix2 r i)) (Fin.ext ?_)) (hz.zero r ⟨k.val - 64, by omega⟩)
    show 1920 + k.val = 1984 + (k.val - 64)
    omega

variable {z} in
theorem swapped_key (hz : PackedRows z) (r : Fin 16384) (h : Fin 4) (k : Fin 128) (hk : k.val < 64) : z (ix2 r ⟨2048 + k.val, by omega⟩) = swp (key z gkv wkv r h) k := by
  unfold swp
  by_cases h1 : k.val < 32
  · rw [dif_pos h1]
    unfold key
    rw [dif_neg (by show ¬160 + k.val < 128; omega)]
    refine (hz.left r ⟨k.val, h1⟩).trans (congrArg (fun i => z (ix2 r i)) (Fin.ext ?_))
    show 1952 + k.val = 1920 + (160 + k.val - 128)
    omega
  · rw [dif_neg h1, dif_pos hk]
    unfold key
    rw [dif_neg (by show ¬96 + k.val < 128; omega)]
    refine (congrArg (fun i => z (ix2 r i)) (Fin.ext ?_)).trans ((hz.right r ⟨k.val - 32, by omega⟩).trans (congrArg (fun i => z (ix2 r i)) (Fin.ext ?_)))
    · show 2048 + k.val = 2080 + (k.val - 32)
      omega
    · show 1920 + (k.val - 32) = 1920 + (96 + k.val - 128)
      omega

end

/-! ## Sums against packed weights -/

section

variable {K : ℕ} (a : Fin K → EReal) (w : Fin K → Fin 192 → EReal) (k : Fin 128)

theorem rot_sum : ∑ i, a i * rot (w i) k = rot (fun d => ∑ i, a i * w i d) k := by
  unfold rot
  split
  · rfl
  · simp

theorem swp_sum : ∑ i, a i * swp (w i) k = swp (fun d => ∑ i, a i * w i d) k := by
  unfold swp
  split
  · rfl
  · split
    · rfl
    · simp

end

/-! ## A block's products -/

theorem queries_of (x : Vec Ideal S256x256 .f32) (g : Vec Ideal S1x256 .f32) (w : Vec Ideal S256x1536 .bf16) (r : Fin 256) (j : Fin 1536)
    (x' g' w' : Fin 256 → EReal) (hx : ∀ k, x (ix2 r k) = x' k) (hg : ∀ k, g (ix2 0 k) = g' k) (hw : ∀ k, w (ix2 k j) = w' k) :
    Block.queriesP x g w (ix2 r j) = ∑ k : Fin 256, normed 0x43800000#32 0x358637BD#32 x' g' k * w' k := by
  unfold Block.queriesP k0_pay4
  dsimp only
  simp only [shapeCast_self]
  exact block_dot 0x43800000#32 0x358637BD#32 x g w _ _ _ _ _ _ _ r j x' g' w' hx hg hw

theorem keys_of (x : Vec Ideal S256x128 .f32) (g : Vec Ideal S1x128 .f32) (w : Vec Ideal S128x1024 .bf16) (r : Fin 256) (j : Fin 1024)
    (x' g' w' : Fin 128 → EReal) (hx : ∀ k, x (ix2 r k) = x' k) (hg : ∀ k, g (ix2 0 k) = g' k) (hw : ∀ k, w (ix2 k j) = w' k) :
    Block.keysP x g w (ix2 r j) = ∑ k : Fin 128, normed 0x43000000#32 0x358637BD#32 x' g' k * w' k := by
  unfold Block.keysP k0_pay5 k0_pay3
  dsimp only
  simp only [shapeCast_self]
  exact block_dot 0x43000000#32 0x358637BD#32 x g w _ _ _ _ _ _ _ r j x' g' w' hx hg hw

/-! ## The blocks a grid point reads -/

variable (m : (ℓ : Loc nD τ sig) → Buf (Elt Ideal) ℓ) (c : Dev nD)

theorem idx_in : ∀ t : Fin cfg0.N,
    win0_0.index t = ![(grid0.coords t 0).val, 6] ∧ win0_1.index t = ![(grid0.coords t 0).val, 14] ∧ win0_2.index t = ![(grid0.coords t 0).val, 15]
    ∧ win0_3.index t = ![(grid0.coords t 0).val, 16] ∧ win0_4.index t = ![(grid0.coords t 0).val, 0] ∧ win0_5.index t = ![(grid0.coords t 0).val, 0] :=
  (by decide +kernel : ∀ t : Fin grid0.N,
    win0_0.index t = ![(grid0.coords t 0).val, 6] ∧ win0_1.index t = ![(grid0.coords t 0).val, 14] ∧ win0_2.index t = ![(grid0.coords t 0).val, 15]
    ∧ win0_3.index t = ![(grid0.coords t 0).val, 16] ∧ win0_4.index t = ![(grid0.coords t 0).val, 0] ∧ win0_5.index t = ![(grid0.coords t 0).val, 0])

theorem idx_whole : ∀ t : Fin cfg0.N,
    win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N,
    win0_6.index t = ![0, 0] ∧ win0_7.index t = ![0, 0] ∧ win0_8.index t = ![0, 0] ∧ win0_9.index t = ![0, 0] ∧ win0_10.index t = ![0, 0] ∧ win0_11.index t = ![0, 0])

theorem idx_out : ∀ t : Fin cfg0.N,
    win0_12.index t = ![(grid0.coords t 0).val, 0] ∧ win0_13.index t = ![(grid0.coords t 0).val, 0] ∧ win0_14.index t = ![(grid0.coords t 0).val, 0] :=
  (by decide +kernel : ∀ t : Fin grid0.N,
    win0_12.index t = ![(grid0.coords t 0).val, 0] ∧ win0_13.index t = ![(grid0.coords t 0).val, 0] ∧ win0_14.index t = ![(grid0.coords t 0).val, 0])

/-- A block's row among all rows. -/
def rowAt (t : Fin cfg0.N) (r : Fin 256) : Fin 16384 :=
  ⟨256 * (grid0.coords t 0).val + r.val, by have : (grid0.coords t 0).val < 64 := (grid0.coords t 0).isLt; omega⟩

section

variable (t : Fin cfg0.N)

theorem blk0 (r : Fin 256) (k : Fin 256) : X0_0 m c t (ix2 r k) = Z m c (ix2 (rowAt t r) ⟨1536 + k.val, by omega⟩) := by
  obtain ⟨e0, e1, e2, e3, e4, e5⟩ := idx_in t
  unfold X0_0 Window.fill rowAt
  rw [dif_pos (moved0_0 t _)]
  blk_ext [iblk, V, e0]
  show (grid0.coords t 0).val * 256 + r.val = 256 * (grid0.coords t 0).val + r.val
  omega

theorem blk1 (r : Fin 256) (k : Fin 128) : iblk m c 1 t (ix2 r k) = Z m c (ix2 (rowAt t r) ⟨1792 + k.val, by omega⟩) := by
  obtain ⟨e0, e1, e2, e3, e4, e5⟩ := idx_in t
  unfold rowAt
  blk_ext [iblk, V, e1]
  show (grid0.coords t 0).val * 256 + r.val = 256 * (grid0.coords t 0).val + r.val
  omega

theorem blk2 (r : Fin 256) (k : Fin 128) : iblk m c 2 t (ix2 r k) = Z m c (ix2 (rowAt t r) ⟨1920 + k.val, by omega⟩) := by
  obtain ⟨e0, e1, e2, e3, e4, e5⟩ := idx_in t
  unfold rowAt
  blk_ext [iblk, V, e2]
  show (grid0.coords t 0).val * 256 + r.val = 256 * (grid0.coords t 0).val + r.val
  omega

theorem blk3 (r : Fin 256) (k : Fin 128) : iblk m c 3 t (ix2 r k) = Z m c (ix2 (rowAt t r) ⟨2048 + k.val, by omega⟩) := by
  obtain ⟨e0, e1, e2, e3, e4, e5⟩ := idx_in t
  unfold rowAt
  blk_ext [iblk, V, e3]
  show (grid0.coords t 0).val * 256 + r.val = 256 * (grid0.coords t 0).val + r.val
  omega

theorem blk4 (r : Fin 256) (k : Fin 128) : iblk m c 4 t (ix2 r k) = V m c main_v15 (ix2 (rowAt t r) k) := by
  obtain ⟨e0, e1, e2, e3, e4, e5⟩ := idx_in t
  unfold rowAt
  blk_ext [iblk, e4]
  show (grid0.coords t 0).val * 256 + r.val = 256 * (grid0.coords t 0).val + r.val
  omega

theorem blk5 (r : Fin 256) (k : Fin 128) : iblk m c 5 t (ix2 r k) = V m c main_v19 (ix2 (rowAt t r) k) := by
  obtain ⟨e0, e1, e2, e3, e4, e5⟩ := idx_in t
  unfold rowAt
  blk_ext [iblk, e5]
  show (grid0.coords t 0).val * 256 + r.val = 256 * (grid0.coords t 0).val + r.val
  omega

theorem blk6 (k : Fin 256) : iblk m c 6 t (ix2 0 k) = V m c main_v32 (ix2 0 k) := by
  obtain ⟨e6, e7, e8, e9, e10, e11⟩ := idx_whole t
  blk_ext [iblk, e6]

theorem blk7 (k : Fin 128) : iblk m c 7 t (ix2 0 k) = V m c main_v33 (ix2 0 k) := by
  obtain ⟨e6, e7, e8, e9, e10, e11⟩ := idx_whole t
  blk_ext [iblk, e7]

theorem blk8 (k : Fin 256) (j : Fin 1536) : iblk m c 8 t (ix2 k j) = V m c main_v31 (ix2 k j) := by
  obtain ⟨e6, e7, e8, e9, e10, e11⟩ := idx_whole t
  blk_ext [iblk, e8]

theorem blk9 (k : Fin 128) (j : Fin 1024) : iblk m c 9 t (ix2 k j) = V m c main_v34 (ix2 k j) := by
  obtain ⟨e6, e7, e8, e9, e10, e11⟩ := idx_whole t
  blk_ext [iblk, e9]

theorem blk10 (i : Fin 3) (k : Fin 128) : iblk m c 10 t (ix2 i k) = V m c main_v45 (ix2 i k) := by
  obtain ⟨e6, e7, e8, e9, e10, e11⟩ := idx_whole t
  blk_ext [iblk, e10]

theorem blk11 (i : Fin 3) (k : Fin 128) : iblk m c 11 t (ix2 i k) = V m c main_v56 (ix2 i k) := by
  obtain ⟨e6, e7, e8, e9, e10, e11⟩ := idx_whole t
  blk_ext [iblk, e11]

/-! ## What a grid point computes -/

theorem queries_packed : Block.Packed (fun r h => query (Z m c) (Gq m c) (Wq m c) (rowAt t r) h) (Block.queriesP (X0_0 m c t) (iblk m c 6 t) (iblk m c 8 t)) where
  low r h k := queries_of _ _ _ r _ _ _ _ (fun k => blk0 m c t r k) (fun k => (blk6 m c t k).trans (gq_apply m c k))
    fun i => (blk8 m c t i _).trans ((congrFun (wq_read m c) _).trans (packed_low (Wq m c) i h k _ rfl))
  rot r h k := (queries_of _ _ _ r _ _ _ _ (fun k => blk0 m c t r k) (fun k => (blk6 m c t k).trans (gq_apply m c k))
    fun i => (blk8 m c t i _).trans ((congrFun (wq_read m c) _).trans (packed_rot (Wq m c) i h k _ rfl))).trans (rot_sum _ _ k)
  swp r h k := (queries_of _ _ _ r _ _ _ _ (fun k => blk0 m c t r k) (fun k => (blk6 m c t k).trans (gq_apply m c k))
    fun i => (blk8 m c t i _).trans ((congrFun (wq_read m c) _).trans (packed_swp (Wq m c) i h k _ rfl))).trans (swp_sum _ _ k)

theorem keyValues (r : Fin 256) (j : Fin 1024) :
    Block.keysP (iblk m c 1 t) (iblk m c 7 t) (iblk m c 9 t) (ix2 r j) = keyValue (Z m c) (Gkv m c) (Wkv m c) (rowAt t r) j :=
  keys_of _ _ _ r j _ _ _ (fun k => blk1 m c t r k) (fun k => (blk7 m c t k).trans (gkv_apply m c k))
    fun i => (blk9 m c t i j).trans (congrFun (wkv_read m c) _)

theorem keys_packed (hz : PackedRows (Z m c)) : Block.Keys (fun r h => key (Z m c) (Gkv m c) (Wkv m c) (rowAt t r) h)
    (Block.keysP (iblk m c 1 t) (iblk m c 7 t) (iblk m c 9 t)) (iblk m c 2 t) (iblk m c 3 t) where
  low r h k := (keyValues m c t r _).trans (by
    unfold Turn.low key
    rw [dif_pos k.isLt])
  rot r h k := (blk2 m c t r k).trans (rotary_key _ _ hz _ h k)
  swp r h k hk := (blk3 m c t r k).trans (swapped_key _ _ hz _ h k hk)

theorem gains_q : Block.Gains (fun d => Nq m c (ix1 d)) (iblk m c 10 t) where
  low k := (blk10 m c t 0 k).trans ((congrFun (nq_read m c) _).trans ((gains_packed (Nq m c)).low k))
  rot k := (blk10 m c t 1 k).trans ((congrFun (nq_read m c) _).trans ((gains_packed (Nq m c)).rot k))
  swp k := (blk10 m c t 2 k).trans ((congrFun (nq_read m c) _).trans ((gains_packed (Nq m c)).swp k))

theorem gains_k : Block.Gains (fun d => Nk m c (ix1 d)) (iblk m c 11 t) where
  low k := (blk11 m c t 0 k).trans ((congrFun (nk_read m c) _).trans ((gains_packed (Nk m c)).low k))
  rot k := (blk11 m c t 1 k).trans ((congrFun (nk_read m c) _).trans ((gains_packed (Nk m c)).rot k))
  swp k := (blk11 m c t 2 k).trans ((congrFun (nk_read m c) _).trans ((gains_packed (Nk m c)).swp k))

theorem cos_block (r : Fin 256) (k : Fin 128) : iblk m c 4 t (ix2 r k) = cosRow (cosines (Pos m c) (rowAt t r)) k :=
  (blk4 m c t r k).trans (cos_apply m c _ k)

theorem sin_block (r : Fin 256) (k : Fin 128) : iblk m c 5 t (ix2 r k) = sinRow (sines (Pos m c) (rowAt t r)) k :=
  (blk5 m c t r k).trans (sin_apply m c _ k)

theorem outs_q : (outsAt0 m c t).1 = Block.heads (fun r h => query (Z m c) (Gq m c) (Wq m c) (rowAt t r) h)
    (Block.queryScale fun r h => query (Z m c) (Gq m c) (Wq m c) (rowAt t r) h) (fun d => Nq m c (ix1 d))
    (fun r => cosines (Pos m c) (rowAt t r)) (fun r => sines (Pos m c) (rowAt t r)) := by
  unfold outsAt0
  refine Block.out12 (fun r h => query (Z m c) (Gq m c) (Wq m c) (rowAt t r) h) (fun d => Nq m c (ix1 d))
    (fun r => cosines (Pos m c) (rowAt t r)) (fun r => sines (Pos m c) (rowAt t r)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    ?_ ?_ ?_ ?_
  · exact queries_packed m c t
  · exact gains_q m c t
  · exact cos_block m c t
  · exact sin_block m c t

theorem outs_k (hz : PackedRows (Z m c)) : (outsAt0 m c t).2.1 = Block.heads (fun r h => key (Z m c) (Gkv m c) (Wkv m c) (rowAt t r) h)
    (Block.keyScale fun r h => key (Z m c) (Gkv m c) (Wkv m c) (rowAt t r) h) (fun d => Nk m c (ix1 d))
    (fun r => cosines (Pos m c) (rowAt t r)) (fun r => sines (Pos m c) (rowAt t r)) := by
  unfold outsAt0
  refine Block.out13 (fun r h => key (Z m c) (Gkv m c) (Wkv m c) (rowAt t r) h) (fun d => Nk m c (ix1 d))
    (fun r => cosines (Pos m c) (rowAt t r)) (fun r => sines (Pos m c) (rowAt t r)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    ?_ ?_ ?_ ?_
  · exact keys_packed m c t hz
  · exact gains_k m c t
  · exact cos_block m c t
  · exact sin_block m c t

theorem outs_v : (outsAt0 m c t).2.2 = Block.values (Block.keysP (iblk m c 1 t) (iblk m c 7 t) (iblk m c 9 t)) := by
  unfold outsAt0
  exact Block.out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)

end

/-! ## The arrays -/

theorem arr_q : (dats m 0 c).arrAt 12 cfg0.N = outQ (Z m c) (Pos m c) (Gq m c) (Wq m c) (Nq m c) := by
  refine (dats m 0 c).arrAt_eq_of_covers 12 _ (by decide +kernel) fun t hf y => ?_
  blk_simp
  rw [after0_12]
  obtain ⟨e12, e13, e14⟩ := idx_out t
  have y0 : (y 0).val < 256 := (y 0).isLt
  have y1 : (y 1).val < 1024 := (y 1).isLt
  have hy : (win0_12.blk t).view.emb y = ix2 (rowAt t (⟨(y 0).val, y0⟩ : Fin 256)) (⟨(y 1).val, y1⟩ : Fin 1024) := by
    unfold rowAt
    blk_ext [e12]
  rw [hy]
  refine (congrFun (outs_q m c t) y).trans ?_
  refine (Block.heads_at _ _ _ _ _ y ⟨(y 0).val, y0⟩ (⟨(y 1).val / 256, by omega⟩ : Fin 4) (⟨(y 1).val % 256, by omega⟩ : Fin 256) rfl
    (by show (y 1).val = 256 * ((y 1).val / 256) + (y 1).val % 256; omega)).trans ?_
  obtain ⟨x, hx, hs⟩ := Words.query_scale
  exact turned_scaled _ _ _ _ _ _ (by rw [hs]; exact_mod_cast hx) (by rw [hs]; exact EReal.coe_ne_top x) _

theorem arr_k (hz : PackedRows (Z m c)) : (dats m 0 c).arrAt 13 cfg0.N = outK (Z m c) (Pos m c) (Gkv m c) (Wkv m c) (Nk m c) := by
  refine (dats m 0 c).arrAt_eq_of_covers 13 _ (by decide +kernel) fun t hf y => ?_
  blk_simp
  rw [after0_13]
  obtain ⟨e12, e13, e14⟩ := idx_out t
  have y0 : (y 0).val < 256 := (y 0).isLt
  have y1 : (y 1).val < 1024 := (y 1).isLt
  have hy : (win0_13.blk t).view.emb y = ix2 (rowAt t (⟨(y 0).val, y0⟩ : Fin 256)) (⟨(y 1).val, y1⟩ : Fin 1024) := by
    unfold rowAt
    blk_ext [e13]
  rw [hy]
  refine (congrFun (outs_k m c t hz) y).trans ?_
  exact Block.heads_at _ _ _ _ _ y ⟨(y 0).val, y0⟩ (⟨(y 1).val / 256, by omega⟩ : Fin 4) (⟨(y 1).val % 256, by omega⟩ : Fin 256) rfl
    (by show (y 1).val = 256 * ((y 1).val / 256) + (y 1).val % 256; omega)

theorem arr_v : (dats m 0 c).arrAt 14 cfg0.N = outV (Z m c) (Gkv m c) (Wkv m c) := by
  refine (dats m 0 c).arrAt_eq_of_covers 14 _ (by decide +kernel) fun t hf y => ?_
  blk_simp
  rw [after0_14]
  obtain ⟨e12, e13, e14⟩ := idx_out t
  have y0 : (y 0).val < 256 := (y 0).isLt
  have y1 : (y 1).val < 512 := (y 1).isLt
  have hy : (win0_14.blk t).view.emb y = ix2 (rowAt t (⟨(y 0).val, y0⟩ : Fin 256)) (⟨(y 1).val, y1⟩ : Fin 512) := by
    unfold rowAt
    blk_ext [e14]
  rw [hy]
  refine (congrFun (outs_v m c t) y).trans ?_
  exact keyValues m c t ⟨(y 0).val, y0⟩ _

end Cert.PrepIdeal.Rows

end
-- ==== Proof.PrepRef.lean ====
/-
  THE REFERENCE OF THE PREPARATION, entry by entry.
-/
module

public import proofs.«01_k».proof.Proof.Gen.PrepRefIdeal.Read
public import proofs.«01_k».proof.Proof.PrepRows

@[expose] public section

set_option maxRecDepth 16384

noncomputable section

namespace Cert.PrepRefIdeal.Rows

open Cert.PrepRefIdeal Cert.PrepRefIdeal.Gen Cert.PrepRefIdeal.Read Cert.Norm Cert.Turn Cert.Attention Cert.PrepIdeal.Rows
open Cert.PrepIdeal.Tables (angles cosines sines freqs headWeights)
open Idealize.ShloMosaic hiding ix1 ix2 ix3
open Idealize.ShloMosaic.ValueIdx

/-- A norm's factor from its squares. -/
theorem scale_of (n eps : BitVec 32) {K : ℕ} (f s : Fin K → EReal) (hs : ∀ k, s k = f k * f k) :
    Ideal.rsqrt (Ideal.div (Ideal.ofBits .f32 0x00000000#32 + ∑ k, s k) (Ideal.ofBits .f32 n) + Ideal.ofBits .f32 eps) = scale n eps f := by
  rw [Ideal.ofBits_zero_f32, zero_add, scale, Finset.sum_congr rfl fun k _ => hs k]

/-! ## A norm over a head -/

section

variable (x : FVec Ideal S16384x4x192 .f32) (g : FVec Ideal S192 .f32)

/-- A head's factor. -/
def headScale : FVec Ideal S16384x4x1 .f32 :=
  Host.rsqrt (addf (Host.divf (broadcastInDim S16384x4x1 ![0, 1] bcast_S16384x4_S16384x4x1_0_1
      (Host.reduceAdd (mulf x x) (constant S_ .f32 0x00000000#32) reducesTo_S16384x4x192_S16384x4_d2 h_S_))
    (broadcastInDim S16384x4x1 ![] bcast_S_S16384x4x1 (constant S_ .f32 0x43400000#32)))
    (broadcastInDim S16384x4x1 ![] bcast_S_S16384x4x1 (constant S_ .f32 0x358637BD#32)))

/-- The heads with their norms and gains. -/
def headNorm : FVec Ideal S16384x4x192 .f32 :=
  mulf (mulf x (broadcastInDim S16384x4x192 ![0, 1, 2] bcast_S16384x4x1_S16384x4x192_0_1_2 (headScale x)))
    (broadcastInDim S16384x4x192 ![0, 1, 2] bcast_S1x1x192_S16384x4x192_0_1_2 (broadcastInDim S1x1x192 ![2] bcast_S192_S1x1x192_2 g))

theorem headScale_apply (r : Fin 16384) (h : Fin 4) : headScale x (ix3 r h (0 : Fin 1)) = scale 0x43400000#32 0x358637BD#32 fun d : Fin 192 => x (ix3 r h d) := by
  refine Eq.trans ?_ (scale_of _ _ _ (fun d : Fin 192 => mulf x x (ix3 r h d)) fun d => rfl)
  refine congrArg (fun a : EReal => Ideal.rsqrt (Ideal.div a (Ideal.ofBits .f32 0x43400000#32) + Ideal.ofBits .f32 0x358637BD#32)) ?_
  refine (broadcastInDim_apply _ _ _ _ (ix2 r h) (fun a => by fin_cases a <;> rfl)).trans ?_
  generalize mulf x x = s
  simp only [Host.reduceAdd, Ideal.hostReduceAdd_def]
  rw [Ideal.hostReduceAdd_single reducesTo_S16384x4x192_S16384x4_d2 (by decide)]
  refine congrArg₂ (fun a b : EReal => a + b) rfl (Finset.sum_congr rfl fun k _ => ?_)
  exact congrArg s (funext fun a => Fin.ext (by fin_cases a <;> rfl))

theorem headNorm_apply (r : Fin 16384) (h : Fin 4) (d : Fin 192) :
    headNorm x g (ix3 r h d) = normed 0x43400000#32 0x358637BD#32 (fun d : Fin 192 => x (ix3 r h d)) (fun d => g (ix1 d)) d := by
  refine congrArg₂ (fun a b : EReal => x (ix3 r h d) * a * b) ?_ ?_
  · exact (broadcastInDim_apply _ _ _ _ (ix3 r h (0 : Fin 1)) (fun a => by fin_cases a <;> rfl)).trans (headScale_apply x r h)
  · exact (broadcastInDim_apply _ _ _ _ (ix3 (0 : Fin 1) (0 : Fin 1) d) (fun a => by fin_cases a <;> rfl)).trans
      (broadcastInDim_apply _ _ _ _ (ix1 d) (fun a => by fin_cases a; rfl))

end

/-! ## The turn of a head -/

section

variable (x : FVec Ideal S16384x4x192 .f32) (a : FVec Ideal S16384x32 .f32)

abbrev spread (v : FVec Ideal S16384x32 .f32) : FVec Ideal S16384x4x32 .f32 :=
  broadcastInDim S16384x4x32 ![0, 1, 2] bcast_S16384x1x32_S16384x4x32_0_1_2 (broadcastInDim S16384x1x32 ![0, 2] bcast_S16384x32_S16384x1x32_0_2 v)

theorem spread_apply (v : FVec Ideal S16384x32 .f32) (r : Fin 16384) (h : Fin 4) (k : Fin 32) : spread v (ix3 r h k) = v (ix2 r k) :=
  (broadcastInDim_apply _ _ _ _ (ix3 r (0 : Fin 1) k) (fun a => by fin_cases a <;> rfl)).trans
    (broadcastInDim_apply _ _ _ _ (ix2 r k) (fun a => by fin_cases a <;> rfl))

abbrev tail : FVec Ideal S16384x4x64 .f32 := extractStridedSlice S16384x4x64 ![0, 0, 128] x slices_S16384x4x192_S16384x4x64_0_0_128
abbrev left : FVec Ideal S16384x4x32 .f32 := extractStridedSlice S16384x4x32 ![0, 0, 0] (tail x) slices_S16384x4x64_S16384x4x32_0_0_0
abbrev right : FVec Ideal S16384x4x32 .f32 := extractStridedSlice S16384x4x32 ![0, 0, 32] (tail x) slices_S16384x4x64_S16384x4x32_0_0_32

theorem tail_apply (r : Fin 16384) (h : Fin 4) (k : Fin 64) : tail x (ix3 r h k) = x (ix3 r h ⟨128 + k.val, by omega⟩) :=
  extractStridedSlice_apply _ _ _ _ _ fun a => by
    fin_cases a
    · exact (Nat.zero_add _).symm
    · exact (Nat.zero_add _).symm
    · rfl

theorem left_apply (r : Fin 16384) (h : Fin 4) (k : Fin 32) (d : Fin 192) (hd : d.val = 128 + k.val) : left x (ix3 r h k) = x (ix3 r h d) := by
  refine (extractStridedSlice_apply _ _ _ _ (ix3 r h (⟨k.val, by omega⟩ : Fin 64)) fun a => ?_).trans ((tail_apply x r h _).trans (congrArg (fun i => x (ix3 r h i)) (Fin.ext hd.symm)))
  fin_cases a <;> exact (Nat.zero_add _).symm

theorem right_apply (r : Fin 16384) (h : Fin 4) (k : Fin 32) (d : Fin 192) (hd : d.val = 160 + k.val) : right x (ix3 r h k) = x (ix3 r h d) := by
  refine (extractStridedSlice_apply _ _ _ _ (ix3 r h (⟨32 + k.val, by omega⟩ : Fin 64)) fun a => ?_).trans ((tail_apply x r h _).trans (congrArg (fun i => x (ix3 r h i)) (Fin.ext ?_)))
  · fin_cases a
    · exact (Nat.zero_add _).symm
    · exact (Nat.zero_add _).symm
    · rfl
  · show 128 + (32 + k.val) = d.val
    omega

/-- The turned halves joined. -/
abbrev halves : FVec Ideal S16384x4x64 .f32 :=
  concatenate S16384x4x64 2 [⟨S16384x4x32, subf (mulf (left x) (spread (Host.cos a))) (mulf (right x) (spread (Host.sin a)))⟩,
    ⟨S16384x4x32, addf (mulf (right x) (spread (Host.cos a))) (mulf (left x) (spread (Host.sin a)))⟩] concatenates_S16384x4x32_S16384x4x32_S16384x4x64_d2

/-- The heads, turned, with 64 zeros. -/
def headTurn : FVec Ideal S16384x4x256 .f32 :=
  concatenate S16384x4x256 2 [⟨S16384x4x128, extractStridedSlice S16384x4x128 ![0, 0, 0] x slices_S16384x4x192_S16384x4x128_0_0_0⟩, ⟨S16384x4x64, halves x a⟩,
    ⟨S16384x4x64, broadcastInDim S16384x4x64 ![] bcast_S_S16384x4x64 (constant (F := Ideal) S_ .f32 0x00000000#32)⟩] concatenates_S16384x4x128_S16384x4x64_S16384x4x64_S16384x4x256_d2

theorem headTurn_apply (r : Fin 16384) (h : Fin 4) (d : Fin 256) :
    headTurn x a (ix3 r h d) = turned (fun e => x (ix3 r h e)) (fun k => Host.cos a (ix2 r k)) (fun k => Host.sin a (ix2 r k)) d := by
  have hd := d.isLt
  unfold headTurn turned
  by_cases h1 : d.val < 128
  · rw [dif_pos h1]
    refine (concatenate_apply_piece (t := S16384x4x256) 2 _ _ _ 0 (by exact (by decide : 0 < 3)) S16384x4x128 _ rfl rfl 0 rfl (ix3 r h (⟨d.val, h1⟩ : Fin 128)) (fun b hb => ?_) (Nat.zero_add _)).trans ?_
    · fin_cases b
      · rfl
      · rfl
      · exact absurd rfl hb
    refine extractStridedSlice_apply _ _ _ _ _ fun a => ?_
    fin_cases a <;> exact (Nat.zero_add _).symm
  by_cases h4 : d.val < 192
  · refine (concatenate_apply_piece (t := S16384x4x256) 2 _ _ _ 1 (by exact (by decide : 1 < 3)) S16384x4x64 _ rfl rfl 128 rfl (ix3 r h (⟨d.val - 128, by omega⟩ : Fin 64)) (fun b hb => ?_) ?_).trans ?_
    · fin_cases b
      · rfl
      · rfl
      · exact absurd rfl hb
    · show 128 + (d.val - 128) = d.val
      omega
    by_cases h2 : d.val < 160
    · rw [dif_neg h1, dif_pos h2]
      refine (concatenate_pair_apply_left (t := S16384x4x64) (s₁ := S16384x4x32) (s₂ := S16384x4x32) _ _ _ _ _ rfl (ix3 r h (⟨d.val - 128, by omega⟩ : Fin 32)) fun b => by fin_cases b <;> rfl).trans ?_
      show left x _ * spread _ _ - right x _ * spread _ _ = _
      rw [left_apply x r h _ ⟨d.val, by omega⟩ (by show d.val = 128 + (d.val - 128); omega), right_apply x r h _ ⟨d.val + 32, by omega⟩ (by show d.val + 32 = 160 + (d.val - 128); omega),
        spread_apply, spread_apply]
    · rw [dif_neg h1, dif_neg h2, dif_pos h4]
      refine (concatenate_pair_apply_right (t := S16384x4x64) (s₁ := S16384x4x32) (s₂ := S16384x4x32) _ _ _ _ _ rfl rfl (ix3 r h (⟨d.val - 160, by omega⟩ : Fin 32)) (fun b hb => ?_) ?_).trans ?_
      · fin_cases b
        · rfl
        · rfl
        · exact absurd rfl hb
      · show d.val - 160 + 32 = d.val - 128
        omega
      show right x _ * spread _ _ + left x _ * spread _ _ = _
      rw [right_apply x r h _ ⟨d.val, by omega⟩ (by show d.val = 160 + (d.val - 160); omega), left_apply x r h _ ⟨d.val - 32, by omega⟩ (by show d.val - 32 = 128 + (d.val - 160); omega),
        spread_apply, spread_apply]
  · rw [dif_neg h1, dif_neg (by omega), dif_neg h4]
    refine (concatenate_apply_piece (t := S16384x4x256) 2 _ _ _ 2 (by exact (by decide : 2 < 3)) S16384x4x64 _ rfl rfl 192 rfl (ix3 r h (⟨d.val - 192, by omega⟩ : Fin 64)) (fun b hb => ?_) ?_).trans ?_
    · fin_cases b
      · rfl
      · rfl
      · exact absurd rfl hb
    · show 192 + (d.val - 192) = d.val
      omega
    exact Ideal.ofBits_zero_f32

end

/-! ## The reference's values -/

variable (z : Mat 16384 2176) (p : S2x8192.Idx → BitVec 32) (gq : FVec Ideal S256 .f32) (gkv : FVec Ideal S128 .f32) (wq : FVec Ideal S256x768 .f32)
  (wkv : FVec Ideal S128x1024 .f32) (nq nk : FVec Ideal S192 .f32)

theorem angle_eq : val_main_v79 (F := Ideal) p = angles p := by
  funext y
  have h0 : (y 0).val < 16384 := (y 0).isLt
  rw [val_main_v79_apply, val_main_v77_apply, val_main_v75_apply, val_main_v74_apply, val_main_v78_apply, val_main_v76_apply]
  unfold angles val_main_v73
  refine congrArg₂ (fun a b : EReal => a * b) ?_ ?_
  · refine congrArg (fun b : BitVec 32 => ((b.toInt : ℝ) : EReal)) ?_
    refine shapeCast_apply p _ _ (ix2 (⟨(y 0).val / 8192, by omega⟩ : Fin 2) (⟨(y 0).val % 8192, by omega⟩ : Fin 8192)) ?_
    rw [Shape.rowMajor_val_two, Shape.rowMajor_val_one]
    show (y 0).val / 8192 * 8192 + (y 0).val % 8192 = (y 0).val
    omega
  · show val_main_v72 (F := Ideal) _ = freqs _
    refine (congrArg _ (ValueIdx.eq_ix1 _)).trans ?_
    rfl

theorem scale_q (r : Fin 16384) : val_main_v10 (F := Ideal) z (ix2 r (0 : Fin 1)) = scale 0x43800000#32 0x358637BD#32 fun k : Fin 256 => z (ix2 r ⟨1536 + k.val, by omega⟩) := by
  rw [val_main_v10_apply, val_main_v9_apply, val_main_v8_apply, val_main_v7_apply, val_main_cst_1_apply, val_main_v6_apply, val_main_v5_apply, val_main_cst_0_apply, val_main_v4_apply,
    val_main_cst_apply]
  refine scale_of _ _ _ _ fun k => ?_
  rw [val_main_v3_apply, val_main_v0_apply]
  exact congrArg (fun i => z i * z i) (ValueIdx.eq_ix2 _)

theorem scale_kv (r : Fin 16384) : val_main_v25 (F := Ideal) z (ix2 r (0 : Fin 1)) = scale 0x43000000#32 0x358637BD#32 fun k : Fin 128 => z (ix2 r ⟨1792 + k.val, by omega⟩) := by
  rw [val_main_v25_apply, val_main_v24_apply, val_main_v23_apply, val_main_v22_apply, val_main_cst_4_apply, val_main_v21_apply, val_main_v20_apply, val_main_cst_3_apply, val_main_v19_apply,
    val_main_cst_2_apply]
  refine scale_of _ _ _ _ fun k => ?_
  rw [val_main_v18_apply, val_main_v1_apply]
  exact congrArg (fun i => z i * z i) (ValueIdx.eq_ix2 _)

theorem query_apply (r : Fin 16384) (h : Fin 4) (d : Fin 192) : val_main_v17 (F := Ideal) z gq wq (ix3 r h d) = query z gq wq r h d := by
  unfold val_main_v17
  refine (shapeCast_apply _ _ _ (ix2 r (⟨192 * h.val + d.val, by omega⟩ : Fin 768)) ?_).trans ?_
  · rw [Shape.rowMajor_val_two, Shape.rowMajor_val_three]
    show r.val * 768 + (192 * h.val + d.val) = (r.val * 4 + h.val) * 192 + d.val
    omega
  rw [val_main_v16_apply]
  refine Finset.sum_congr rfl fun k _ => congrArg₂ (fun a b : EReal => a * b) ?_ (congrArg wq (ValueIdx.eq_ix2 _))
  rw [val_main_v15_apply, val_main_v12_apply, val_main_v11_apply, val_main_v14_apply, val_main_v13_apply, val_main_v0_apply]
  refine congrArg₂ (fun a b : EReal => a * b) (congrArg₂ (fun a b : EReal => a * b) (congrArg z (ValueIdx.eq_ix2 _)) ?_) (congrArg gq (ValueIdx.eq_ix1 _))
  exact (congrArg _ (ValueIdx.eq_ix2 _)).trans (scale_q z r)

theorem keyValue_apply (r : Fin 16384) (h : Fin 4) (d : Fin 256) : val_main_v32 (F := Ideal) z gkv wkv (ix3 r h d) = keyValue z gkv wkv r ⟨256 * h.val + d.val, by omega⟩ := by
  unfold val_main_v32
  refine (shapeCast_apply _ _ _ (ix2 r (⟨256 * h.val + d.val, by omega⟩ : Fin 1024)) ?_).trans ?_
  · rw [Shape.rowMajor_val_two, Shape.rowMajor_val_three]
    show r.val * 1024 + (256 * h.val + d.val) = (r.val * 4 + h.val) * 256 + d.val
    omega
  rw [val_main_v31_apply]
  refine Finset.sum_congr rfl fun k _ => congrArg₂ (fun a b : EReal => a * b) ?_ (congrArg wkv (ValueIdx.eq_ix2 _))
  rw [val_main_v30_apply, val_main_v27_apply, val_main_v26_apply, val_main_v29_apply, val_main_v28_apply, val_main_v1_apply]
  refine congrArg₂ (fun a b : EReal => a * b) (congrArg₂ (fun a b : EReal => a * b) (congrArg z (ValueIdx.eq_ix2 _)) ?_) (congrArg gkv (ValueIdx.eq_ix1 _))
  exact (congrArg _ (ValueIdx.eq_ix2 _)).trans (scale_kv z r)

theorem key_apply (r : Fin 16384) (h : Fin 4) (d : Fin 192) : val_main_v36 (F := Ideal) z gkv wkv (ix3 r h d) = key z gkv wkv r h d := by
  unfold val_main_v36 key
  split
  · rename_i hd
    refine (concatenate_pair_apply_left (t := S16384x4x192) (s₁ := S16384x4x128) (s₂ := S16384x4x64) _ _ _ _ _ rfl (ix3 r h (⟨d.val, hd⟩ : Fin 128)) fun b => by fin_cases b <;> rfl).trans ?_
    rw [val_main_v33_apply]
    exact (congrArg _ (ValueIdx.eq_ix3 _)).trans (keyValue_apply z gkv wkv r h ⟨d.val, by omega⟩)
  · rename_i hd
    refine (concatenate_pair_apply_right (t := S16384x4x192) (s₁ := S16384x4x128) (s₂ := S16384x4x64) _ _ _ _ _ rfl rfl (ix3 r h (⟨d.val - 128, by omega⟩ : Fin 64)) (fun b hb => ?_) ?_).trans ?_
    · fin_cases b
      · rfl
      · rfl
      · exact absurd rfl hb
    · show d.val - 128 + 128 = d.val
      omega
    rw [val_main_v35_apply, val_main_v34_apply, val_main_v2_apply]
    exact congrArg z (ValueIdx.eq_ix2 _)

/-- The queries as the norm and the turn of the product. -/
theorem turn_q : val_main_v97 (F := Ideal) z p gq wq nq = headTurn (headNorm (val_main_v17 (F := Ideal) z gq wq) nq) (val_main_v79 (F := Ideal) p) := rfl

theorem turn_k : val_main_v132 (F := Ideal) z p gkv wkv nk = headTurn (headNorm (val_main_v36 (F := Ideal) z gkv wkv) nk) (val_main_v79 (F := Ideal) p) := rfl

/-- A row of all heads and an entry of one head. -/
theorem heads_merged {n N : ℕ} (x : (⟨3, ![16384, 4, n]⟩ : Shape).Idx → EReal) (hN : N = 4 * n) (hc : (⟨3, ![16384, 4, n]⟩ : Shape).ShapeCasts ⟨2, ![16384, N]⟩) (r : Fin 16384) (j : Fin N)
    (h : Fin 4) (d : Fin n) (hj : j.val = n * h.val + d.val) : shapeCast (⟨2, ![16384, N]⟩ : Shape) x hc (ix2 r j) = x (ix3 r h d) := by
  subst hN
  refine shapeCast_apply _ _ _ _ ?_
  rw [Shape.rowMajor_val_two, Shape.rowMajor_val_three]
  show (r.val * 4 + h.val) * n + d.val = r.val * (4 * n) + j.val
  rw [hj]
  ring

theorem entry_q (r : Fin 16384) (j : Fin 1024) : val_main_v133 (F := Ideal) z p gq wq nq (ix2 r j) = outQ z p gq wq nq (ix2 r j) := by
  unfold val_main_v133
  refine (heads_merged (n := 256) (N := 1024) _ (by norm_num) _ r j ⟨j.val / 256, by omega⟩ ⟨j.val % 256, by omega⟩
    (by show j.val = 256 * (j.val / 256) + j.val % 256; omega)).trans ?_
  rw [val_main_v99_apply, val_main_v98_apply, val_main_cst_14_apply, turn_q, angle_eq]
  refine congrArg (fun a : EReal => a * Ideal.ofBits .f32 0x3D93CD3A#32) ((headTurn_apply _ _ _ _ _).trans ?_)
  refine congrArg (fun f => turned f (cosines p r) (sines p r) _) (funext fun e => (headNorm_apply _ _ _ _ e).trans ?_)
  exact congrArg (fun f => normed 0x43400000#32 0x358637BD#32 f (fun d => nq (ix1 d)) e) (funext fun d => query_apply z gq wq _ _ d)

theorem entry_k (r : Fin 16384) (j : Fin 1024) : val_main_v135 (F := Ideal) z p gkv wkv nk (ix2 r j) = outK z p gkv wkv nk (ix2 r j) := by
  unfold val_main_v135
  refine (heads_merged (n := 256) (N := 1024) _ (by norm_num) _ r j ⟨j.val / 256, by omega⟩ ⟨j.val % 256, by omega⟩
    (by show j.val = 256 * (j.val / 256) + j.val % 256; omega)).trans ?_
  rw [turn_k, angle_eq]
  refine (headTurn_apply _ _ _ _ _).trans ?_
  refine congrArg (fun f => turned f (cosines p r) (sines p r) _) (funext fun e => (headNorm_apply _ _ _ _ e).trans ?_)
  exact congrArg (fun f => normed 0x43400000#32 0x358637BD#32 f (fun d => nk (ix1 d)) e) (funext fun d => key_apply z gkv wkv _ _ d)

theorem entry_v (r : Fin 16384) (j : Fin 512) : val_main_v137 (F := Ideal) z gkv wkv (ix2 r j) = outV z gkv wkv (ix2 r j) := by
  unfold val_main_v137
  refine (heads_merged (n := 128) (N := 512) _ (by norm_num) _ r j ⟨j.val / 128, by omega⟩ ⟨j.val % 128, by omega⟩
    (by show j.val = 128 * (j.val / 128) + j.val % 128; omega)).trans ?_
  rw [val_main_v37_apply]
  refine (congrArg _ (ValueIdx.eq_ix3 _)).trans ((keyValue_apply z gkv wkv r ⟨j.val / 128, by omega⟩ ⟨128 + j.val % 128, by omega⟩).trans ?_)
  refine congrArg (keyValue z gkv wkv r) (Fin.ext ?_)
  show 256 * (j.val / 128) + (128 + j.val % 128) = 256 * (j.val / 128) + 128 + j.val % 128
  omega

/-- The reference's results as arrays. -/
theorem res_q : val_main_v134 (F := Ideal) z p gq wq nq = outQ z p gq wq nq := by
  funext y
  exact (congrArg _ (ValueIdx.eq_ix2 y)).trans ((entry_q z p gq wq nq (y 0) (y 1)).trans (congrArg _ (ValueIdx.eq_ix2 y).symm))

theorem res_k : val_main_v136 (F := Ideal) z p gkv wkv nk = outK z p gkv wkv nk := by
  funext y
  exact (congrArg _ (ValueIdx.eq_ix2 y)).trans ((entry_k z p gkv wkv nk (y 0) (y 1)).trans (congrArg _ (ValueIdx.eq_ix2 y).symm))

theorem res_v : val_main_v138 (F := Ideal) z gkv wkv = outV z gkv wkv := by
  funext y
  exact (congrArg _ (ValueIdx.eq_ix2 y)).trans ((entry_v z gkv wkv (y 0) (y 1)).trans (congrArg _ (ValueIdx.eq_ix2 y).symm))

end Cert.PrepRefIdeal.Rows

end
-- ==== Proof.PrepPre.lean ====
/-
  WHAT THE PRECONDITION `packed` SAYS of the rows' last columns.
-/
module

public import proofs.«01_k».proof.Pre_packed
public import proofs.«01_k».proof.Proof.PrepRows

@[expose] public section

noncomputable section

namespace Cert.PrepIdeal.Pre

open Cert.Pre_packed Cert.Attention Cert.PrepIdeal.Rows
open Idealize.ShloMosaic hiding ix1 ix2 ix3
open Idealize.ShloMosaic.ValueIdx

instance facts : Cert.Pre_packed.Facts where
  bcast_S_S16384x64 := by decide
  slices_S16384x2176_S16384x128_0_1984 := by decide
  slices_S16384x2176_S16384x32_0_1952 := by decide
  slices_S16384x2176_S16384x32_0_1920 := by decide
  concatenates_S16384x64_S16384x32_S16384x32_S16384x128_d1 := by decide

theorem eq_of_word {a b : EReal} (h : BitVec.ofBool (decide (a = b)) = 1#1) : a = b := by
  by_contra hab
  rw [decide_eq_false hab] at h
  exact absurd h (by decide)

variable (z : Mat 16384 2176)

/-- What the last columns are compared with. -/
abbrev expected : FVec Ideal S16384x128 .f32 :=
  concatenate S16384x128 1 [⟨S16384x64, broadcastInDim S16384x64 ![] Facts.bcast_S_S16384x64 (constant (F := Ideal) S_ .f32 0x00000000#32)⟩,
    ⟨S16384x32, extractStridedSlice S16384x32 ![0, 1952] z Facts.slices_S16384x2176_S16384x32_0_1952⟩,
    ⟨S16384x32, extractStridedSlice S16384x32 ![0, 1920] z Facts.slices_S16384x2176_S16384x32_0_1920⟩] Facts.concatenates_S16384x64_S16384x32_S16384x32_S16384x128_d1

theorem cut_at (o n : ℕ) (h : S16384x2176.Slices ![0, o] ⟨2, ![16384, n]⟩) (r : Fin 16384) (k : Fin n) (j : Fin 2176) (hj : j.val = o + k.val) :
    extractStridedSlice (⟨2, ![16384, n]⟩ : Shape) ![0, o] z h (ix2 r k) = z (ix2 r j) :=
  extractStridedSlice_apply _ _ _ _ _ fun a => by
    fin_cases a
    · exact (Nat.zero_add _).symm
    · exact hj

theorem expected_zero (r : Fin 16384) (k : Fin 128) (hk : k.val < 64) : expected z (ix2 r k) = 0 := by
  refine (concatenate_apply_piece (t := S16384x128) 1 _ _ _ 0 (by exact (by decide : 0 < 3)) S16384x64 _ rfl rfl 0 rfl (ix2 r (⟨k.val, hk⟩ : Fin 64)) (fun b hb => ?_) (Nat.zero_add _)).trans Ideal.ofBits_zero_f32
  fin_cases b
  · rfl
  · exact absurd rfl hb

theorem expected_left (r : Fin 16384) (k : Fin 128) (i : Fin 32) (hk : k.val = 64 + i.val) : expected z (ix2 r k) = z (ix2 r ⟨1952 + i.val, by omega⟩) := by
  refine (concatenate_apply_piece (t := S16384x128) 1 _ _ _ 1 (by exact (by decide : 1 < 3)) S16384x32 _ rfl rfl 64 rfl (ix2 r i) (fun b hb => ?_) (by exact hk.symm)).trans (cut_at z 1952 32 _ r i _ rfl)
  fin_cases b
  · rfl
  · exact absurd rfl hb

theorem expected_right (r : Fin 16384) (k : Fin 128) (i : Fin 32) (hk : k.val = 96 + i.val) : expected z (ix2 r k) = z (ix2 r ⟨1920 + i.val, by omega⟩) := by
  refine (concatenate_apply_piece (t := S16384x128) 1 _ _ _ 2 (by exact (by decide : 2 < 3)) S16384x32 _ rfl rfl 96 rfl (ix2 r i) (fun b hb => ?_) (by exact hk.symm)).trans (cut_at z 1920 32 _ r i _ rfl)
  fin_cases b
  · rfl
  · exact absurd rfl hb

theorem packed_rows (p : S2x8192.Idx → BitVec 32) (gq : FVec Ideal S256 .f32) (gkv : FVec Ideal S128 .f32) (wq : FVec Ideal S256x768 .f32)
    (wkv : FVec Ideal S128x1024 .f32) (nq nk : FVec Ideal S192 .f32) (h : Cert.Pre_packed.fn (F := Ideal) z p gq gkv wq wkv nq nk = fun _ => 1#1) : PackedRows z := by
  have hy : ∀ r (k : Fin 128) (j : Fin 2176), j.val = 1984 + k.val → z (ix2 r j) = expected z (ix2 r k) := fun r k j hj =>
    (cut_at z 1984 128 Facts.slices_S16384x2176_S16384x128_0_1984 r k j hj).symm.trans (eq_of_word (congrFun h (ix2 r k)))
  exact {
    zero := fun r k => (hy r ⟨k.val, by omega⟩ _ rfl).trans (expected_zero z r _ k.isLt)
    left := fun r k => (hy r ⟨64 + k.val, by omega⟩ _ (by show 2048 + k.val = 1984 + (64 + k.val); omega)).trans (expected_left z r _ k rfl)
    right := fun r k => (hy r ⟨96 + k.val, by omega⟩ _ (by show 2080 + k.val = 1984 + (96 + k.val); omega)).trans (expected_right z r _ k rfl) }

end Cert.PrepIdeal.Pre

end
-- ==== Proof.MobaBlock.lean ====
/-
  WHAT THE BODY OF THE BLOCK ATTENTION'S NORMS LEAVES in its four blocks, from the entries of the blocks it reads.
-/
module

public import proofs.«01_k».proof.Proof.Gen.MobaIdeal.Value
public import proofs.«01_k».proof.Proof.Norm
public import Idealize.ShloMosaic.Lib.Pipeline.ValueKit.Acc

@[expose] public section

set_option maxRecDepth 16384

noncomputable section

namespace Cert.MobaIdeal.Block

open Idealize.ShloMosaic
open Idealize.ShloMosaic.TcCoe Idealize.ShloMosaic.Tactic Idealize.ShloMosaic.ValueIdx
open Idealize.SL Idealize.SL.Sem
open Cert.MobaIdeal.Gen Cert.Norm

/-! ## One head of a block -/

/-- A head of a block's row. -/
def head (x : FVec Ideal S256x512 .f32) (r : Fin 256) (h : Fin 4) (k : Fin 128) : EReal := x (ix2 r ⟨128 * h.val + k.val, by omega⟩)

/-- A head of a block's row, normed. -/
def headNormed (x : FVec Ideal S256x512 .f32) (g : FVec Ideal S1x128 .f32) (r : Fin 256) (h : Fin 4) (k : Fin 128) : EReal :=
  normed 0x43000000#32 0x358637BD#32 (head x r h) (fun k => g (ix2 0 k)) k

/-- A 1 in the column of one's own block, as the kernel and the reference write it. -/
def own (b k : ℕ) : EReal :=
  Scalar.select (IntOp.cmpi .eq (BitVec.ofNat 32 k) (BitVec.ofNat 32 b)) (Ideal.ofBits .f32 0x3F800000#32) (Ideal.ofBits .f32 0x00000000#32)

/-- The columns of a head as a load of them gives them. -/
theorem load_apply (x : Vec Ideal S256x512 .f32) (h : Fin 4) (o : ℕ) (ho : o = 128 * h.val)
    (inb : ∀ a, (![0, o] : Fin 2 → ℕ) a + S256x128.size a ≤ S256x512.size a) (r : Fin 256) (k : Fin 128) :
    View.ld x (Rect.unit (s := S256x512) ![0, o] S256x128.size inb) (ix2 r k) = head x r h k := by
  subst ho
  refine congrArg x (funext fun a => Fin.ext ?_)
  fin_cases a
  · show 0 + 1 * r.val = r.val
    omega
  · show 128 * h.val + 1 * k.val = 128 * h.val + k.val
    omega

/-- The norm of a head as the body writes it. -/
def blockNorm (x : FVec Ideal S256x128 .f32) (g : FVec Ideal S1x128 .f32) : FVec Ideal S256x128 .f32 :=
  mulf (mulf x (broadcastTo S256x128 (rsqrt (addf (divf (shapeCast S256x1
      (multiReduction .add [1] S256 (mulf x x) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

theorem blockNorm_apply (x : Vec Ideal S256x512 .f32) (g : FVec Ideal S1x128 .f32) (h : Fin 4) (o : ℕ) (ho : o = 128 * h.val)
    (inb : ∀ a, (![0, o] : Fin 2 → ℕ) a + S256x128.size a ≤ S256x512.size a) (r : Fin 256) (k : Fin 128) :
    blockNorm (View.ld x (Rect.unit (s := S256x512) ![0, o] S256x128.size inb)) g (ix2 r k) = headNormed x g r h k := by
  unfold blockNorm headNormed
  rw [shapeCast_self]
  refine (block_apply 0x43000000#32 0x358637BD#32 _ g _ _ _ _ _ _ r k).trans ?_
  rw [show (fun k => View.ld x (Rect.unit (s := S256x512) ![0, o] S256x128.size inb) (ix2 r k)) = head x r h from
    funext fun k => load_apply x h o ho inb r k]

/-! ## The four blocks -/

/-- The queries of a block. -/
def queries (x : FVec Ideal S256x512 .f32) (g : FVec Ideal S1x128 .f32) : FVec Ideal S256x512 .bf16 := fun y =>
  have h1 : (y 1).val < 512 := (y 1).isLt
  headNormed x g (y 0) ⟨(y 1).val / 128, by omega⟩ ⟨(y 1).val % 128, by omega⟩ * Ideal.ofBits .f32 0x3DB504F3#32

/-- The keys of a block, each head followed by the column marks of block `b`. -/
def keys (x : FVec Ideal S256x512 .f32) (g : FVec Ideal S1x128 .f32) (b : ℕ) : FVec Ideal S256x1024 .bf16 := fun y =>
  have h1 : (y 1).val < 1024 := (y 1).isLt
  if h : (y 1).val % 256 < 128 then headNormed x g (y 0) ⟨(y 1).val / 256, by omega⟩ ⟨(y 1).val % 256, h⟩
  else own b ((y 1).val % 256 - 128)

/-- The values of a block. -/
def values (x : FVec Ideal S256x512 .f32) : FVec Ideal S256x512 .bf16 := x

/-- The mean keys of a block. -/
def means (x : FVec Ideal S256x512 .f32) (g : FVec Ideal S1x128 .f32) : FVec Ideal S1x1x512 .f32 := fun y =>
  have h1 : (y 2).val < 512 := (y 2).isLt
  Ideal.div (∑ r : Fin 256, headNormed x g r ⟨(y 2).val / 128, by omega⟩ ⟨(y 2).val % 128, by omega⟩) (Ideal.ofBits .f32 0x43800000#32)

theorem query_piece (x : Vec Ideal S256x512 .f32) (g : FVec Ideal S1x128 .f32) (h : Fin 4) (o : ℕ) (ho : o = 128 * h.val)
    (inb : ∀ a, (![0, o] : Fin 2 → ℕ) a + S256x128.size a ≤ S256x512.size a)
    (y : (Rect.unit (s := S256x512) ![0, o] S256x128.size inb).shape.Idx) :
    (truncf .bf16 (mulf (blockNorm (View.ld x (Rect.unit (s := S256x512) ![0, o] S256x128.size inb)) g)
        (broadcast S256x128 (Scalar.ofBits .f32 0x3DB504F3#32))) bitsLt_bf16_f32 : FVec Ideal S256x128 .bf16) y
      = queries x g ((Rect.unit (s := S256x512) ![0, o] S256x128.size inb).emb y) := by
  obtain ⟨r, k, rfl⟩ : ∃ (r : Fin 256) (k : Fin 128), y = ix2 r k := ⟨y 0, y 1, funext fun a => by fin_cases a <;> rfl⟩
  show blockNorm _ g (ix2 r k) * Ideal.ofBits .f32 0x3DB504F3#32 = _
  rw [blockNorm_apply x g h o ho inb]
  subst ho
  have hk := k.isLt
  have e0 : (((Rect.unit (s := S256x512) ![0, 128 * h.val] S256x128.size inb).emb (ix2 r k)) 0 : Fin 256) = r :=
    Fin.ext (by show 0 + 1 * r.val = r.val; omega)
  have e1 : (((Rect.unit (s := S256x512) ![0, 128 * h.val] S256x128.size inb).emb (ix2 r k)) 1).val = 128 * h.val + k.val := by
    show 128 * h.val + 1 * k.val = _
    omega
  generalize (Rect.unit (s := S256x512) ![0, 128 * h.val] S256x128.size inb).emb (ix2 r k) = z at e0 e1
  unfold queries
  refine congrArg (· * _) ?_
  rw [e0]
  congr 1
  · exact Fin.ext (by show h.val = (z 1).val / 128; omega)
  · exact Fin.ext (by show k.val = (z 1).val % 128; omega)

theorem key_piece (x : Vec Ideal S256x512 .f32) (g : FVec Ideal S1x128 .f32) (b : ℕ) (h : Fin 4) (o : ℕ) (ho : o = 128 * h.val)
    (inb : ∀ a, (![0, o] : Fin 2 → ℕ) a + S256x128.size a ≤ S256x512.size a)
    (o' : ℕ) (ho' : o' = 256 * h.val) (inb' : ∀ a, (![0, o'] : Fin 2 → ℕ) a + S256x128.size a ≤ S256x1024.size a)
    (y : (Rect.unit (s := S256x1024) ![0, o'] S256x128.size inb').shape.Idx) :
    (truncf .bf16 (blockNorm (View.ld x (Rect.unit (s := S256x512) ![0, o] S256x128.size inb)) g) bitsLt_bf16_f32 : FVec Ideal S256x128 .bf16) y
      = keys x g b ((Rect.unit (s := S256x1024) ![0, o'] S256x128.size inb').emb y) := by
  obtain ⟨r, k, rfl⟩ : ∃ (r : Fin 256) (k : Fin 128), y = ix2 r k := ⟨y 0, y 1, funext fun a => by fin_cases a <;> rfl⟩
  show blockNorm _ g (ix2 r k) = _
  rw [blockNorm_apply x g h o ho inb]
  subst ho'
  have hk := k.isLt
  have e0 : (((Rect.unit (s := S256x1024) ![0, 256 * h.val] S256x128.size inb').emb (ix2 r k)) 0 : Fin 256) = r :=
    Fin.ext (by show 0 + 1 * r.val = r.val; omega)
  have e1 : (((Rect.unit (s := S256x1024) ![0, 256 * h.val] S256x128.size inb').emb (ix2 r k)) 1).val = 256 * h.val + k.val := by
    show 256 * h.val + 1 * k.val = _
    omega
  generalize (Rect.unit (s := S256x1024) ![0, 256 * h.val] S256x128.size inb').emb (ix2 r k) = z at e0 e1
  unfold keys
  dsimp only
  rw [dif_pos (by omega), e0]
  congr 1
  · exact Fin.ext (by show h.val = (z 1).val / 256; omega)
  · exact Fin.ext (by show k.val = (z 1).val % 256; omega)

/-- The block's number in its sequence, as the body computes it. -/
theorem block_word : ∀ n : Fin 64,
    (let v1 : BitVec 32 := Scalar.select (Scalar.cmpi .eq 32#32 0#32) 1#32 32#32
     let v2 : BitVec 32 := Scalar.remsi (BitVec.ofNat 32 n.val) v1
     Scalar.select (Scalar.andi (Scalar.xori (Scalar.cmpi .slt v2 0#32) (Scalar.cmpi .slt v1 0#32)) (Scalar.cmpi .ne v2 0#32)) (Scalar.addi v2 v1) v2)
      = BitVec.ofNat 32 (n.val % 32) := by
  decide +kernel

theorem marks_apply (i : grid0.Coords) (r : Fin 256) (k : Fin 128) : k0_pay4 (F := Ideal) i (ix2 r k) = own ((i 0).val % 32) k.val := by
  unfold k0_pay4
  dsimp only
  show Scalar.select (IntOp.cmpi .eq (iota Kind.tc S256x128 32 [1] iota_S256x128_d1_w32 (ix2 r k)) _) (Ideal.ofBits .f32 0x3F800000#32) (Ideal.ofBits .f32 0x00000000#32) = _
  rw [iota_single_apply]
  exact congrArg (fun w : BitVec 32 => Scalar.select (IntOp.cmpi .eq (BitVec.ofNat 32 k.val) w) (Ideal.ofBits .f32 0x3F800000#32) (Ideal.ofBits .f32 0x00000000#32))
    (block_word (i 0))

theorem mark_piece (x : Vec Ideal S256x512 .f32) (g : FVec Ideal S1x128 .f32) (i : grid0.Coords) (h : Fin 4)
    (o' : ℕ) (ho' : o' = 256 * h.val + 128) (inb' : ∀ a, (![0, o'] : Fin 2 → ℕ) a + S256x128.size a ≤ S256x1024.size a)
    (y : (Rect.unit (s := S256x1024) ![0, o'] S256x128.size inb').shape.Idx) :
    k0_pay4 (F := Ideal) i y = keys x g ((i 0).val % 32) ((Rect.unit (s := S256x1024) ![0, o'] S256x128.size inb').emb y) := by
  obtain ⟨r, k, rfl⟩ : ∃ (r : Fin 256) (k : Fin 128), y = ix2 r k := ⟨y 0, y 1, funext fun a => by fin_cases a <;> rfl⟩
  refine (marks_apply i r k).trans ?_
  subst ho'
  have hk := k.isLt
  have e1 : (((Rect.unit (s := S256x1024) ![0, 256 * h.val + 128] S256x128.size inb').emb (ix2 r k)) 1).val = 256 * h.val + 128 + k.val := by
    show 256 * h.val + 128 + 1 * k.val = _
    omega
  generalize (Rect.unit (s := S256x1024) ![0, 256 * h.val + 128] S256x128.size inb').emb (ix2 r k) = z at e1
  unfold keys
  dsimp only
  rw [dif_neg (by omega)]
  refine congrArg (own _) ?_
  omega

/-- A column's sum. -/
theorem column_sum (x : FVec Ideal S256x128 .f32) (k : Fin 128) :
    multiReduction .add [0] S128 x 0x00000000#32 reduces_S256x128_S128 (.inl rfl) rfl (ix1 k) = ∑ r : Fin 256, x (ix2 r k) := by
  refine (Ideal.multiReduction_add_single _ _ _ _ _ _).trans ?_
  refine Finset.sum_congr rfl fun r _ => congrArg x ?_
  funext a
  fin_cases a <;> rfl

theorem mean_piece (x : Vec Ideal S256x512 .f32) (g : FVec Ideal S1x128 .f32) (h : Fin 4) (o : ℕ) (ho : o = 128 * h.val)
    (inb : ∀ a, (![0, o] : Fin 2 → ℕ) a + S256x128.size a ≤ S256x512.size a)
    (inb' : ∀ a, (![0, 0, o] : Fin 3 → ℕ) a + S1x1x128.size a ≤ S1x1x512.size a)
    (y : (Rect.unit (s := S1x1x512) ![0, 0, o] S1x1x128.size inb').shape.Idx) :
    (shapeCast S1x1x128 (divf (shapeCast S1x128 (multiReduction .add [0] S128
        (blockNorm (View.ld x (Rect.unit (s := S256x512) ![0, o] S256x128.size inb)) g) 0x00000000#32 reduces_S256x128_S128 (.inl rfl) rfl)
        shapeCasts_S128_S1x128) (broadcast S1x128 (Scalar.ofBits .f32 0x43800000#32))) shapeCasts_S1x128_S1x1x128 : FVec Ideal S1x1x128 .f32) y
      = means x g ((Rect.unit (s := S1x1x512) ![0, 0, o] S1x1x128.size inb').emb y) := by
  obtain ⟨k, rfl⟩ : ∃ k : Fin 128, y = ix3 (0 : Fin 1) (0 : Fin 1) k := ⟨y 2, funext fun a => by
    fin_cases a
    · exact Subsingleton.elim (α := Fin 1) _ _
    · exact Subsingleton.elim (α := Fin 1) _ _
    · rfl⟩
  refine (shapeCast_apply _ _ _ (ix2 (0 : Fin 1) k) (by
    rw [Shape.rowMajor_val_two, Shape.rowMajor_val_three]
    show 0 * 128 + k.val = (0 * 1 + 0) * 128 + k.val
    omega)).trans ?_
  show Ideal.div (shapeCast S1x128 _ shapeCasts_S128_S1x128 (ix2 (0 : Fin 1) k)) (Ideal.ofBits .f32 0x43800000#32) = _
  rw [to_row, column_sum]
  have e1 : (((Rect.unit (s := S1x1x512) ![0, 0, o] S1x1x128.size inb').emb (ix3 (0 : Fin 1) (0 : Fin 1) k)) 2).val = 128 * h.val + k.val := by
    show o + 1 * k.val = _
    omega
  generalize (Rect.unit (s := S1x1x512) ![0, 0, o] S1x1x128.size inb').emb (ix3 (0 : Fin 1) (0 : Fin 1) k) = z at e1
  have hk := k.isLt
  unfold means
  refine congrArg (fun s : EReal => Ideal.div s (Ideal.ofBits .f32 0x43800000#32)) (Finset.sum_congr rfl fun r _ => ?_)
  rw [blockNorm_apply x g h o ho inb]
  congr 1
  · exact Fin.ext (by show h.val = (z 2).val / 128; omega)
  · exact Fin.ext (by show k.val = (z 2).val % 128; omega)

variable (c : Dev nD) (i : grid0.Coords)
  (arg1 : Memref sig .tc .vmem S256x512 .f32) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S256x512 .bf16) (harg6 : arg6.IsWhole)
  (arg7 : Memref sig .tc .vmem S256x1024 .bf16) (harg7 : arg7.IsWhole)
  (arg8 : Memref sig .tc .vmem S256x512 .bf16) (harg8 : arg8.IsWhole)
  (arg9 : Memref sig .tc .vmem S1x1x512 .f32) (harg9 : arg9.IsWhole)
  (x0 x1 x2 : Vec Ideal S256x512 .f32) (x3 x4 : Vec Ideal S1x128 .f32)

theorem out5 : out0_A_5 c i arg1 harg1 arg2 harg2 arg3 harg3 arg4 harg4 arg5 harg5 arg6 harg6 arg7 harg7 arg8 harg8 arg9 harg9 x0 x1 x2 x3 x4 = queries x0 x3 := by
  frame_out
  funext y
  refine View.canon_apply_of_pieces (Val := Elt Ideal) (e := .bf16) (queries x0 x3) _ ?_ y (View.cover_of_tiledL (s := S256x512) _ S256x128.size (by sl_kernel_rfl) y)
  refine List.forall_mem_cons.mpr ⟨query_piece x0 x3 3 384 rfl inb_S256x512_S256x128_0_384, ?_⟩
  refine List.forall_mem_cons.mpr ⟨query_piece x0 x3 2 256 rfl inb_S256x512_S256x128_0_256, ?_⟩
  refine List.forall_mem_cons.mpr ⟨query_piece x0 x3 1 128 rfl inb_S256x512_S256x128_0_128, ?_⟩
  refine List.forall_mem_cons.mpr ⟨query_piece x0 x3 0 0 rfl inb_S256x512_S256x128_0_0, ?_⟩
  exact fun p hp => absurd hp List.not_mem_nil

theorem out6 : out0_A_6 c i arg1 harg1 arg2 harg2 arg3 harg3 arg4 harg4 arg5 harg5 arg6 harg6 arg7 harg7 arg8 harg8 arg9 harg9 x0 x1 x2 x3 x4 = keys x1 x4 ((i 0).val % 32) := by
  frame_out
  funext y
  refine View.canon_apply_of_pieces (Val := Elt Ideal) (e := .bf16) (keys x1 x4 ((i 0).val % 32)) _ ?_ y (View.cover_of_tiledL (s := S256x1024) _ S256x128.size (by sl_kernel_rfl) y)
  refine List.forall_mem_cons.mpr ⟨mark_piece x1 x4 i 3 896 rfl inb_S256x1024_S256x128_0_896, ?_⟩
  refine List.forall_mem_cons.mpr ⟨key_piece x1 x4 _ 3 384 rfl inb_S256x512_S256x128_0_384 768 rfl inb_S256x1024_S256x128_0_768, ?_⟩
  refine List.forall_mem_cons.mpr ⟨mark_piece x1 x4 i 2 640 rfl inb_S256x1024_S256x128_0_640, ?_⟩
  refine List.forall_mem_cons.mpr ⟨key_piece x1 x4 _ 2 256 rfl inb_S256x512_S256x128_0_256 512 rfl inb_S256x1024_S256x128_0_512, ?_⟩
  refine List.forall_mem_cons.mpr ⟨mark_piece x1 x4 i 1 384 rfl inb_S256x1024_S256x128_0_384, ?_⟩
  refine List.forall_mem_cons.mpr ⟨key_piece x1 x4 _ 1 128 rfl inb_S256x512_S256x128_0_128 256 rfl inb_S256x1024_S256x128_0_256, ?_⟩
  refine List.forall_mem_cons.mpr ⟨mark_piece x1 x4 i 0 128 rfl inb_S256x1024_S256x128_0_128, ?_⟩
  refine List.forall_mem_cons.mpr ⟨key_piece x1 x4 _ 0 0 rfl inb_S256x512_S256x128_0_0 0 rfl inb_S256x1024_S256x128_0_0, ?_⟩
  exact fun p hp => absurd hp List.not_mem_nil

theorem out7 : out0_A_7 c i arg1 harg1 arg2 harg2 arg3 harg3 arg4 harg4 arg5 harg5 arg6 harg6 arg7 harg7 arg8 harg8 arg9 harg9 x0 x1 x2 x3 x4 = values x2 := by
  frame_out
  rfl

theorem out8 : out0_A_8 c i arg1 harg1 arg2 harg2 arg3 harg3 arg4 harg4 arg5 harg5 arg6 harg6 arg7 harg7 arg8 harg8 arg9 harg9 x0 x1 x2 x3 x4 = means x1 x4 := by
  frame_out
  funext y
  refine View.canon_apply_of_pieces (Val := Elt Ideal) (e := .f32) (means x1 x4) _ ?_ y (View.cover_of_tiledL (s := S1x1x512) _ S1x1x128.size (by sl_kernel_rfl) y)
  refine List.forall_mem_cons.mpr ⟨mean_piece x1 x4 3 384 rfl inb_S256x512_S256x128_0_384 inb_S1x1x512_S1x1x128_0_0_384, ?_⟩
  refine List.forall_mem_cons.mpr ⟨mean_piece x1 x4 2 256 rfl inb_S256x512_S256x128_0_256 inb_S1x1x512_S1x1x128_0_0_256, ?_⟩
  refine List.forall_mem_cons.mpr ⟨mean_piece x1 x4 1 128 rfl inb_S256x512_S256x128_0_128 inb_S1x1x512_S1x1x128_0_0_128, ?_⟩
  refine List.forall_mem_cons.mpr ⟨mean_piece x1 x4 0 0 rfl inb_S256x512_S256x128_0_0 inb_S1x1x512_S1x1x128_0_0_0, ?_⟩
  exact fun p hp => absurd hp List.not_mem_nil

end Cert.MobaIdeal.Block

end
-- ==== Proof.MobaRows.lean ====
/-
  THE BLOCK ATTENTION'S QUERIES, KEYS, VALUES AND MEAN KEYS AS ARRAYS.
-/
module

public import proofs.«01_k».proof.Proof.Gen.MobaIdeal.Value
public import proofs.«01_k».proof.Proof.MobaBlock
public import proofs.«01_k».proof.Proof.Attention
public import Idealize.ShloMosaic.Lib.Pipeline.ValueKit
public import Idealize.ShloMosaic.Lib.Pipeline.ValueKit.Tiles
public import Idealize.ShloMosaic.Lib.StableHlo.RunClose
public import Idealize.ShloMosaic.Lib.KernelVsHost

@[expose] public section

set_option maxRecDepth 16384

noncomputable section

namespace Cert.MobaIdeal.Rows

open Cert.MobaIdeal Cert.MobaIdeal.Gen Cert.Norm Cert.Attention
open Cert.MobaIdeal.Block (own)
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-! ## The results -/

section

variable (z : Mat 16384 2176) (g : FVec Ideal S128 .f32)

/-- A head of a row's queries (part 0) or keys (part 1), normed. -/
def rowNormed (o : Fin 2) (r : Fin 16384) (h : Fin 4) (k : Fin 128) : EReal :=
  normed 0x43000000#32 0x358637BD#32 (fun k : Fin 128 => z (ix2 r ⟨512 * o.val + (128 * h.val + k.val), by omega⟩)) (fun k => g (ix1 k)) k

/-- The queries, with their scale. -/
def outQ : Mat 16384 512 := fun y =>
  have h1 : (y 1).val < 512 := (y 1).isLt
  rowNormed z g 0 (y 0) ⟨(y 1).val / 128, by omega⟩ ⟨(y 1).val % 128, by omega⟩ * Ideal.ofBits .f32 0x3DB504F3#32

/-- The keys, each head followed by a 1 in the column of the row's own block. -/
def outK : Mat 16384 1024 := fun y =>
  have h1 : (y 1).val < 1024 := (y 1).isLt
  if h : (y 1).val % 256 < 128 then rowNormed z g 1 (y 0) ⟨(y 1).val / 256, by omega⟩ ⟨(y 1).val % 256, h⟩
  else own ((y 0).val / 256 % 32) ((y 1).val % 256 - 128)

/-- The values. -/
def outV : Mat 16384 512 := fun y =>
  have h1 : (y 1).val < 512 := (y 1).isLt
  z (ix2 (y 0) ⟨1024 + (y 1).val, by omega⟩)

/-- The mean keys of the blocks. -/
def outM : FVec Ideal S64x1x512 .f32 := fun y =>
  have h0 : (y 0).val < 64 := (y 0).isLt
  have h2 : (y 2).val < 512 := (y 2).isLt
  Ideal.div (∑ r : Fin 256, rowNormed z g 1 ⟨256 * (y 0).val + r.val, by omega⟩ ⟨(y 2).val / 128, by omega⟩ ⟨(y 2).val % 128, by omega⟩)
    (Ideal.ofBits .f32 0x43800000#32)

end

/-! ## The blocks a grid point reads -/

variable (m : (ℓ : Loc nD τ sig) → Buf (Elt Ideal) ℓ) (c : Dev nD)

abbrev Z : Mat 16384 2176 := m ((c.tc : Thread nD τ).loc main_arg0)
abbrev Gq : FVec Ideal S128 .f32 := m ((c.tc : Thread nD τ).loc main_arg1)
abbrev Gk : FVec Ideal S128 .f32 := m ((c.tc : Thread nD τ).loc main_arg2)

theorem gq_apply (k : Fin 128) : V m c main_v0 (ix2 0 k) = Gq m c (ix1 k) := by
  unfold_abbrev_sides
  simp only [hostOps0, List.flatten_cons, List.flatten_nil, List.append_nil, List.cons_append, List.nil_append]
  after_results
  exact to_row _ _ k

theorem gk_apply (k : Fin 128) : V m c main_v1 (ix2 0 k) = Gk m c (ix1 k) := by
  unfold_abbrev_sides
  simp only [hostOps0, List.flatten_cons, List.flatten_nil, List.append_nil, List.cons_append, List.nil_append]
  after_results
  exact to_row _ _ k

theorem idx_in : ∀ t : Fin cfg0.N,
    win0_0.index t = ![(grid0.coords t 0).val, 0] ∧ win0_1.index t = ![(grid0.coords t 0).val, 1] ∧ win0_2.index t = ![(grid0.coords t 0).val, 2]
    ∧ win0_3.index t = ![0, 0] ∧ win0_4.index t = ![0, 0] :=
  (by decide +kernel : ∀ t : Fin grid0.N,
    win0_0.index t = ![(grid0.coords t 0).val, 0] ∧ win0_1.index t = ![(grid0.coords t 0).val, 1] ∧ win0_2.index t = ![(grid0.coords t 0).val, 2]
    ∧ win0_3.index t = ![0, 0] ∧ win0_4.index t = ![0, 0])

theorem idx_out : ∀ t : Fin cfg0.N,
    win0_5.index t = ![(grid0.coords t 0).val, 0] ∧ win0_6.index t = ![(grid0.coords t 0).val, 0] ∧ win0_7.index t = ![(grid0.coords t 0).val, 0]
    ∧ win0_8.index t = ![(grid0.coords t 0).val, 0, 0] :=
  (by decide +kernel : ∀ t : Fin grid0.N,
    win0_5.index t = ![(grid0.coords t 0).val, 0] ∧ win0_6.index t = ![(grid0.coords t 0).val, 0] ∧ win0_7.index t = ![(grid0.coords t 0).val, 0]
    ∧ win0_8.index t = ![(grid0.coords t 0).val, 0, 0])

/-- A block's row among all rows. -/
def rowAt (t : Fin cfg0.N) (r : Fin 256) : Fin 16384 :=
  ⟨256 * (grid0.coords t 0).val + r.val, by have : (grid0.coords t 0).val < 64 := (grid0.coords t 0).isLt; omega⟩

section

variable (t : Fin cfg0.N)

theorem blk0 (r : Fin 256) (k : Fin 512) : X0_0 m c t (ix2 r k) = Z m c (ix2 (rowAt t r) ⟨k.val, by omega⟩) := by
  obtain ⟨e0, e1, e2, e3, e4⟩ := idx_in t
  unfold X0_0 Window.fill rowAt
  rw [dif_pos (moved0_0 t _)]
  blk_ext [iblk, V, e0]
  show (grid0.coords t 0).val * 256 + r.val = 256 * (grid0.coords t 0).val + r.val
  omega

theorem blk1 (r : Fin 256) (k : Fin 512) : X0_1 m c t (ix2 r k) = Z m c (ix2 (rowAt t r) ⟨512 + k.val, by omega⟩) := by
  obtain ⟨e0, e1, e2, e3, e4⟩ := idx_in t
  unfold X0_1 Window.fill rowAt
  rw [dif_pos (moved0_1 t _)]
  blk_ext [iblk, V, e1]
  show (grid0.coords t 0).val * 256 + r.val = 256 * (grid0.coords t 0).val + r.val
  omega

theorem blk2 (r : Fin 256) (k : Fin 512) : X0_2 m c t (ix2 r k) = Z m c (ix2 (rowAt t r) ⟨1024 + k.val, by omega⟩) := by
  obtain ⟨e0, e1, e2, e3, e4⟩ := idx_in t
  unfold X0_2 Window.fill rowAt
  rw [dif_pos (moved0_2 t _)]
  blk_ext [iblk, V, e2]
  show (grid0.coords t 0).val * 256 + r.val = 256 * (grid0.coords t 0).val + r.val
  omega

theorem blk3 (k : Fin 128) : iblk m c 3 t (ix2 0 k) = V m c main_v0 (ix2 0 k) := by
  obtain ⟨e0, e1, e2, e3, e4⟩ := idx_in t
  blk_ext [iblk, e3]

theorem blk4 (k : Fin 128) : iblk m c 4 t (ix2 0 k) = V m c main_v1 (ix2 0 k) := by
  obtain ⟨e0, e1, e2, e3, e4⟩ := idx_in t
  blk_ext [iblk, e4]

/-! ## What a grid point computes -/

theorem query_head (r : Fin 256) (h : Fin 4) (k : Fin 128) :
    Block.headNormed (X0_0 m c t) (iblk m c 3 t) r h k = rowNormed (Z m c) (Gq m c) 0 (rowAt t r) h k := by
  unfold Block.headNormed rowNormed
  congr 1
  · funext k
    refine (blk0 m c t r _).trans (congrArg (fun i => Z m c (ix2 _ i)) (Fin.ext ?_))
    show 128 * h.val + k.val = 512 * 0 + (128 * h.val + k.val)
    omega
  · funext k
    exact (blk3 m c t k).trans (gq_apply m c k)

theorem key_head (r : Fin 256) (h : Fin 4) (k : Fin 128) :
    Block.headNormed (X0_1 m c t) (iblk m c 4 t) r h k = rowNormed (Z m c) (Gk m c) 1 (rowAt t r) h k := by
  unfold Block.headNormed rowNormed
  congr 1
  · funext k
    exact blk1 m c t r _
  · funext k
    exact (blk4 m c t k).trans (gk_apply m c k)

theorem outs_q : (outsAt0 m c t).1 = Block.queries (X0_0 m c t) (iblk m c 3 t) := by
  unfold outsAt0
  exact Block.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (X0_1 m c t) (X0_2 m c t) (iblk m c 3 t) (iblk m c 4 t)

theorem outs_k : (outsAt0 m c t).2.1 = Block.keys (X0_1 m c t) (iblk m c 4 t) ((grid0.coords t 0).val % 32) := by
  unfold outsAt0
  exact Block.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (X0_1 m c t) (X0_2 m c t) (iblk m c 3 t) (iblk m c 4 t)

theorem outs_v : (outsAt0 m c t).2.2.1 = Block.values (X0_2 m c t) := by
  unfold outsAt0
  dsimp only
  exact Block.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (X0_1 m c t) (X0_2 m c t) (iblk m c 3 t) (iblk m c 4 t)

theorem outs_m : (outsAt0 m c t).2.2.2 = Block.means (X0_1 m c t) (iblk m c 4 t) := by
  unfold outsAt0
  dsimp only
  exact Block.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (X0_1 m c t) (X0_2 m c t) (iblk m c 3 t) (iblk m c 4 t)

end

/-! ## The arrays -/

theorem arr_q : (dats m 0 c).arrAt 5 cfg0.N = outQ (Z m c) (Gq m c) := by
  refine (dats m 0 c).arrAt_eq_of_covers 5 _ (by decide +kernel) fun t hf y => ?_
  blk_simp
  rw [after0_5]
  obtain ⟨e5, e6, e7, e8⟩ := idx_out t
  have y0 : (y 0).val < 256 := (y 0).isLt
  have y1 : (y 1).val < 512 := (y 1).isLt
  have hy : (win0_5.blk t).view.emb y = ix2 (rowAt t (⟨(y 0).val, y0⟩ : Fin 256)) (⟨(y 1).val, y1⟩ : Fin 512) := by
    unfold rowAt
    blk_ext [e5]
  rw [hy]
  refine (congrFun (outs_q m c t) y).trans ?_
  exact congrArg (fun a : EReal => a * Ideal.ofBits .f32 0x3DB504F3#32) (query_head m c t ⟨(y 0).val, y0⟩ _ _)

theorem arr_k : (dats m 0 c).arrAt 6 cfg0.N = outK (Z m c) (Gk m c) := by
  refine (dats m 0 c).arrAt_eq_of_covers 6 _ (by decide +kernel) fun t hf y => ?_
  blk_simp
  rw [after0_6]
  obtain ⟨e5, e6, e7, e8⟩ := idx_out t
  have y0 : (y 0).val < 256 := (y 0).isLt
  have y1 : (y 1).val < 1024 := (y 1).isLt
  have hy : (win0_6.blk t).view.emb y = ix2 (rowAt t (⟨(y 0).val, y0⟩ : Fin 256)) (⟨(y 1).val, y1⟩ : Fin 1024) := by
    unfold rowAt
    blk_ext [e6]
  rw [hy]
  refine (congrFun (outs_k m c t) y).trans ?_
  unfold Block.keys outK
  dsimp only
  by_cases h : (y 1).val % 256 < 128
  · rw [dif_pos h]
    refine Eq.trans ?_ (dif_pos h).symm
    exact key_head m c t ⟨(y 0).val, y0⟩ _ _
  · rw [dif_neg h]
    refine Eq.trans ?_ (dif_neg h).symm
    refine congrArg (fun b => own b ((y 1).val % 256 - 128)) ?_
    show (grid0.coords t 0).val % 32 = (256 * (grid0.coords t 0).val + (y 0).val) / 256 % 32
    omega

theorem arr_v : (dats m 0 c).arrAt 7 cfg0.N = outV (Z m c) := by
  refine (dats m 0 c).arrAt_eq_of_covers 7 _ (by decide +kernel) fun t hf y => ?_
  blk_simp
  rw [after0_7]
  obtain ⟨e5, e6, e7, e8⟩ := idx_out t
  have y0 : (y 0).val < 256 := (y 0).isLt
  have y1 : (y 1).val < 512 := (y 1).isLt
  have hy : (win0_7.blk t).view.emb y = ix2 (rowAt t (⟨(y 0).val, y0⟩ : Fin 256)) (⟨(y 1).val, y1⟩ : Fin 512) := by
    unfold rowAt
    blk_ext [e7]
  rw [hy]
  refine (congrFun (outs_v m c t) y).trans ?_
  exact (congrArg (X0_2 m c t) (ValueIdx.eq_ix2 y)).trans (blk2 m c t ⟨(y 0).val, y0⟩ ⟨(y 1).val, y1⟩)

theorem arr_m : (dats m 0 c).arrAt 8 cfg0.N = outM (Z m c) (Gk m c) := by
  refine (dats m 0 c).arrAt_eq_of_covers 8 _ (by decide +kernel) fun t hf y => ?_
  blk_simp
  rw [after0_8]
  obtain ⟨e5, e6, e7, e8⟩ := idx_out t
  have ht : (grid0.coords t 0).val < 64 := (grid0.coords t 0).isLt
  have y0 : (y 0).val < 1 := (y 0).isLt
  have y1 : (y 1).val < 1 := (y 1).isLt
  have y2 : (y 2).val < 512 := (y 2).isLt
  have hy : (win0_8.blk t).view.emb y = ix3 (⟨(grid0.coords t 0).val, ht⟩ : Fin 64) (⟨(y 1).val, y1⟩ : Fin 1) (⟨(y 2).val, y2⟩ : Fin 512) := by
    blk_ext [e8]
  rw [hy]
  refine (congrFun (outs_m m c t) y).trans ?_
  exact congrArg (fun s : EReal => Ideal.div s (Ideal.ofBits .f32 0x43800000#32)) (Finset.sum_congr rfl fun r _ => key_head m c t r _ _)

end Cert.MobaIdeal.Rows

end
-- ==== Proof.MobaRef.lean ====
/-
  THE REFERENCE OF THE BLOCK ATTENTION'S NORMS, entry by entry.
-/
module

public import proofs.«01_k».proof.Proof.Gen.MobaRefIdeal.Read
public import proofs.«01_k».proof.Proof.MobaRows

@[expose] public section

set_option maxRecDepth 16384

noncomputable section

namespace Cert.MobaRefIdeal.Rows

open Cert.MobaRefIdeal Cert.MobaRefIdeal.Gen Cert.MobaRefIdeal.Read Cert.Norm Cert.Attention Cert.MobaIdeal.Rows
open Cert.MobaIdeal.Block (own)
open Idealize.ShloMosaic hiding ix1 ix2 ix3
open Idealize.ShloMosaic.ValueIdx

variable (z : Mat 16384 2176) (g : FVec Ideal S128 .f32)

/-- A norm's factor from its squares. -/
theorem scale_of (n eps : BitVec 32) {K : ℕ} (f s : Fin K → EReal) (hs : ∀ k, s k = f k * f k) :
    Ideal.rsqrt (Ideal.div (Ideal.ofBits .f32 0x00000000#32 + ∑ k, s k) (Ideal.ofBits .f32 n) + Ideal.ofBits .f32 eps) = scale n eps f := by
  rw [Ideal.ofBits_zero_f32, zero_add, scale, Finset.sum_congr rfl fun k _ => hs k]

/-! ## The heads -/

theorem query_entry (r : Fin 16384) (h : Fin 4) (k : Fin 128) :
    val_main_v1 (F := Ideal) z (ix3 r h k) = z (ix2 r ⟨512 * 0 + (128 * h.val + k.val), by omega⟩) := by
  rw [val_main_v1_apply, val_main_v0_apply]
  refine congrArg z (funext fun a => Fin.ext ?_)
  fin_cases a
  · show ((r.val * 4 + h.val) * 128 + k.val) / 512 = r.val
    omega
  · show ((r.val * 4 + h.val) * 128 + k.val) % 512 = 512 * 0 + (128 * h.val + k.val)
    omega

theorem key_entry (r : Fin 16384) (h : Fin 4) (k : Fin 128) :
    val_main_v18 (F := Ideal) z (ix3 r h k) = z (ix2 r ⟨512 * 1 + (128 * h.val + k.val), by omega⟩) := by
  rw [val_main_v18_apply, val_main_v17_apply]
  refine congrArg z (funext fun a => Fin.ext ?_)
  fin_cases a
  · show ((r.val * 4 + h.val) * 128 + k.val) / 512 = r.val
    omega
  · show 512 + ((r.val * 4 + h.val) * 128 + k.val) % 512 = 512 * 1 + (128 * h.val + k.val)
    omega

theorem query_scale (r : Fin 16384) (h : Fin 4) : val_main_v9 (F := Ideal) z (ix3 r h (0 : Fin 1))
    = scale 0x43000000#32 0x358637BD#32 fun k : Fin 128 => z (ix2 r ⟨512 * 0 + (128 * h.val + k.val), by omega⟩) := by
  rw [val_main_v9_apply, val_main_v8_apply, val_main_v7_apply, val_main_cst_1_apply, val_main_v6_apply, val_main_v5_apply, val_main_cst_0_apply, val_main_v4_apply,
    val_main_v3_apply, val_main_cst_apply]
  refine scale_of _ _ _ _ fun k => ?_
  rw [val_main_v2_apply]
  exact congrArg (fun a : EReal => a * a) ((congrArg _ (ValueIdx.eq_ix3 _)).trans (query_entry z r h k))

theorem key_scale (r : Fin 16384) (h : Fin 4) : val_main_v26 (F := Ideal) z (ix3 r h (0 : Fin 1))
    = scale 0x43000000#32 0x358637BD#32 fun k : Fin 128 => z (ix2 r ⟨512 * 1 + (128 * h.val + k.val), by omega⟩) := by
  rw [val_main_v26_apply, val_main_v25_apply, val_main_v24_apply, val_main_cst_5_apply, val_main_v23_apply, val_main_v22_apply, val_main_cst_4_apply, val_main_v21_apply,
    val_main_v20_apply, val_main_cst_3_apply]
  refine scale_of _ _ _ _ fun k => ?_
  rw [val_main_v19_apply]
  exact congrArg (fun a : EReal => a * a) ((congrArg _ (ValueIdx.eq_ix3 _)).trans (key_entry z r h k))

theorem query_apply (r : Fin 16384) (h : Fin 4) (k : Fin 128) : val_main_v14 (F := Ideal) z g (ix3 r h k) = rowNormed z g 0 r h k := by
  rw [val_main_v14_apply, val_main_v11_apply, val_main_v10_apply, val_main_v13_apply, val_main_v12_apply]
  refine congrArg₂ (fun a b : EReal => a * b) (congrArg₂ (fun a b : EReal => a * b) (query_entry z r h k) ?_) (congrArg g (ValueIdx.eq_ix1 _))
  exact (congrArg _ (ValueIdx.eq_ix3 _)).trans (query_scale z r h)

theorem key_apply (r : Fin 16384) (h : Fin 4) (k : Fin 128) : val_main_v31 (F := Ideal) z g (ix3 r h k) = rowNormed z g 1 r h k := by
  rw [val_main_v31_apply, val_main_v28_apply, val_main_v27_apply, val_main_v30_apply, val_main_v29_apply]
  refine congrArg₂ (fun a b : EReal => a * b) (congrArg₂ (fun a b : EReal => a * b) (key_entry z r h k) ?_) (congrArg g (ValueIdx.eq_ix1 _))
  exact (congrArg _ (ValueIdx.eq_ix3 _)).trans (key_scale z r h)

/-- The columns beside a row's keys. -/
theorem own_apply (r : Fin 16384) (h : Fin 4) (k : Fin 128) : val_main_v46 (F := Ideal) (ix3 r h k) = own (r.val / 256 % 32) k.val := by
  rw [val_main_v46_apply, val_main_v45_apply, val_main_v44_apply, val_main_v43_apply, val_main_v42_apply, val_main_call0_v0_apply, val_main_call0_v1_apply,
    val_main_cst_6_apply, val_main_cst_7_apply, val_main_v40_apply, val_main_v38_apply, val_main_v37_apply, val_main_v41_apply, val_main_v39_apply, val_main_v36_apply,
    val_main_v35_apply, val_main_v34_apply, val_main_v33_apply]
  unfold own
  refine congrArg (fun n : ℕ => Scalar.select (IntOp.cmpi .eq (BitVec.ofNat 32 k.val) (BitVec.ofNat 32 n)) (Ideal.ofBits .f32 0x3F800000#32) (Ideal.ofBits .f32 0x00000000#32)) ?_
  have hr := r.isLt
  show r.val / 256 % 32 = r.val / 256 % 32
  rfl

theorem joined_apply (r : Fin 16384) (h : Fin 4) (k : Fin 256) : val_main_v47 (F := Ideal) z g (ix3 r h k)
    = if hk : k.val < 128 then rowNormed z g 1 r h ⟨k.val, hk⟩ else own (r.val / 256 % 32) (k.val - 128) := by
  have hk' := k.isLt
  unfold val_main_v47
  split
  · rename_i hk
    refine (concatenate_pair_apply_left (t := S16384x4x256) (s₁ := S16384x4x128) (s₂ := S16384x4x128) _ _ _ _ _ rfl (ix3 r h (⟨k.val, hk⟩ : Fin 128)) fun b => by fin_cases b <;> rfl).trans ?_
    exact key_apply z g r h _
  · rename_i hk
    refine (concatenate_pair_apply_right (t := S16384x4x256) (s₁ := S16384x4x128) (s₂ := S16384x4x128) _ _ _ _ _ rfl rfl (ix3 r h (⟨k.val - 128, by omega⟩ : Fin 128)) (fun b hb => ?_) ?_).trans ?_
    · fin_cases b
      · rfl
      · rfl
      · exact absurd rfl hb
    · show k.val - 128 + 128 = k.val
      omega
    exact own_apply r h _

/-! ## The results -/

theorem res_q : val_main_v53 (F := Ideal) z g = outQ z g := by
  funext y
  have h0 : (y 0).val < 16384 := (y 0).isLt
  have h1 : (y 1).val < 512 := (y 1).isLt
  rw [val_main_v53_apply, val_main_v52_apply, val_main_v16_apply, val_main_v15_apply, val_main_cst_2_apply]
  unfold outQ
  refine congrArg (fun a : EReal => a * Ideal.ofBits .f32 0x3DB504F3#32) ?_
  refine Eq.trans (congrArg _ (funext fun a => Fin.ext ?_)) (query_apply z g (y 0) ⟨(y 1).val / 128, by omega⟩ ⟨(y 1).val % 128, by omega⟩)
  fin_cases a
  · show ((y 0).val * 512 + (y 1).val) / 512 = (y 0).val
    omega
  · show ((y 0).val * 512 + (y 1).val) / 128 % 4 = (y 1).val / 128
    omega
  · show ((y 0).val * 512 + (y 1).val) % 128 = (y 1).val % 128
    omega

theorem res_k : val_main_v55 (F := Ideal) z g = outK z g := by
  funext y
  have h0 : (y 0).val < 16384 := (y 0).isLt
  have h1 : (y 1).val < 1024 := (y 1).isLt
  rw [val_main_v55_apply, val_main_v54_apply]
  unfold outK
  refine Eq.trans (congrArg (val_main_v47 (F := Ideal) z g) (funext fun a => Fin.ext ?_)) (joined_apply z g (y 0) ⟨(y 1).val / 256, by omega⟩ ⟨(y 1).val % 256, by omega⟩)
  fin_cases a
  · show ((y 0).val * 1024 + (y 1).val) / 1024 = (y 0).val
    omega
  · show ((y 0).val * 1024 + (y 1).val) / 256 % 4 = (y 1).val / 256
    omega
  · show ((y 0).val * 1024 + (y 1).val) % 256 = (y 1).val % 256
    omega

theorem res_v : val_main_v56 (F := Ideal) z = outV z := by
  funext y
  rw [val_main_v56_apply, val_main_v32_apply]
  exact congrArg z (ValueIdx.eq_ix2 _)

theorem res_m : val_main_v57 (F := Ideal) z g = outM z g := by
  funext y
  have h0 : (y 0).val < 64 := (y 0).isLt
  have h1 : (y 1).val < 1 := (y 1).isLt
  have h2 : (y 2).val < 512 := (y 2).isLt
  rw [val_main_v57_apply, val_main_v51_apply, val_main_v50_apply, val_main_cst_9_apply, val_main_v49_apply, val_main_cst_8_apply]
  unfold outM
  refine congrArg (fun a : EReal => Ideal.div a (Ideal.ofBits .f32 0x43800000#32)) ?_
  refine ((congrArg (fun a : EReal => a + _) Ideal.ofBits_zero_f32).trans (zero_add _)).trans (Finset.sum_congr rfl fun r _ => ?_)
  have hr := r.isLt
  rw [val_main_v48_apply]
  refine Eq.trans (congrArg _ (funext fun a => Fin.ext ?_))
    (key_apply z g ⟨256 * (y 0).val + r.val, by omega⟩ ⟨(y 2).val / 128, by omega⟩ ⟨(y 2).val % 128, by omega⟩)
  have hb : (((y 0).val * 1 + (y 1).val) * 512 + (y 2).val) / 512 = (y 0).val := by omega
  have hh : (((y 0).val * 1 + (y 1).val) * 512 + (y 2).val) / 128 % 4 = (y 2).val / 128 := by omega
  have hk : (((y 0).val * 1 + (y 1).val) * 512 + (y 2).val) % 128 = (y 2).val % 128 := by omega
  fin_cases a
  · show ((((((y 0).val * 1 + (y 1).val) * 512 + (y 2).val) / 512 * 256 + r.val) * 4 + (((y 0).val * 1 + (y 1).val) * 512 + (y 2).val) / 128 % 4) * 128
      + (((y 0).val * 1 + (y 1).val) * 512 + (y 2).val) % 128) / 512 = 256 * (y 0).val + r.val
    rw [hb, hh, hk]
    omega
  · show ((((((y 0).val * 1 + (y 1).val) * 512 + (y 2).val) / 512 * 256 + r.val) * 4 + (((y 0).val * 1 + (y 1).val) * 512 + (y 2).val) / 128 % 4) * 128
      + (((y 0).val * 1 + (y 1).val) * 512 + (y 2).val) % 128) / 128 % 4 = (y 2).val / 128
    rw [hb, hh, hk]
    omega
  · show ((((((y 0).val * 1 + (y 1).val) * 512 + (y 2).val) / 512 * 256 + r.val) * 4 + (((y 0).val * 1 + (y 1).val) * 512 + (y 2).val) / 128 % 4) * 128
      + (((y 0).val * 1 + (y 1).val) * 512 + (y 2).val) % 128) % 128 = (y 2).val % 128
    rw [hb, hh, hk]
    omega

end Cert.MobaRefIdeal.Rows

end
-- ==== Proof.GateBlock.lean ====
/-
  WHAT THE BODY OF THE FIRST LAYER'S MIXERS LEAVES in the block of the spatial gating, from the entries of the blocks it reads.
-/
module

public import proofs.«01_k».proof.Proof.Gen.GateIdeal.Value
public import proofs.«01_k».proof.Proof.Norm
public import Idealize.ShloMosaic.Lib.Pipeline.ValueKit.Acc

@[expose] public section

set_option maxRecDepth 16384

noncomputable section

namespace Cert.GateIdeal.Block

open Idealize.ShloMosaic
open Idealize.ShloMosaic.TcCoe Idealize.ShloMosaic.Tactic Idealize.ShloMosaic.ValueIdx
open Idealize.SL Idealize.SL.Sem
open Cert.GateIdeal.Gen Cert.Norm

/-! ## One entry -/

/-- gelu as the body writes it. -/
def gelu (x : EReal) : EReal :=
  Ideal.ofBits .f32 0x3F000000#32 * x + Ideal.ofBits .f32 0x3F000000#32 * x
    * Ideal.tanh (x * (Ideal.ofBits .f32 0x3F4C422A#32 + Named.named (F := Ideal) κ "cubic" (φ := .f32) 0x3D122279#32 * (x * x)))

/-- A weight where it looks back, zero where it would look ahead. -/
def masked (w : EReal) (t k : Fin 128) : EReal :=
  Scalar.select (IntOp.cmpi .sge (BitVec.ofNat 32 t.val) (BitVec.ofNat 32 k.val)) w (Ideal.ofBits .f32 0x00000000#32)

/-- Row `t` of a chunk, column `d` of a group: `u` times the mix of the group's normed columns. -/
def mixed (u : EReal) (v : Fin 128 → Fin 128 → EReal) (g w : Fin 128 → EReal) (b : EReal) (t d : Fin 128) : EReal :=
  gelu u * ((∑ k : Fin 128, masked (w k) t k * normed 0x43000000#32 0x358637BD#32 (fun e => gelu (v k e)) g d) + b)

/-- The matrix product of a group. -/
theorem dot_apply (w x : FVec Ideal S128x128 .bf16) (r d : Fin 128) :
    matmul dot_S128x128_S128x128_S128x128_1_0_0_1_n_n none w x (constant S128x128 .f32 0x00000000#32) (ix2 r d)
      = ∑ k : Fin 128, w (ix2 r k) * x (ix2 k d) := by
  show FloatOps.matmul (DotDims.plain 128 128 128) none w x (constant S128x128 .f32 0x00000000#32) (ix2 r d) = _
  rw [Ideal.matmul_plain_apply]
  show (Ideal.ofBits .f32 0x00000000#32 : EReal) + _ = _
  rw [Ideal.ofBits_zero_f32, zero_add]

/-- gelu of a block. -/
def blockGelu (x : FVec Ideal S128x128 .f32) : FVec Ideal S128x128 .f32 := fun y => gelu (x y)

theorem group_apply (u v : FVec Ideal S128x128 .f32) (g : FVec Ideal S1x128 .f32) (w : FVec Ideal S128x128 .f32) (b : FVec Ideal S128x1 .f32) (r d : Fin 128) :
    k0_pay43 u v g w b (iota .tc S128x128 32 [0] iota_S128x128_d0_w32) (iota .tc S128x128 32 [1] iota_S128x128_d1_w32) k0_pay42 (ix2 r d)
      = mixed (u (ix2 r d)) (fun k e => v (ix2 k e)) (fun e => g (ix2 0 e)) (fun k => w (ix2 r k)) (b (ix2 r 0)) r d := by
  unfold k0_pay43 k0_pay42 mixed
  dsimp only
  refine congrArg₂ (fun a b : EReal => a * b) rfl (congrArg₂ (fun a b : EReal => a + b) ((dot_apply _ _ r d).trans (Finset.sum_congr rfl fun k _ => ?_)) (spread_col b _ r d))
  refine congrArg₂ (fun a b : EReal => a * b) ?_ ?_
  · show Scalar.select (IntOp.cmpi .sge (iota Kind.tc S128x128 32 [0] iota_S128x128_d0_w32 (ix2 r k)) (iota Kind.tc S128x128 32 [1] iota_S128x128_d1_w32 (ix2 r k)))
      (w (ix2 r k)) (Ideal.ofBits .f32 0x00000000#32) = _
    rw [iota_single_apply, iota_single_apply]
    rfl
  · exact block_apply 0x43000000#32 0x358637BD#32 (blockGelu v) g reduces_S128x128_S128 (.inl rfl) rfl shapeCasts_S128_S128x1 broadcasts_S128x1_S128x128 broadcasts_S1x128_S128x128 k d

/-- The second group is stored in the same form, its squares taken before. -/
theorem second_form (u v : FVec Ideal S128x128 .f32) (g : FVec Ideal S1x128 .f32) (w : FVec Ideal S128x128 .f32) (b : FVec Ideal S128x1 .f32)
    (p q : IVec S128x128 32) : k0_pay1 u g w b p q (k0_pay80 v) (k0_pay81 v) = k0_pay43 u v g w b p q k0_pay42 := by
  unfold k0_pay1 k0_pay43 k0_pay42 k0_pay81 k0_pay80
  rfl

/-! ## The block -/

/-- A column of a group among the block's. -/
def col (h : Fin 2) (d : Fin 128) : Fin 256 := ⟨128 * h.val + d.val, by omega⟩

/-- One entry of a group of the block. -/
def group (x4 x5 : FVec Ideal S128x256 .f32) (x8 : FVec Ideal S1x256 .f32) (x9 : FVec Ideal S2x128x128 .f32) (x10 : FVec Ideal S2x128x1 .f32)
    (h : Fin 2) (r d : Fin 128) : EReal :=
  mixed (x4 (ix2 r (col h d))) (fun k e => x5 (ix2 k (col h e))) (fun e => x8 (ix2 0 (col h e))) (fun k => x9 (ix3 h r k)) (x10 (ix3 h r 0)) r d

/-- The gating of a block. -/
def gated (x4 x5 : FVec Ideal S128x256 .f32) (x8 : FVec Ideal S1x256 .f32) (x9 : FVec Ideal S2x128x128 .f32) (x10 : FVec Ideal S2x128x1 .f32) :
    FVec Ideal S128x256 .f32 := fun y =>
  have h1 : (y 1).val < 256 := (y 1).isLt
  group x4 x5 x8 x9 x10 ⟨(y 1).val / 128, by omega⟩ (y 0) ⟨(y 1).val % 128, by omega⟩

theorem load_apply (x : Vec Ideal S128x256 .f32) (h : Fin 2) (o : ℕ) (ho : o = 128 * h.val)
    (inb : ∀ a, (![0, o] : Fin 2 → ℕ) a + S128x128.size a ≤ S128x256.size a) (r k : Fin 128) :
    View.ld x (Rect.unit (s := S128x256) ![0, o] S128x128.size inb) (ix2 r k) = x (ix2 r (col h k)) := by
  subst ho
  refine congrArg x (funext fun a => Fin.ext ?_)
  fin_cases a
  · show 0 + 1 * r.val = r.val
    omega
  · show 128 * h.val + 1 * k.val = 128 * h.val + k.val
    omega

theorem gain_apply (x : Vec Ideal S1x256 .f32) (h : Fin 2) (o : ℕ) (ho : o = 128 * h.val)
    (inb : ∀ a, (![0, o] : Fin 2 → ℕ) a + S1x128.size a ≤ S1x256.size a) (k : Fin 128) :
    k0_pay39 (View.ld x (Rect.unit (s := S1x256) ![0, o] S1x128.size inb)) (ix2 0 k) = x (ix2 0 (col h k)) := by
  subst ho
  unfold k0_pay39
  dsimp only
  rw [shapeCast_self]
  refine congrArg x (funext fun a => Fin.ext ?_)
  fin_cases a
  · rfl
  · show 128 * h.val + 1 * k.val = 128 * h.val + k.val
    omega

theorem weight_apply (x : Vec Ideal S2x128x128 .f32) (h : Fin 2) (p : ℕ) (hp : p = h.val)
    (inb : ∀ a, (![p, 0, 0] : Fin 3 → ℕ) a + S1x128x128.size a ≤ S2x128x128.size a) (r k : Fin 128) :
    k0_pay40 (View.ld x (Rect.unit (s := S2x128x128) ![p, 0, 0] S1x128x128.size inb)) (ix2 r k) = x (ix3 h r k) := by
  subst hp
  unfold k0_pay40
  dsimp only
  refine (shapeCast_apply _ _ _ (ix3 (0 : Fin 1) r k) (by
    rw [Shape.rowMajor_val_two, Shape.rowMajor_val_three]
    show (0 * 128 + r.val) * 128 + k.val = r.val * 128 + k.val
    omega)).trans ?_
  refine congrArg x (funext fun a => Fin.ext ?_)
  fin_cases a
  · show h.val + 1 * 0 = h.val
    omega
  · show 0 + 1 * r.val = r.val
    omega
  · show 0 + 1 * k.val = k.val
    omega

theorem bias_apply (x : Vec Ideal S2x128x1 .f32) (h : Fin 2) (p : ℕ) (hp : p = h.val)
    (inb : ∀ a, (![p, 0, 0] : Fin 3 → ℕ) a + S1x128x1.size a ≤ S2x128x1.size a) (r : Fin 128) :
    k0_pay41 (View.ld x (Rect.unit (s := S2x128x1) ![p, 0, 0] S1x128x1.size inb)) (ix2 r 0) = x (ix3 h r 0) := by
  subst hp
  unfold k0_pay41
  dsimp only
  refine (shapeCast_apply _ _ _ (ix3 (0 : Fin 1) r (0 : Fin 1)) (by
    rw [Shape.rowMajor_val_two, Shape.rowMajor_val_three]
    show (0 * 128 + r.val) * 1 + 0 = r.val * 1 + 0
    omega)).trans ?_
  refine congrArg x (funext fun a => Fin.ext ?_)
  fin_cases a
  · show h.val + 1 * 0 = h.val
    omega
  · show 0 + 1 * r.val = r.val
    omega
  · rfl

section

variable (x4 x5 : Vec Ideal S128x256 .f32) (x8 : Vec Ideal S1x256 .f32) (x9 : Vec Ideal S2x128x128 .f32) (x10 : Vec Ideal S2x128x1 .f32)

theorem piece (h : Fin 2) (o : ℕ) (ho : o = 128 * h.val) (p : ℕ) (hp : p = h.val)
    (inb : ∀ a, (![0, o] : Fin 2 → ℕ) a + S128x128.size a ≤ S128x256.size a)
    (inb8 : ∀ a, (![0, o] : Fin 2 → ℕ) a + S1x128.size a ≤ S1x256.size a)
    (inb9 : ∀ a, (![p, 0, 0] : Fin 3 → ℕ) a + S1x128x128.size a ≤ S2x128x128.size a)
    (inb10 : ∀ a, (![p, 0, 0] : Fin 3 → ℕ) a + S1x128x1.size a ≤ S2x128x1.size a)
    (y : (Rect.unit (s := S128x256) ![0, o] S128x128.size inb).shape.Idx) :
    k0_pay43 (View.ld x4 (Rect.unit (s := S128x256) ![0, o] S128x128.size inb)) (View.ld x5 (Rect.unit (s := S128x256) ![0, o] S128x128.size inb))
        (k0_pay39 (View.ld x8 (Rect.unit (s := S1x256) ![0, o] S1x128.size inb8)))
        (k0_pay40 (View.ld x9 (Rect.unit (s := S2x128x128) ![p, 0, 0] S1x128x128.size inb9)))
        (k0_pay41 (View.ld x10 (Rect.unit (s := S2x128x1) ![p, 0, 0] S1x128x1.size inb10)))
        (iota .tc S128x128 32 [0] iota_S128x128_d0_w32) (iota .tc S128x128 32 [1] iota_S128x128_d1_w32) k0_pay42 y
      = gated x4 x5 x8 x9 x10 ((Rect.unit (s := S128x256) ![0, o] S128x128.size inb).emb y) := by
  obtain ⟨r, k, rfl⟩ : ∃ (r : Fin 128) (k : Fin 128), y = ix2 r k := ⟨y 0, y 1, funext fun a => by fin_cases a <;> rfl⟩
  refine (group_apply _ _ _ _ _ r k).trans ?_
  have hk := k.isLt
  have e0 : (((Rect.unit (s := S128x256) ![0, o] S128x128.size inb).emb (ix2 r k)) 0 : Fin 128) = r :=
    Fin.ext (by show 0 + 1 * r.val = r.val; omega)
  have e1 : (((Rect.unit (s := S128x256) ![0, o] S128x128.size inb).emb (ix2 r k)) 1).val = 128 * h.val + k.val := by
    show o + 1 * k.val = _
    omega
  generalize (Rect.unit (s := S128x256) ![0, o] S128x128.size inb).emb (ix2 r k) = z at e0 e1
  have hz : gated x4 x5 x8 x9 x10 z = group x4 x5 x8 x9 x10 h r k := by
    have ha : ∀ q, (⟨(z 1).val / 128, q⟩ : Fin 2) = h := fun q => Fin.ext (by show (z 1).val / 128 = h.val; omega)
    have hb : ∀ q, (⟨(z 1).val % 128, q⟩ : Fin 128) = k := fun q => Fin.ext (by show (z 1).val % 128 = k.val; omega)
    unfold gated
    dsimp only
    rw [e0, ha, hb]
  rw [hz]
  unfold group
  rw [load_apply x4 h o ho inb r k, bias_apply x10 h p hp inb10 r]
  rw [show (fun k e => View.ld x5 (Rect.unit (s := S128x256) ![0, o] S128x128.size inb) (ix2 k e)) = fun k e => x5 (ix2 k (col h e)) from
    funext fun k => funext fun e => load_apply x5 h o ho inb k e]
  rw [show (fun e => k0_pay39 (View.ld x8 (Rect.unit (s := S1x256) ![0, o] S1x128.size inb8)) (ix2 0 e)) = fun e => x8 (ix2 0 (col h e)) from
    funext fun e => gain_apply x8 h o ho inb8 e]
  rw [show (fun k => k0_pay40 (View.ld x9 (Rect.unit (s := S2x128x128) ![p, 0, 0] S1x128x128.size inb9)) (ix2 r k)) = fun k => x9 (ix3 h r k) from
    funext fun k => weight_apply x9 h p hp inb9 r k]

theorem second_piece (y : (Rect.unit (s := S128x256) ![0, 128] S128x128.size inb_S128x256_S128x128_0_128).shape.Idx) :
    k0_pay1 (View.ld x4 (Rect.unit (s := S128x256) ![0, 128] S128x128.size inb_S128x256_S128x128_0_128))
        (k0_pay77 (View.ld x8 (Rect.unit (s := S1x256) ![0, 128] S1x128.size inb_S1x256_S1x128_0_128)))
        (k0_pay78 (View.ld x9 (Rect.unit (s := S2x128x128) ![1, 0, 0] S1x128x128.size inb_S2x128x128_S1x128x128_1_0_0)))
        (k0_pay79 (View.ld x10 (Rect.unit (s := S2x128x1) ![1, 0, 0] S1x128x1.size inb_S2x128x1_S1x128x1_1_0_0)))
        (iota .tc S128x128 32 [0] iota_S128x128_d0_w32) (iota .tc S128x128 32 [1] iota_S128x128_d1_w32)
        (k0_pay80 (View.ld x5 (Rect.unit (s := S128x256) ![0, 128] S128x128.size inb_S128x256_S128x128_0_128)))
        (k0_pay81 (View.ld x5 (Rect.unit (s := S128x256) ![0, 128] S128x128.size inb_S128x256_S128x128_0_128))) y
      = gated x4 x5 x8 x9 x10 ((Rect.unit (s := S128x256) ![0, 128] S128x128.size inb_S128x256_S128x128_0_128).emb y) := by
  refine (congrFun (second_form _ _ _ _ _ _ _) y).trans ?_
  exact piece x4 x5 x8 x9 x10 1 128 rfl 1 rfl inb_S128x256_S128x128_0_128 inb_S1x256_S1x128_0_128 inb_S2x128x128_S1x128x128_1_0_0 inb_S2x128x1_S1x128x1_1_0_0 y

end

variable (c : Dev nD) (i : grid0.Coords)
  (arg3 : Memref sig .tc .vmem S128x256 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S2x128x128 .f32) (harg12 : arg12.IsWhole)
  (arg13 : Memref sig .tc .vmem S2x128x1 .f32) (harg13 : arg13.IsWhole)
  (arg14 : Memref sig .tc .vmem S1024x128 .bf16) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S2x128x128 .f32) (harg17 : arg17.IsWhole)
  (x0 : Vec Ideal S128x256 .f32)
  (x1 : Vec Ideal S128x256 .f32)
  (x2 : Vec Ideal S128x256 .f32)
  (x3 : Vec Ideal S128x256 .f32)
  (x4 : Vec Ideal S128x256 .f32)
  (x5 : Vec Ideal S128x256 .f32)
  (x6 : Vec Ideal S1x256 .f32)
  (x7 : Vec Ideal S1x256 .f32)
  (x8 : Vec Ideal S1x256 .f32)
  (x9 : Vec Ideal S2x128x128 .f32)
  (x10 : Vec Ideal S2x128x1 .f32)
  (x11 : Vec Ideal S1024x128 .bf16)

theorem out13_A (hc0 : cond0_0 i) : out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = gated x4 x5 x8 x9 x10 := by
  frame_out
  funext y
  refine View.canon_apply_of_pieces (Val := Elt Ideal) (e := .f32) (gated x4 x5 x8 x9 x10) _ ?_ y (View.cover_of_tiledL (s := S128x256) _ S128x128.size (by sl_kernel_rfl) y)
  refine List.forall_mem_cons.mpr ⟨second_piece x4 x5 x8 x9 x10, ?_⟩
  refine List.forall_mem_cons.mpr ⟨piece x4 x5 x8 x9 x10 0 0 rfl 0 rfl inb_S128x256_S128x128_0_0 inb_S1x256_S1x128_0_0 inb_S2x128x128_S1x128x128_0_0_0 inb_S2x128x1_S1x128x1_0_0_0, ?_⟩
  exact fun p hp => absurd hp List.not_mem_nil

theorem out13_B (hc0 : ¬cond0_0 i) (xs0 : Vec Ideal S2x128x128 .f32) : out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = gated x4 x5 x8 x9 x10 := by
  frame_out
  funext y
  refine View.canon_apply_of_pieces (Val := Elt Ideal) (e := .f32) (gated x4 x5 x8 x9 x10) _ ?_ y (View.cover_of_tiledL (s := S128x256) _ S128x128.size (by sl_kernel_rfl) y)
  refine List.forall_mem_cons.mpr ⟨second_piece x4 x5 x8 x9 x10, ?_⟩
  refine List.forall_mem_cons.mpr ⟨piece x4 x5 x8 x9 x10 0 0 rfl 0 rfl inb_S128x256_S128x128_0_0 inb_S1x256_S1x128_0_0 inb_S2x128x128_S1x128x128_0_0_0 inb_S2x128x1_S1x128x1_0_0_0, ?_⟩
  exact fun p hp => absurd hp List.not_mem_nil

end Cert.GateIdeal.Block

end
-- ==== Proof.GateRows.lean ====
/-
  THE SPATIAL GATING AS AN ARRAY.
-/
module

public import proofs.«01_k».proof.Proof.Gen.GateIdeal.Value
public import proofs.«01_k».proof.Proof.GateBlock
public import proofs.«01_k».proof.Proof.Attention
public import Idealize.ShloMosaic.Lib.Pipeline.ValueKit
public import Idealize.ShloMosaic.Lib.Pipeline.ValueKit.Tiles
public import Idealize.ShloMosaic.Lib.StableHlo.RunClose
public import Idealize.ShloMosaic.Lib.KernelVsHost

@[expose] public section

set_option maxRecDepth 16384

noncomputable section

namespace Cert.GateIdeal.Rows

open Cert.GateIdeal Cert.GateIdeal.Gen Cert.Norm Cert.Attention
open Cert.GateIdeal.Block (mixed gated group col)
open Idealize.ShloMosaic hiding ix1 ix2 ix3
open Idealize.ShloMosaic.TcCoe Idealize.ShloMosaic.Tactic Idealize.SL.Sem Idealize.ShloMosaic.ValueIdx
open Idealize.ShloMosaic.Pipeline (Dat Cfg Window)

/-! ## The result -/

section

variable (z : Mat 16384 3072) (g : FVec Ideal S512 .f32) (w : FVec Ideal S4x128x128 .f32) (b : Mat 4 128)

/-- Position `t` of chunk `n` among all rows. -/
def rowOf (n t : Fin 128) : Fin 16384 := ⟨128 * n.val + t.val, by omega⟩

/-- Position `t` of chunk `n`, column `d` of group `h`. -/
def gateEntry (n t : Fin 128) (h : Fin 4) (d : Fin 128) : EReal :=
  mixed (z (ix2 (rowOf n t) ⟨2048 + (128 * h.val + d.val), by omega⟩)) (fun k e => z (ix2 (rowOf n k) ⟨2560 + (128 * h.val + e.val), by omega⟩))
    (fun e => g (ix1 ⟨128 * h.val + e.val, by omega⟩)) (fun k => w (ix3 h t k)) (b (ix2 h t)) t d

/-- The gating. -/
def outG : Mat 16384 512 := fun y =>
  have h0 : (y 0).val < 16384 := (y 0).isLt
  have h1 : (y 1).val < 512 := (y 1).isLt
  gateEntry z g w b ⟨(y 0).val / 128, by omega⟩ ⟨(y 0).val % 128, by omega⟩ ⟨(y 1).val / 128, by omega⟩ ⟨(y 1).val % 128, by omega⟩

end

/-! ## The blocks a grid point reads -/

variable (m : (ℓ : Loc nD τ sig) → Buf (Elt Ideal) ℓ) (c : Dev nD)

abbrev Z : Mat 16384 3072 := m ((c.tc : Thread nD τ).loc main_arg0)
abbrev G : FVec Ideal S512 .f32 := m ((c.tc : Thread nD τ).loc main_arg3)
abbrev W : FVec Ideal S4x128x128 .f32 := m ((c.tc : Thread nD τ).loc main_arg4)
abbrev B : Mat 4 128 := m ((c.tc : Thread nD τ).loc main_arg5)

/-- A matrix turned into columns. -/
theorem to_cols (x : S4x128.Idx → EReal) (hx : S4x128.ShapeCasts S4x128x1) (h : Fin 4) (t : Fin 128) :
    shapeCast S4x128x1 x hx (ix3 h t 0) = x (ix2 h t) := by
  apply shapeCast_apply
  rw [Shape.rowMajor_val_two, Shape.rowMajor_val_three]
  show h.val * 128 + t.val = (h.val * 128 + t.val) * 1 + 0
  omega

theorem gain_apply (k : Fin 512) : V m c main_v2 (ix2 0 k) = G m c (ix1 k) := by
  unfold_abbrev_sides
  simp only [hostOps0, List.flatten_cons, List.flatten_nil, List.append_nil, List.cons_append, List.nil_append]
  after_results
  exact to_row _ _ k

theorem bias_apply (h : Fin 4) (t : Fin 128) : V m c main_v3 (ix3 h t 0) = B m c (ix2 h t) := by
  unfold_abbrev_sides
  simp only [hostOps0, List.flatten_cons, List.flatten_nil, List.append_nil, List.cons_append, List.nil_append]
  after_results
  exact to_cols _ _ h t

theorem idx_in : ∀ t : Fin cfg0.N,
    win0_4.index t = ![(grid0.coords t 0).val * 64 + (grid0.coords t 2).val, 8 + (grid0.coords t 1).val]
    ∧ win0_5.index t = ![(grid0.coords t 0).val * 64 + (grid0.coords t 2).val, 10 + (grid0.coords t 1).val]
    ∧ win0_8.index t = ![0, (grid0.coords t 1).val] ∧ win0_9.index t = ![(grid0.coords t 1).val, 0, 0] ∧ win0_10.index t = ![(grid0.coords t 1).val, 0, 0] :=
  (by decide +kernel : ∀ t : Fin grid0.N,
    win0_4.index t = ![(grid0.coords t 0).val * 64 + (grid0.coords t 2).val, 8 + (grid0.coords t 1).val]
    ∧ win0_5.index t = ![(grid0.coords t 0).val * 64 + (grid0.coords t 2).val, 10 + (grid0.coords t 1).val]
    ∧ win0_8.index t = ![0, (grid0.coords t 1).val] ∧ win0_9.index t = ![(grid0.coords t 1).val, 0, 0] ∧ win0_10.index t = ![(grid0.coords t 1).val, 0, 0])

theorem idx_out : ∀ t : Fin cfg0.N,
    win0_13.index t = ![(grid0.coords t 0).val * 64 + (grid0.coords t 2).val, (grid0.coords t 1).val] :=
  (by decide +kernel : ∀ t : Fin grid0.N,
    win0_13.index t = ![(grid0.coords t 0).val * 64 + (grid0.coords t 2).val, (grid0.coords t 1).val])

/-- The half of the groups a grid point takes. -/
def half (t : Fin cfg0.N) : Fin 2 := ⟨(grid0.coords t 1).val, (grid0.coords t 1).isLt⟩

/-- The chunk a grid point takes. -/
def chunk (t : Fin cfg0.N) : Fin 128 :=
  ⟨(grid0.coords t 0).val * 64 + (grid0.coords t 2).val, by
    have h0 : (grid0.coords t 0).val < 2 := (grid0.coords t 0).isLt
    have h2 : (grid0.coords t 2).val < 64 := (grid0.coords t 2).isLt
    omega⟩

section

variable (t : Fin cfg0.N)

theorem blk4 (r : Fin 128) (k : Fin 256) : iblk m c 4 t (ix2 r k) = Z m c (ix2 (rowOf (chunk t) r) ⟨2048 + (256 * (half t).val + k.val), by omega⟩) := by
  obtain ⟨e4, e5, e8, e9, e10⟩ := idx_in t
  unfold rowOf chunk half
  blk_ext [iblk, V, e4]
  · show ((grid0.coords t 0).val * 64 + (grid0.coords t 2).val) * 128 + r.val = 128 * ((grid0.coords t 0).val * 64 + (grid0.coords t 2).val) + r.val
    omega
  · show (8 + (grid0.coords t 1).val) * 256 + k.val = 2048 + (256 * (grid0.coords t 1).val + k.val)
    omega

theorem blk5 (r : Fin 128) (k : Fin 256) : iblk m c 5 t (ix2 r k) = Z m c (ix2 (rowOf (chunk t) r) ⟨2560 + (256 * (half t).val + k.val), by omega⟩) := by
  obtain ⟨e4, e5, e8, e9, e10⟩ := idx_in t
  unfold rowOf chunk half
  blk_ext [iblk, V, e5]
  · show ((grid0.coords t 0).val * 64 + (grid0.coords t 2).val) * 128 + r.val = 128 * ((grid0.coords t 0).val * 64 + (grid0.coords t 2).val) + r.val
    omega
  · show (10 + (grid0.coords t 1).val) * 256 + k.val = 2560 + (256 * (grid0.coords t 1).val + k.val)
    omega

theorem blk8 (k : Fin 256) : iblk m c 8 t (ix2 0 k) = V m c main_v2 (ix2 0 ⟨256 * (half t).val + k.val, by omega⟩) := by
  obtain ⟨e4, e5, e8, e9, e10⟩ := idx_in t
  unfold half
  blk_ext [iblk, e8]
  show (grid0.coords t 1).val * 256 + k.val = 256 * (grid0.coords t 1).val + k.val
  omega

theorem blk9 (h : Fin 2) (r k : Fin 128) : iblk m c 9 t (ix3 h r k) = W m c (ix3 ⟨2 * (half t).val + h.val, by omega⟩ r k) := by
  obtain ⟨e4, e5, e8, e9, e10⟩ := idx_in t
  unfold half
  blk_ext [iblk, V, e9]
  show (grid0.coords t 1).val * 2 + h.val = 2 * (grid0.coords t 1).val + h.val
  omega

theorem blk10 (h : Fin 2) (r : Fin 128) : iblk m c 10 t (ix3 h r 0) = V m c main_v3 (ix3 ⟨2 * (half t).val + h.val, by omega⟩ r 0) := by
  obtain ⟨e4, e5, e8, e9, e10⟩ := idx_in t
  unfold half
  blk_ext [iblk, e10]
  show (grid0.coords t 1).val * 2 + h.val = 2 * (grid0.coords t 1).val + h.val
  omega

/-! ## What a grid point computes -/

theorem group_entry (h : Fin 2) (r d : Fin 128) :
    group (iblk m c 4 t) (iblk m c 5 t) (iblk m c 8 t) (iblk m c 9 t) (iblk m c 10 t) h r d
      = gateEntry (Z m c) (G m c) (W m c) (B m c) (chunk t) r ⟨2 * (half t).val + h.val, by omega⟩ d := by
  have hc : ∀ e : Fin 128, 256 * (half t).val + (128 * h.val + e.val) = 128 * (2 * (half t).val + h.val) + e.val := fun e => by omega
  unfold group gateEntry
  congr 1
  · refine (blk4 m c t r (col h d)).trans (congrArg (fun i => Z m c (ix2 _ i)) (Fin.ext ?_))
    exact congrArg (2048 + ·) (hc d)
  · funext k e
    refine (blk5 m c t k (col h e)).trans (congrArg (fun i => Z m c (ix2 _ i)) (Fin.ext ?_))
    exact congrArg (2560 + ·) (hc e)
  · funext e
    refine ((blk8 m c t (col h e)).trans (gain_apply m c _)).trans (congrArg (fun i => G m c (ix1 i)) (Fin.ext ?_))
    exact hc e
  · funext k
    exact blk9 m c t h r k
  · exact (blk10 m c t h r).trans (bias_apply m c _ _)

theorem outs_g : (outsAt0 m c t.val t.isLt).2.1 = gated (iblk m c 4 t) (iblk m c 5 t) (iblk m c 8 t) (iblk m c 9 t) (iblk m c 10 t) := by
  by_cases h0 : t.val % 64 = 0
  · rw [outsAt0_A m c t h0]
    dsimp only
    apply Block.out13_A
  · rw [outsAt0_B m c t h0]
    dsimp only
    apply Block.out13_B

end

/-! ## The array -/

theorem arr_g : (dats m 0 c).arrAt 13 cfg0.N = outG (Z m c) (G m c) (W m c) (B m c) := by
  refine (dats m 0 c).arrAt_eq_of_covers 13 _ (by decide +kernel) fun t hf y => ?_
  blk_simp
  rw [after0_13]
  have e13 := idx_out t
  have y0 : (y 0).val < 128 := (y 0).isLt
  have y1 : (y 1).val < 256 := (y 1).isLt
  have hy : (win0_13.blk t).view.emb y = ix2 (rowOf (chunk t) (⟨(y 0).val, y0⟩ : Fin 128)) (⟨256 * (half t).val + (y 1).val, by omega⟩ : Fin 512) := by
    unfold rowOf chunk half
    blk_ext [e13]
  rw [hy]
  refine (congrFun (outs_g m c t) y).trans ?_
  unfold gated
  refine (group_entry m c t _ _ _).trans ?_
  unfold outG
  have hr : ∀ n k : Fin 128, (128 * n.val + k.val) / 128 = n.val ∧ (128 * n.val + k.val) % 128 = k.val := fun n k => by omega
  dsimp only
  congr 1
  · exact Fin.ext (hr (chunk t) ⟨(y 0).val, y0⟩).1.symm
  · exact Fin.ext (hr (chunk t) ⟨(y 0).val, y0⟩).2.symm
  · refine Fin.ext ?_
    show 2 * (half t).val + (y 1).val / 128 = (256 * (half t).val + (y 1).val) / 128
    omega
  · refine Fin.ext ?_
    show (y 1).val % 128 = (256 * (half t).val + (y 1).val) % 128
    omega

end Cert.GateIdeal.Rows

end
-- ==== Proof.GateRef.lean ====
/-
  THE REFERENCE OF THE SPATIAL GATING, entry by entry.
-/
module

public import proofs.«01_k».proof.Proof.Gen.GateRefIdeal.Read
public import proofs.«01_k».proof.Proof.GateRows

@[expose] public section

set_option maxRecDepth 16384

noncomputable section

namespace Cert.GateRefIdeal.Rows

open Cert.GateRefIdeal Cert.GateRefIdeal.Gen Cert.GateRefIdeal.Read Cert.Norm Cert.Attention Cert.GateIdeal.Rows
open Cert.GateIdeal.Block (gelu masked mixed)
open Idealize.ShloMosaic hiding ix1 ix2 ix3 ix4
open Idealize.ShloMosaic.ValueIdx

/-! ## gelu -/

/-- gelu as the reference writes it. -/
def plainGelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

theorem half_word : Ideal.ofBits .f32 0x3F000000#32 = ((1 / 2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem slope_word : Ideal.ofBits .f32 0x3F4C422A#32 = ((13386282 / 16777216 : ℝ) : EReal) := by
  simp [Ideal.ofBits, Ideal.ieee, -EReal.coe_mul]; norm_num

theorem cube_word : Ideal.ofBits .f32 0x3D372713#32 = ((12003091 / 268435456 : ℝ) : EReal) := by
  simp [Ideal.ofBits, Ideal.ieee, -EReal.coe_mul]; norm_num

theorem tanh_real (r : ℝ) : Ideal.tanh (r : EReal) = ((Real.tanh r : ℝ) : EReal) := rfl

theorem named_word : Named.named (F := Ideal) Cert.GateIdeal.κ "cubic" (φ := .f32) 0x3D122279#32 = ((80338380498831 / 2251799813685248 : ℝ) : EReal) := rfl

/-- The two forms of gelu agree off -∞. -/
theorem gelu_eq {x : EReal} (hx : x ≠ ⊥) : gelu x = plainGelu x := by
  unfold gelu plainGelu
  rw [half_word, one_word, slope_word, cube_word, named_word]
  induction x using EReal.rec with
  | bot => exact absurd rfl hx
  | top =>
    have t1 : Ideal.tanh ⊤ = ((1 : ℝ) : EReal) := rfl
    rw [EReal.top_mul_top, EReal.top_mul_top, EReal.coe_mul_top_of_pos (by norm_num), EReal.coe_mul_top_of_pos (by norm_num), EReal.coe_mul_top_of_pos (by norm_num),
      EReal.coe_add_top, EReal.top_add_top, EReal.top_mul_top, EReal.coe_mul_top_of_pos (by norm_num), t1, EReal.top_mul_coe_of_pos (by norm_num), EReal.top_add_top,
      ← EReal.coe_add, ← EReal.coe_mul, EReal.top_mul_coe_of_pos (by norm_num)]
  | coe r =>
    simp only [← EReal.coe_mul, ← EReal.coe_add, tanh_real]
    refine congrArg (fun s : ℝ => (s : EReal)) ?_
    rw [show (13386282 / 16777216 : ℝ) * (r + 12003091 / 268435456 * (r * r * r)) = r * (13386282 / 16777216 + 80338380498831 / 2251799813685248 * (r * r)) by ring]
    ring

/-! ## The entries -/

variable (z : Mat 16384 3072) (g : FVec Ideal S512 .f32) (w : FVec Ideal S4x128x128 .f32) (b : Mat 4 128)

/-- A norm's factor from its squares. -/
theorem scale_of (n eps : BitVec 32) {K : ℕ} (f s : Fin K → EReal) (hs : ∀ k, s k = f k * f k) :
    Ideal.rsqrt (Ideal.div (Ideal.ofBits .f32 0x00000000#32 + ∑ k, s k) (Ideal.ofBits .f32 n) + Ideal.ofBits .f32 eps) = scale n eps f := by
  rw [Ideal.ofBits_zero_f32, zero_add, scale, Finset.sum_congr rfl fun k _ => hs k]

/-- An index of five coordinates. -/
def at5 (a : Fin 2) (n : Fin 64) (t : Fin 128) (h : Fin 4) (d : Fin 128) : S2x64x128x4x128.Idx := fun i => match i with
  | ⟨0, _⟩ => a
  | ⟨1, _⟩ => n
  | ⟨2, _⟩ => t
  | ⟨3, _⟩ => h
  | ⟨4, _⟩ => d

theorem u_entry (a : Fin 2) (s : Fin 8192) (k : Fin 512) : val_main_v1 (F := Ideal) z (ix3 a s k) = z (ix2 (row a s) ⟨2048 + k.val, by omega⟩) := by
  rw [val_main_v1_apply, val_main_v0_apply]
  refine congrArg z (funext fun i => Fin.ext ?_)
  fin_cases i
  · show ((a.val * 8192 + s.val) * 3072 + (2048 + k.val)) / 3072 = 8192 * a.val + s.val
    omega
  · show ((a.val * 8192 + s.val) * 3072 + (2048 + k.val)) % 3072 = 2048 + k.val
    omega

theorem v_entry (a : Fin 2) (s : Fin 8192) (k : Fin 512) : val_main_v2 (F := Ideal) z (ix3 a s k) = z (ix2 (row a s) ⟨2560 + k.val, by omega⟩) := by
  rw [val_main_v2_apply, val_main_v0_apply]
  refine congrArg z (funext fun i => Fin.ext ?_)
  fin_cases i
  · show ((a.val * 8192 + s.val) * 3072 + (2560 + k.val)) / 3072 = 8192 * a.val + s.val
    omega
  · show ((a.val * 8192 + s.val) * 3072 + (2560 + k.val)) % 3072 = 2560 + k.val
    omega

theorem gelu_u (a : Fin 2) (s : Fin 8192) (k : Fin 512) : val_main_v15 (F := Ideal) z (ix3 a s k) = plainGelu (z (ix2 (row a s) ⟨2048 + k.val, by omega⟩)) := by
  rw [val_main_v15_apply, val_main_v14_apply, val_main_v13_apply, val_main_cst_2_apply, val_main_v12_apply, val_main_v11_apply, val_main_cst_1_apply, val_main_v10_apply,
    val_main_v9_apply, val_main_v8_apply, val_main_cst_0_apply, val_main_v7_apply, val_main_v6_apply, val_main_v5_apply, val_main_cst_apply, val_main_v4_apply, val_main_v3_apply,
    u_entry]
  rfl

theorem gelu_v (a : Fin 2) (s : Fin 8192) (k : Fin 512) : val_main_v28 (F := Ideal) z (ix3 a s k) = plainGelu (z (ix2 (row a s) ⟨2560 + k.val, by omega⟩)) := by
  rw [val_main_v28_apply, val_main_v27_apply, val_main_v26_apply, val_main_cst_6_apply, val_main_v25_apply, val_main_v24_apply, val_main_cst_5_apply, val_main_v23_apply,
    val_main_v22_apply, val_main_v21_apply, val_main_cst_4_apply, val_main_v20_apply, val_main_v19_apply, val_main_v18_apply, val_main_cst_3_apply, val_main_v17_apply, val_main_v16_apply,
    v_entry]
  rfl

theorem head_v (a : Fin 2) (s : Fin 8192) (h : Fin 4) (e : Fin 128) :
    val_main_v29 (F := Ideal) z (ix4 a s h e) = plainGelu (z (ix2 (row a s) ⟨2560 + (128 * h.val + e.val), by omega⟩)) := by
  rw [val_main_v29_apply]
  refine Eq.trans (congrArg _ (funext fun i => Fin.ext ?_)) (gelu_v z a s ⟨128 * h.val + e.val, by omega⟩)
  fin_cases i
  · show (((a.val * 8192 + s.val) * 4 + h.val) * 128 + e.val) / 4194304 = a.val
    omega
  · show (((a.val * 8192 + s.val) * 4 + h.val) * 128 + e.val) / 512 % 8192 = s.val
    omega
  · show (((a.val * 8192 + s.val) * 4 + h.val) * 128 + e.val) % 512 = 128 * h.val + e.val
    omega

theorem scale_v (a : Fin 2) (s : Fin 8192) (h : Fin 4) : val_main_v38 (F := Ideal) z (ix4 a s h (0 : Fin 1))
    = scale 0x43000000#32 0x358637BD#32 fun e : Fin 128 => plainGelu (z (ix2 (row a s) ⟨2560 + (128 * h.val + e.val), by omega⟩)) := by
  rw [val_main_v38_apply, val_main_v37_apply, val_main_v36_apply, val_main_cst_9_apply, val_main_v35_apply, val_main_v34_apply, val_main_cst_8_apply, val_main_v33_apply,
    val_main_v32_apply, val_main_cst_7_apply]
  refine scale_of _ _ _ _ fun k => ?_
  rw [val_main_v31_apply]
  exact congrArg (fun a : EReal => a * a) ((congrArg _ (ValueIdx.eq_ix4 _)).trans (head_v z a s h k))

theorem normed_v (a : Fin 2) (s : Fin 8192) (h : Fin 4) (d : Fin 128) : val_main_v43 (F := Ideal) z g (ix4 a s h d)
    = normed 0x43000000#32 0x358637BD#32 (fun e : Fin 128 => plainGelu (z (ix2 (row a s) ⟨2560 + (128 * h.val + e.val), by omega⟩)))
      (fun e => g (ix1 ⟨128 * h.val + e.val, by omega⟩)) d := by
  rw [val_main_v43_apply, val_main_v40_apply, val_main_v39_apply, val_main_v42_apply, val_main_v41_apply, val_main_v30_apply]
  refine congrArg₂ (fun a b : EReal => a * b) (congrArg₂ (fun a b : EReal => a * b) (head_v z a s h d) ?_) (congrArg g (funext fun i => Fin.ext ?_))
  · exact (congrArg _ (ValueIdx.eq_ix4 _)).trans (scale_v z a s h)
  · fin_cases i
    show h.val * 128 + d.val = 128 * h.val + d.val
    omega

/-- The weights with the upper triangle struck out. -/
theorem masked_w (h : Fin 4) (t k : Fin 128) : val_main_v48 (F := Ideal) w (ix3 h t k) = masked (w (ix3 h t k)) t k := by
  rw [val_main_v48_apply, val_main_v47_apply, val_main_v46_apply, val_main_v45_apply, val_main_call0_v4_apply, val_main_call0_v2_apply, val_main_call0_v0_apply,
    val_main_call0_v1_apply, val_main_call0_c_apply, val_main_call0_v3_apply, val_main_v44_apply, val_main_cst_10_apply, val_main_call0_v5_apply, val_main_call0_cst_apply]
  unfold masked
  show w (ix3 h t k) * Scalar.select (IntOp.cmpi .sge (BitVec.ofNat 32 t.val + 0#32) (BitVec.ofNat 32 k.val)) (Ideal.ofBits .f32 0x3F800000#32) (Ideal.ofBits .f32 0x00000000#32) = _
  rw [BitVec.add_zero, one_word, EReal.coe_one, Ideal.ofBits_zero_f32]
  generalize IntOp.cmpi .sge (BitVec.ofNat 32 t.val) (BitVec.ofNat 32 k.val) = c
  unfold Scalar.select
  split
  · exact mul_one _
  · exact mul_zero _

theorem chunk_v (a : Fin 2) (n : Fin 64) (t : Fin 128) (h : Fin 4) (d : Fin 128) :
    val_main_v49 (F := Ideal) z g (at5 a n t h d) = val_main_v43 (F := Ideal) z g (ix4 a ⟨128 * n.val + t.val, by omega⟩ h d) := by
  rw [val_main_v49_apply]
  refine congrArg _ (funext fun i => Fin.ext ?_)
  fin_cases i
  · show ((((a.val * 64 + n.val) * 128 + t.val) * 4 + h.val) * 128 + d.val) / 4194304 = a.val
    omega
  · show ((((a.val * 64 + n.val) * 128 + t.val) * 4 + h.val) * 128 + d.val) / 512 % 8192 = 128 * n.val + t.val
    omega
  · show ((((a.val * 64 + n.val) * 128 + t.val) * 4 + h.val) * 128 + d.val) / 128 % 4 = h.val
    omega
  · show ((((a.val * 64 + n.val) * 128 + t.val) * 4 + h.val) * 128 + d.val) % 128 = d.val
    omega

/-- The mix of a chunk. -/
theorem mix_entry (a : Fin 2) (n : Fin 64) (t : Fin 128) (h : Fin 4) (d : Fin 128) : val_main_v56 (F := Ideal) z g w b (at5 a n t h d)
    = (∑ k : Fin 128, masked (w (ix3 h t k)) t k * val_main_v43 (F := Ideal) z g (ix4 a ⟨128 * n.val + k.val, by omega⟩ h d)) + b (ix2 h t) := by
  rw [val_main_v56_apply, val_main_v51_apply, val_main_v50_apply, val_main_v55_apply, val_main_v54_apply, val_main_v53_apply, val_main_v52_apply]
  refine congrArg₂ (fun a b : EReal => a + b) (Finset.sum_congr rfl fun k _ => ?_) (congrArg b (ValueIdx.eq_ix2 _))
  refine (mul_comm _ _).trans (congrArg₂ (fun a b : EReal => a * b) ?_ ?_)
  · exact (congrArg _ (ValueIdx.eq_ix3 _)).trans (masked_w w h t k)
  · refine Eq.trans (congrArg _ (funext fun i => ?_)) (chunk_v z g a n k h d)
    fin_cases i <;> rfl

theorem idx_chunk (a : Fin 2) (n : Fin 64) (t : Fin 128) (h : Fin 4) (d : Fin 128) :
    idx_main_v57 (ix3 a (⟨128 * n.val + t.val, by omega⟩ : Fin 8192) (⟨128 * h.val + d.val, by omega⟩ : Fin 512)) = at5 a n t h d := by
  refine funext fun i => Fin.ext ?_
  fin_cases i
  · show ((a.val * 8192 + (128 * n.val + t.val)) * 512 + (128 * h.val + d.val)) / 4194304 = a.val
    omega
  · show ((a.val * 8192 + (128 * n.val + t.val)) * 512 + (128 * h.val + d.val)) / 65536 % 64 = n.val
    omega
  · show ((a.val * 8192 + (128 * n.val + t.val)) * 512 + (128 * h.val + d.val)) / 512 % 128 = t.val
    omega
  · show ((a.val * 8192 + (128 * n.val + t.val)) * 512 + (128 * h.val + d.val)) / 128 % 4 = h.val
    omega
  · show ((a.val * 8192 + (128 * n.val + t.val)) * 512 + (128 * h.val + d.val)) % 128 = d.val
    omega

/-- An entry of the result. -/
theorem entry (hz : ∀ (r : Fin 16384) (k : Fin 1024), z (ix2 r ⟨2048 + k.val, by omega⟩) ≠ ⊥) (a : Fin 2) (n : Fin 64) (t : Fin 128) (h : Fin 4) (d : Fin 128) :
    val_main_v58 (F := Ideal) z g w b (ix3 a ⟨128 * n.val + t.val, by omega⟩ ⟨128 * h.val + d.val, by omega⟩)
      = gateEntry z g w b ⟨64 * a.val + n.val, by omega⟩ t h d := by
  have hr : ∀ s : Fin 128, row a ⟨128 * n.val + s.val, by omega⟩ = rowOf ⟨64 * a.val + n.val, by omega⟩ s := fun s =>
    Fin.ext (by show 8192 * a.val + (128 * n.val + s.val) = 128 * (64 * a.val + n.val) + s.val; omega)
  have hv : ∀ (s : Fin 16384) (e : Fin 128), plainGelu (z (ix2 s ⟨2560 + (128 * h.val + e.val), by omega⟩)) = gelu (z (ix2 s ⟨2560 + (128 * h.val + e.val), by omega⟩)) := fun s e => by
    refine (gelu_eq fun hb => hz s ⟨512 + (128 * h.val + e.val), by omega⟩ ?_).symm
    rw [← hb]
    refine congrArg (fun i => z (ix2 s i)) (Fin.ext ?_)
    show 2048 + (512 + (128 * h.val + e.val)) = 2560 + (128 * h.val + e.val)
    omega
  unfold gateEntry mixed
  rw [val_main_v58_apply, val_main_v57_apply, idx_chunk, gelu_u, mix_entry, hr t]
  refine congrArg₂ (fun a b : EReal => a * b) (gelu_eq (hz _ ⟨128 * h.val + d.val, by omega⟩)).symm
    (congrArg (fun x : EReal => x + b (ix2 h t)) (Finset.sum_congr rfl fun k _ => congrArg (fun x : EReal => masked (w (ix3 h t k)) t k * x) ?_))
  rw [normed_v, hr k]
  exact congrArg (fun f => normed 0x43000000#32 0x358637BD#32 f _ d) (funext fun e => hv _ e)

/-! ## The result -/

theorem idx_rows (y : S16384x512.Idx) (h0 : (y 0).val < 16384) (h1 : (y 1).val < 512) :
    idx_main_v59 y = ix3 (⟨(y 0).val / 8192, by omega⟩ : Fin 2) (⟨128 * ((y 0).val / 128 % 64) + (y 0).val % 128, by omega⟩ : Fin 8192)
      (⟨128 * ((y 1).val / 128) + (y 1).val % 128, by omega⟩ : Fin 512) := by
  refine funext fun i => Fin.ext ?_
  fin_cases i
  · show ((y 0).val * 512 + (y 1).val) / 4194304 = (y 0).val / 8192
    omega
  · show ((y 0).val * 512 + (y 1).val) / 512 % 8192 = 128 * ((y 0).val / 128 % 64) + (y 0).val % 128
    omega
  · show ((y 0).val * 512 + (y 1).val) % 512 = 128 * ((y 1).val / 128) + (y 1).val % 128
    omega

theorem res (hz : ∀ (r : Fin 16384) (k : Fin 1024), z (ix2 r ⟨2048 + k.val, by omega⟩) ≠ ⊥) : val_main_v59 (F := Ideal) z g w b = outG z g w b := by
  funext y
  have h0 : (y 0).val < 16384 := (y 0).isLt
  have h1 : (y 1).val < 512 := (y 1).isLt
  rw [val_main_v59_apply, idx_rows y h0 h1]
  refine (entry z g w b hz ⟨(y 0).val / 8192, by omega⟩ ⟨(y 0).val / 128 % 64, by omega⟩ ⟨(y 0).val % 128, by omega⟩ ⟨(y 1).val / 128, by omega⟩
    ⟨(y 1).val % 128, by omega⟩).trans ?_
  unfold outG
  refine congrArg (fun n => gateEntry z g w b n _ _ _) (Fin.ext ?_)
  show 64 * ((y 0).val / 8192) + (y 0).val / 128 % 64 = (y 0).val / 128
  omega

end Cert.GateRefIdeal.Rows

end
-- ==== Proof.GatePre.lean ====
/-
  WHAT THE PRECONDITION `above` SAYS of the columns that the gating reads.
-/
module

public import proofs.«01_k».proof.Pre_above
public import proofs.«01_k».proof.Proof.GateRows

@[expose] public section

noncomputable section

namespace Cert.GateIdeal.Pre

open Cert.Pre_above Cert.Attention
open Idealize.ShloMosaic hiding ix1 ix2 ix3
open Idealize.ShloMosaic.ValueIdx

instance facts : Cert.Pre_above.Facts where
  slices_S16384x3072_S16384x1024_0_2048 := by decide
  bcast_S_S16384x1024 := by decide

theorem neg_inf : (Ideal.ofBits .f32 0xFF800000#32 : EReal) = ⊥ := by
  simp [Ideal.ofBits, Ideal.ieee]

theorem above_rows (z : Mat 16384 3072) (p q g : FVec Ideal S512 .f32) (w : FVec Ideal S4x128x128 .f32) (b : Mat 4 128)
    (h : Cert.Pre_above.fn (F := Ideal) z p q g w b = fun _ => 1#1) (r : Fin 16384) (k : Fin 1024) : z (ix2 r ⟨2048 + k.val, by omega⟩) ≠ ⊥ := by
  have hy : BitVec.ofBool (decide (Ideal.ofBits .f32 0xFF800000#32 < extractStridedSlice S16384x1024 ![0, 2048] z Facts.slices_S16384x3072_S16384x1024_0_2048 (ix2 r k))) = 1#1 :=
    congrFun h (ix2 r k)
  rw [neg_inf, extractStridedSlice_apply _ _ _ _ (ix2 r (⟨2048 + k.val, by omega⟩ : Fin 3072)) fun a => by
    fin_cases a
    · exact (Nat.zero_add _).symm
    · rfl] at hy
  intro hb
  rw [hb, decide_eq_false (lt_irrefl _)] at hy
  exact absurd hy (by decide)

end Cert.GateIdeal.Pre

end
-- ==== Proof.lean ====
/-
  The proof of `Cert.Claim`: the frames are the generated ones, but for the routing's (Proof/RouteRun.lean,
  Proof/RouteFrame.lean); the mask's constant names -∞; and the kernel's array (Proof/AttnArray.lean) and the reference's
  (Proof/AttnRef.lean) are one function of the arguments when the queries and the keys are finite. The claims of the
  projections (Proof/Project.lean, Proof/Latent.lean, Proof/OutRows.lean) and of the routing (Proof/RouteRows.lean,
  Proof/RouteRef.lean) need no precondition. The preparation's (Proof/PrepRows.lean, Proof/PrepRef.lean) reads its own
  (Proof/PrepPre.lean): the rows' last columns hold the rotary key again, as the kernel before it leaves them. The block
  attention's norms (Proof/MobaRows.lean, Proof/MobaRef.lean) need none. The spatial gating's (Proof/GateRows.lean,
  Proof/GateRef.lean) reads that no entry of its columns is -∞ (Proof/GatePre.lean), where its two forms of gelu differ.
-/
module

public import proofs.«01_k».proof.Defs
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectRefIdeal.Run
public import proofs.«01_k».proof.Proof.Gen.ProjectRefIdeal.Read
public import proofs.«01_k».proof.Proof.Gen.Latent.Frame
public import proofs.«01_k».proof.Proof.Gen.LatentIdeal.Frame
public import proofs.«01_k».proof.Proof.Gen.LatentIdeal.Value
public import proofs.«01_k».proof.Proof.Gen.LatentRefIdeal.Run
public import proofs.«01_k».proof.Proof.Gen.LatentRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.RouteIdeal.Skeleton
public import proofs.«01_k».proof.Proof.Gen.Route.Frame
public import proofs.«01_k».proof.Proof.Gen.RouteIdeal.Frame
public import proofs.«01_k».proof.Proof.Gen.RouteRefIdeal.Run
public import proofs.«01_k».proof.Proof.Gen.RouteRefIdeal.Read
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Moba.Frame
public import proofs.«01_k».proof.Proof.Gen.MobaIdeal.Frame
public import proofs.«01_k».proof.Proof.Gen.MobaIdeal.Value
public import proofs.«01_k».proof.Proof.Gen.MobaRefIdeal.Run
public import proofs.«01_k».proof.Proof.Gen.MobaRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.AttnArray
public import proofs.«01_k».proof.Proof.AttnRef
public import proofs.«01_k».proof.Proof.Project
public import proofs.«01_k».proof.Proof.Latent
public import proofs.«01_k».proof.Proof.OutRows
public import proofs.«01_k».proof.Proof.RouteFrame
public import proofs.«01_k».proof.Proof.RouteRows
public import proofs.«01_k».proof.Proof.RouteRef
public import proofs.«01_k».proof.Proof.PrepRef
public import proofs.«01_k».proof.Proof.PrepPre
public import proofs.«01_k».proof.Proof.MobaRef
public import proofs.«01_k».proof.Proof.GateRef
public import proofs.«01_k».proof.Proof.GatePre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Attention

/-! ## The precondition -/

instance preFacts : Cert.Pre_finite.Facts where
  bcast_S_S16384x1024 := by decide

theorem pos_inf : (Ideal.ofBits .bf16 0x7F80#16 : EReal) = ⊤ := by
  simp [Ideal.ofBits, Ideal.ieee]

theorem and_one {a b : BitVec 1} (h : IntOp.andi a b = 1#1) : a = 1#1 ∧ b = 1#1 := by
  revert a b; decide

theorem isReal_of_word {x : EReal} (h : BitVec.ofBool (decide (max x (-x) < ⊤)) = 1#1) : IsReal x := by
  refine isReal_of_abs_lt ?_
  by_contra hx
  rw [decide_eq_false hx] at h
  exact absurd h (by decide)

/-- The precondition says the queries and the keys are real. -/
theorem finite_args (q k : Mat 16384 1024) (v : Mat 16384 512)
    (h : Cert.Pre_finite.fn (F := Ideal) q k v = fun _ => 1#1) : (∀ y, IsReal (q y)) ∧ ∀ y, IsReal (k y) := by
  have hy : ∀ y : (⟨2, ![16384, 1024]⟩ : Shape).Idx,
      IntOp.andi (BitVec.ofBool (decide (max (q y) (-(q y)) < Ideal.ofBits .bf16 0x7F80#16)))
        (BitVec.ofBool (decide (max (k y) (-(k y)) < Ideal.ofBits .bf16 0x7F80#16))) = 1#1 := fun y => congrFun h y
  rw [pos_inf] at hy
  exact ⟨fun y => isReal_of_word (and_one (hy y)).1, fun y => isReal_of_word (and_one (hy y)).2⟩

/-! ## The claims -/

theorem algebraic : Cert.algebraic_KernelIdeal_ReferenceIdeal_pre_finite := by
  intro m g m' g' hpre hm
  refine ⟨fun c => out (KernelIdeal.Attn.Q m c) (KernelIdeal.Attn.K m c) (KernelIdeal.Attn.V' m c), ?_, ?_⟩
  · refine (θ_run _ _ _).mono (fun r h c => ?_) (Cert.KernelIdeal.Value.run_blocks m g)
    obtain ⟨h0, h1, h2, h3⟩ := h c
    have hf := finite_args _ _ _ (hpre c)
    exact ⟨h0.trans (KernelIdeal.Attn.arr_eq m c hf.1 hf.2), h1, h2, h3⟩
  · refine (θ_run _ _ _).mono (fun r h c => ?_) (Cert.ReferenceIdeal.Value.run m' g')
    obtain ⟨h0, h1, h2, h3⟩ := h c
    refine ⟨h0.trans ?_, h1, h2, h3⟩
    rw [Cert.ReferenceIdeal.Read.val_main_v30_eq, (hm c).1, (hm c).2.1, (hm c).2.2]
    exact ReferenceIdeal.Attn.res_eq _ _ _

/-- The reference's run leaves its arguments and every counter as they were. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem project_reference_frame : Cert.quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run (F := Ideal) m ρ)

theorem project_algebraic : Cert.algebraic_ProjectIdeal_ProjectRefIdeal := by
  intro m g m' g' _ hm
  refine ⟨fun c => Cert.ProjectIdeal.Rows.out (m ((c.tc : Thread _ _).loc Cert.ProjectIdeal.main_arg0))
    (m ((c.tc : Thread _ _).loc Cert.ProjectIdeal.main_arg1))
    (m ((c.tc : Thread _ _).loc Cert.ProjectIdeal.main_arg2)),
    ?_, ?_⟩
  · refine (θ_run _ _ _).mono (fun r h c => ?_) (Cert.ProjectIdeal.Value.run_blocks m g)
    obtain ⟨h0, h1, h2, h3⟩ := h c
    exact ⟨h0.trans (Cert.ProjectIdeal.Rows.arr_eq m c), h1, h2, h3⟩
  · refine (θ_run _ _ _).mono (fun r h c => ?_) (Cert.ProjectRefIdeal.Value.run m' g')
    obtain ⟨h0, h1, h2, h3⟩ := h c
    refine ⟨h0.trans ?_, h1, h2, h3⟩
    rw [Cert.ProjectRefIdeal.Read.val_main_v14_eq, (hm c).1, (hm c).2.1, (hm c).2.2]
    exact Cert.ProjectRefIdeal.Rows.res_eq _ _ _

theorem latent_reference_frame : Cert.quiescent_LatentRefIdeal := fun m ρ _ =>
  (θ_run Cert.LatentRefIdeal.defs _ _).mono (fun r h => ⟨fun c => (h c).2, sem_eq_zero_of_no_sems (by decide) r.2⟩)
    (Cert.LatentRefIdeal.Value.run (F := Ideal) m ρ)

theorem latent_algebraic : Cert.algebraic_LatentIdeal_LatentRefIdeal := by
  intro m g m' g' _ hm
  refine ⟨fun c => Cert.LatentIdeal.Rows.out (m ((c.tc : Thread _ _).loc Cert.LatentIdeal.main_arg0))
    (m ((c.tc : Thread _ _).loc Cert.LatentIdeal.main_arg1))
    (m ((c.tc : Thread _ _).loc Cert.LatentIdeal.main_arg2)),
    ?_, ?_⟩
  · refine (θ_run _ _ _).mono (fun r h c => ?_) (Cert.LatentIdeal.Value.run_blocks m g)
    obtain ⟨h0, h1, h2, h3⟩ := h c
    exact ⟨h0.trans (Cert.LatentIdeal.Rows.arr_eq m c), h1, h2, h3⟩
  · refine (θ_run _ _ _).mono (fun r h c => ?_) (Cert.LatentRefIdeal.Value.run m' g')
    obtain ⟨h0, h1, h2, h3⟩ := h c
    refine ⟨h0.trans ?_, h1, h2, h3⟩
    rw [Cert.LatentRefIdeal.Read.val_main_v20_eq, (hm c).1, (hm c).2.1, (hm c).2.2]
    exact Cert.LatentRefIdeal.Rows.res_eq _ _ _

theorem out_reference_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem out_algebraic : Cert.algebraic_OutIdeal_OutRefIdeal := by
  intro m g m' g' _ hm
  refine ⟨fun c => Cert.OutIdeal.Rows.out (m ((c.tc : Thread _ _).loc Cert.OutIdeal.main_arg0))
    (m ((c.tc : Thread _ _).loc Cert.OutIdeal.main_arg1))
    (m ((c.tc : Thread _ _).loc Cert.OutIdeal.main_arg2))
    (m ((c.tc : Thread _ _).loc Cert.OutIdeal.main_arg3)),
    ?_, ?_⟩
  · refine (θ_run _ _ _).mono (fun r h c => ?_) (Cert.OutIdeal.Value.run_blocks m g)
    obtain ⟨h0, h1, h2, h3, h4⟩ := h c
    exact ⟨h0.trans (Cert.OutIdeal.Rows.arr_eq m c), h1, h2, h3, h4⟩
  · refine (θ_run _ _ _).mono (fun r h c => ?_) (Cert.OutRefIdeal.Value.run m' g')
    obtain ⟨h0, h1, h2, h3, h4⟩ := h c
    refine ⟨h0.trans ?_, h1, h2, h3, h4⟩
    rw [Cert.OutRefIdeal.Read.val_main_v5_eq, (hm c).1, (hm c).2.1, (hm c).2.2.1, (hm c).2.2.2]
    exact Cert.OutRefIdeal.Rows.res_eq _ _ _ _

theorem route_reference_frame : Cert.quiescent_RouteRefIdeal := fun m ρ _ =>
  (θ_run Cert.RouteRefIdeal.defs _ _).mono (fun r h => ⟨fun c => (h c).2.2, sem_eq_zero_of_no_sems (by decide) r.2⟩)
    (Cert.RouteRefIdeal.Value.run (F := Ideal) m ρ)

theorem route_algebraic : Cert.algebraic_RouteIdeal_RouteRefIdeal := by
  intro m g m' g' _ hm
  refine ⟨fun c => Cert.RouteIdeal.Rows.outRows (Cert.RouteIdeal.Rows.X m c) (Cert.RouteIdeal.Rows.G m c),
    fun c => Cert.RouteIdeal.Rows.outScores (Cert.RouteIdeal.Rows.X m c) (Cert.RouteIdeal.Rows.G m c) (Cert.RouteIdeal.Rows.W m c)
      (Cert.RouteIdeal.Rows.S m c), ?_, ?_⟩
  · refine (θ_run _ _ _).mono (fun r h c => ?_) (Cert.RouteIdeal.Run.run m g)
    exact ⟨(Cert.RouteIdeal.Run.named m c 4 rfl h.1).trans (Cert.RouteIdeal.Rows.rows_eq m c),
      (Cert.RouteIdeal.Run.named m c 6 rfl h.1).trans (Cert.RouteIdeal.Rows.scores_eq m c), Cert.RouteIdeal.Run.args_kept m c h.1⟩
  · refine (θ_run _ _ _).mono (fun r h c => ?_) (Cert.RouteRefIdeal.Value.run m' g')
    obtain ⟨h0, h1, hargs⟩ := h c
    refine ⟨h0.trans ?_, h1.trans ?_, hargs⟩
    · rw [Cert.RouteRefIdeal.Read.val_main_v21_eq, (hm c).1, (hm c).2.1]
      exact Cert.RouteRefIdeal.Rows.rows_eq _ _
    · rw [Cert.RouteRefIdeal.Read.val_main_v23_eq, (hm c).1, (hm c).2.1, (hm c).2.2.1, (hm c).2.2.2]
      exact Cert.RouteRefIdeal.Rows.scores_eq _ _ _ _

theorem prep_reference_frame : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

theorem prep_algebraic : Cert.algebraic_PrepIdeal_PrepRefIdeal_pre_packed := by
  intro m g m' g' hpre hm
  refine ⟨fun c => Cert.PrepIdeal.Rows.outQ (Cert.PrepIdeal.Tables.Z m c) (Cert.PrepIdeal.Tables.Pos m c) (Cert.PrepIdeal.Tables.Gq m c)
      (Cert.PrepIdeal.Tables.Wq m c) (Cert.PrepIdeal.Tables.Nq m c),
    fun c => Cert.PrepIdeal.Rows.outK (Cert.PrepIdeal.Tables.Z m c) (Cert.PrepIdeal.Tables.Pos m c) (Cert.PrepIdeal.Tables.Gkv m c)
      (Cert.PrepIdeal.Tables.Wkv m c) (Cert.PrepIdeal.Tables.Nk m c),
    fun c => Cert.PrepIdeal.Rows.outV (Cert.PrepIdeal.Tables.Z m c) (Cert.PrepIdeal.Tables.Gkv m c) (Cert.PrepIdeal.Tables.Wkv m c), ?_, ?_⟩
  · refine (θ_run _ _ _).mono (fun r h c => ?_) (Cert.PrepIdeal.Value.run_blocks m g)
    obtain ⟨h0, h1, h2, hargs⟩ := h c
    exact ⟨h0.trans (Cert.PrepIdeal.Rows.arr_q m c), h1.trans (Cert.PrepIdeal.Rows.arr_k m c (Cert.PrepIdeal.Pre.packed_rows _ _ _ _ _ _ _ _ (hpre c))),
      h2.trans (Cert.PrepIdeal.Rows.arr_v m c), hargs⟩
  · refine (θ_run _ _ _).mono (fun r h c => ?_) (Cert.PrepRefIdeal.Value.run m' g')
    obtain ⟨h0, h1, h2, hargs⟩ := h c
    obtain ⟨e0, e1, e2, e3, e4, e5, e6, e7⟩ := hm c
    refine ⟨h0.trans ?_, h1.trans ?_, h2.trans ?_, hargs⟩
    · rw [Cert.PrepRefIdeal.Read.val_main_v134_eq, e0, e1, e2, e4, e6]
      exact Cert.PrepRefIdeal.Rows.res_q _ _ _ _ _
    · rw [Cert.PrepRefIdeal.Read.val_main_v136_eq, e0, e1, e3, e5, e7]
      exact Cert.PrepRefIdeal.Rows.res_k _ _ _ _ _
    · rw [Cert.PrepRefIdeal.Read.val_main_v138_eq, e0, e3, e5]
      exact Cert.PrepRefIdeal.Rows.res_v _ _ _

theorem moba_reference_frame : Cert.quiescent_MobaRefIdeal := fun m ρ _ =>
  (θ_run Cert.MobaRefIdeal.defs _ _).mono (fun r h => ⟨fun c => (h c).2.2.2.2, sem_eq_zero_of_no_sems (by decide) r.2⟩)
    (Cert.MobaRefIdeal.Value.run (F := Ideal) m ρ)

theorem moba_algebraic : Cert.algebraic_MobaIdeal_MobaRefIdeal := by
  intro m g m' g' _ hm
  refine ⟨fun c => Cert.MobaIdeal.Rows.outQ (Cert.MobaIdeal.Rows.Z m c) (Cert.MobaIdeal.Rows.Gq m c),
    fun c => Cert.MobaIdeal.Rows.outK (Cert.MobaIdeal.Rows.Z m c) (Cert.MobaIdeal.Rows.Gk m c),
    fun c => Cert.MobaIdeal.Rows.outV (Cert.MobaIdeal.Rows.Z m c),
    fun c => Cert.MobaIdeal.Rows.outM (Cert.MobaIdeal.Rows.Z m c) (Cert.MobaIdeal.Rows.Gk m c), ?_, ?_⟩
  · refine (θ_run _ _ _).mono (fun r h c => ?_) (Cert.MobaIdeal.Value.run_blocks m g)
    obtain ⟨h0, h1, h2, h3, hargs⟩ := h c
    exact ⟨h0.trans (Cert.MobaIdeal.Rows.arr_q m c), h1.trans (Cert.MobaIdeal.Rows.arr_k m c), h2.trans (Cert.MobaIdeal.Rows.arr_v m c),
      h3.trans (Cert.MobaIdeal.Rows.arr_m m c), hargs⟩
  · refine (θ_run _ _ _).mono (fun r h c => ?_) (Cert.MobaRefIdeal.Value.run m' g')
    obtain ⟨h0, h1, h2, h3, hargs⟩ := h c
    obtain ⟨e0, e1, e2⟩ := hm c
    refine ⟨h0.trans ?_, h1.trans ?_, h2.trans ?_, h3.trans ?_, hargs⟩
    · rw [Cert.MobaRefIdeal.Read.val_main_v53_eq, e0, e1]
      exact Cert.MobaRefIdeal.Rows.res_q _ _
    · rw [Cert.MobaRefIdeal.Read.val_main_v55_eq, e0, e2]
      exact Cert.MobaRefIdeal.Rows.res_k _ _
    · rw [Cert.MobaRefIdeal.Read.val_main_v56_eq, e0]
      exact Cert.MobaRefIdeal.Rows.res_v _
    · rw [Cert.MobaRefIdeal.Read.val_main_v57_eq, e0, e2]
      exact Cert.MobaRefIdeal.Rows.res_m _ _

theorem gate_reference_frame : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem gate_algebraic : Cert.algebraic_GateIdeal_GateRefIdeal_pre_above := by
  intro m g m' g' hpre hm
  refine ⟨fun c => Cert.GateIdeal.Rows.outG (Cert.GateIdeal.Rows.Z m c) (Cert.GateIdeal.Rows.G m c) (Cert.GateIdeal.Rows.W m c) (Cert.GateIdeal.Rows.B m c), ?_, ?_⟩
  · refine (θ_run _ _ _).mono (fun r h c => ?_) (Cert.GateIdeal.Value.run_blocks m g)
    obtain ⟨_, h1, hargs⟩ := h c
    exact ⟨h1.trans (Cert.GateIdeal.Rows.arr_g m c), hargs⟩
  · refine (θ_run _ _ _).mono (fun r h c => ?_) (Cert.GateRefIdeal.Value.run m' g')
    obtain ⟨h0, hargs⟩ := h c
    obtain ⟨e0, _, _, e3, e4, e5⟩ := hm c
    refine ⟨h0.trans ?_, hargs⟩
    rw [Cert.GateRefIdeal.Read.val_main_v59_eq, e0, e3, e4, e5]
    exact Cert.GateRefIdeal.Rows.res _ _ _ _ (Cert.GateIdeal.Pre.above_rows _ _ _ _ _ _ (hpre c))

theorem claim : Cert.Claim :=
  ⟨Cert.Kernel.Gen.facts, Cert.KernelIdeal.Gen.facts, Cert.ReferenceIdeal.Gen.facts,
    Cert.Project.Gen.facts, Cert.ProjectIdeal.Gen.facts, Cert.ProjectRefIdeal.Gen.facts, Cert.Latent.Gen.facts, Cert.LatentIdeal.Gen.facts, Cert.LatentRefIdeal.Gen.facts, Cert.Out.Gen.facts, Cert.OutIdeal.Gen.facts, Cert.OutRefIdeal.Gen.facts, Cert.Route.Gen.facts, Cert.RouteIdeal.Gen.facts, Cert.RouteRefIdeal.Gen.facts,
    Cert.Prep.Gen.facts, Cert.PrepIdeal.Gen.facts, Cert.PrepRefIdeal.Gen.facts, Cert.Moba.Gen.facts, Cert.MobaIdeal.Gen.facts, Cert.MobaRefIdeal.Gen.facts,
    Cert.Gate.Gen.facts, Cert.GateIdeal.Gen.facts, Cert.GateRefIdeal.Gen.facts, preFacts, Cert.PrepIdeal.Pre.facts, Cert.GateIdeal.Pre.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Project.Gen.frame m ρ,
    fun m ρ _ => Cert.ProjectIdeal.Gen.frame m ρ,
    project_reference_frame,
    fun m ρ _ => Cert.Latent.Gen.frame m ρ,
    fun m ρ _ => Cert.LatentIdeal.Gen.frame m ρ,
    latent_reference_frame,
    fun m ρ _ => Cert.Out.Gen.frame m ρ,
    fun m ρ _ => Cert.OutIdeal.Gen.frame m ρ,
    out_reference_frame,
    Cert.Route.Run.frame,
    fun m ρ _ => Cert.RouteIdeal.Run.frame m ρ,
    route_reference_frame,
    fun m ρ _ => Cert.Prep.Gen.frame m ρ,
    fun m ρ _ => Cert.PrepIdeal.Gen.frame m ρ,
    fun m ρ _ => Cert.PrepIdeal.Gen.frame m ρ,
    prep_reference_frame,
    fun m ρ _ => prep_reference_frame m ρ trivial,
    fun m ρ _ => Cert.Moba.Gen.frame m ρ,
    fun m ρ _ => Cert.MobaIdeal.Gen.frame m ρ,
    moba_reference_frame,
    fun m ρ _ => Cert.Gate.Gen.frame m ρ,
    fun m ρ _ => Cert.GateIdeal.Gen.frame m ρ,
    fun m ρ _ => Cert.GateIdeal.Gen.frame m ρ,
    gate_reference_frame,
    fun m ρ _ => gate_reference_frame m ρ trivial,
    IdealRules.named_const.statement Cert.KernelIdeal.κ "mask" .f32 0xF149F2CA#32 ⊥ rfl,
    algebraic,
    trivial, project_algebraic,
    trivial, latent_algebraic,
    trivial, out_algebraic,
    trivial, route_algebraic,
    IdealRules.named_const.statement Cert.PrepIdeal.κ "inv_qk" .f32 0x3BAAAAAB#32 ((1 / 192 : ℝ) : EReal) rfl, prep_algebraic,
    trivial, moba_algebraic,
    IdealRules.named_const.statement Cert.GateIdeal.κ "cubic" .f32 0x3D122279#32 ((80338380498831 / 2251799813685248 : ℝ) : EReal) rfl, gate_algebraic⟩

end Cert.Proof

end
